-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v150_0)) (v1 : (c : Dev Cert.KernelIdeal.nD) → Buf (Elt Ideal) ((c.tc : Thread Cert.KernelIdeal.nD Cert.KernelIdeal.τ).loc Cert.KernelIdeal.main_v150_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150_0) = v0 c
          ∧ r.2.mem ((c.tc : Thread Cert.KernelIdeal.nD Cert.KernelIdeal.τ).loc Cert.KernelIdeal.main_v150_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_v177) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_v8) = v1 c
          ∧ r.2.mem ((c.tc : Thread Cert.Reference4Ideal.nD Cert.Reference4Ideal.τ).loc Cert.Reference4Ideal.main_v11) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v45) = v0 c
          ∧ r.2.mem ((c.tc : Thread Cert.Reference6Ideal.nD Cert.Reference6Ideal.τ).loc Cert.Reference6Ideal.main_v28) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v38) = v0 c
          ∧ r.2.mem ((c.tc : Thread Cert.Reference7Ideal.nD Cert.Reference7Ideal.τ).loc Cert.Reference7Ideal.main_v21) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_v20) = v1 c
          ∧ r.2.mem ((c.tc : Thread Cert.Reference12Ideal.nD Cert.Reference12Ideal.τ).loc Cert.Reference12Ideal.main_v28) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_v18) = v1 c
          ∧ r.2.mem ((c.tc : Thread Cert.Reference13Ideal.nD Cert.Reference13Ideal.τ).loc Cert.Reference13Ideal.main_v26) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v55) = v0 c
          ∧ r.2.mem ((c.tc : Thread Cert.Reference14Ideal.nD Cert.Reference14Ideal.τ).loc Cert.Reference14Ideal.main_v54) = v1 c
          ∧ r.2.mem ((c.tc : Thread Cert.Reference14Ideal.nD Cert.Reference14Ideal.τ).loc Cert.Reference14Ideal.main_v38) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S8192x512 : Shape := ⟨2, ![8192, 512]⟩
abbrev S1x8192x8 : Shape := ⟨3, ![1, 8192, 8]⟩
abbrev S32x8 : Shape := ⟨2, ![32, 8]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  bcast_S_S1x8192x8 : S_.BroadcastsInDim S1x8192x8 (![] : Fin 0 → Fin S1x8192x8.rank)
  bcast_S_S32x8 : S_.BroadcastsInDim S32x8 (![] : Fin 0 → Fin S32x8.rank)

variable [Facts]

def fn_part1 {F : FTy → Type} [FloatOps F] (main_arg5 : FVec F S32x8 .f32) (main_v3 : IVec S8192x512 1) (main_v7 : IVec S8192x512 1) (main_v11 : IVec S8192x512 1) (main_v15 : IVec S8192x512 1) (main_v18 : IVec S1x8192x8 1) : IVec S8192x512 1 × IVec S8192x512 1 × IVec S8192x512 1 × IVec S8192x512 1 × IVec S1x8192x8 1 × IVec S32x8 1 :=
  let main_v19 : FVec F S32x8 .f32 := Host.absf main_arg5
  let main_cst_4 : FVec F S_ .f32 := constant S_ .f32 0x7F800000#32
  let main_v20 : FVec F S32x8 .f32 := broadcastInDim S32x8 ![] bcast_S_S32x8 main_cst_4
  let main_v21 : IVec S32x8 1 := cmpf .olt main_v19 main_v20
  (main_v3, main_v7, main_v11, main_v15, main_v18, main_v21)

def fn {F : FTy → Type} [FloatOps F] (main_arg0 : FVec F S8192x512 .bf16) (main_arg1 : FVec F S8192x512 .bf16) (main_arg2 : FVec F S8192x512 .bf16) (main_arg3 : FVec F S8192x512 .bf16) (main_arg4 : FVec F S1x8192x8 .f32) (main_arg5 : FVec F S32x8 .f32) : IVec S8192x512 1 × IVec S8192x512 1 × IVec S8192x512 1 × IVec S8192x512 1 × IVec S1x8192x8 1 × IVec S32x8 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S8192x512 .f32 := (extf .f32 · bitsLt_bf16_f32) main_arg1
  let main_v5 : FVec F S8192x512 .f32 := Host.absf main_v4
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  let main_v8 : FVec F S8192x512 .f32 := (extf .f32 · bitsLt_bf16_f32) main_arg2
  let main_v9 : FVec F S8192x512 .f32 := Host.absf main_v8
  let main_cst_1 : FVec F S_ .f32 := constant S_ .f32 0x7F800000#32
  let main_v10 : FVec F S8192x512 .f32 := broadcastInDim S8192x512 ![] bcast_S_S8192x512 main_cst_1
  let main_v11 : IVec S8192x512 1 := cmpf .olt main_v9 main_v10
  let main_v12 : FVec F S8192x512 .f32 := (extf .f32 · bitsLt_bf16_f32) main_arg3
  let main_v13 : FVec F S8192x512 .f32 := Host.absf main_v12
  let main_cst_2 : FVec F S_ .f32 := constant S_ .f32 0x7F800000#32
  let main_v14 : FVec F S8192x512 .f32 := broadcastInDim S8192x512 ![] bcast_S_S8192x512 main_cst_2
  let main_v15 : IVec S8192x512 1 := cmpf .olt main_v13 main_v14
  let main_v16 : FVec F S1x8192x8 .f32 := Host.absf main_arg4
  let main_cst_3 : FVec F S_ .f32 := constant S_ .f32 0x7F800000#32
  let main_v17 : FVec F S1x8192x8 .f32 := broadcastInDim S1x8192x8 ![] bcast_S_S1x8192x8 main_cst_3
  let main_v18 : IVec S1x8192x8 1 := cmpf .olt main_v16 main_v17
  fn_part1 (F := F) main_arg5 main_v3 main_v7 main_v11 main_v15 main_v18
-- ==== Pre_finite2.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S2816x1024 : S_.BroadcastsInDim S2816x1024 (![] : Fin 0 → Fin S2816x1024.rank)
  bcast_S_S8192x2816 : S_.BroadcastsInDim S8192x2816 (![] : Fin 0 → Fin S8192x2816.rank)

variable [Facts]

def fn {F : FTy → Type} [FloatOps F] (main_arg0 : FVec F S8192x1024 .f32) (main_arg1 : FVec F S2816x1024 .bf16) (main_arg2 : FVec F S8192x2816 .bf16) (main_arg3 : FVec F S8192x2816 .bf16) : IVec S8192x1024 1 × IVec S2816x1024 1 × IVec S8192x2816 1 × IVec S8192x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S2816x1024 .f32 := (extf .f32 · bitsLt_bf16_f32) main_arg1
  let main_v4 : FVec F S2816x1024 .f32 := Host.absf main_v3
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S8192x2816 .f32 := (extf .f32 · bitsLt_bf16_f32) main_arg2
  let main_v8 : FVec F S8192x2816 .f32 := Host.absf main_v7
  let main_cst_1 : FVec F S_ .f32 := constant S_ .f32 0x7F800000#32
  let main_v9 : FVec F S8192x2816 .f32 := broadcastInDim S8192x2816 ![] bcast_S_S8192x2816 main_cst_1
  let main_v10 : IVec S8192x2816 1 := cmpf .olt main_v8 main_v9
  let main_v11 : FVec F S8192x2816 .f32 := (extf .f32 · bitsLt_bf16_f32) main_arg3
  let main_v12 : FVec F S8192x2816 .f32 := Host.absf main_v11
  let main_cst_2 : FVec F S_ .f32 := constant S_ .f32 0x7F800000#32
  let main_v13 : FVec F S8192x2816 .f32 := broadcastInDim S8192x2816 ![] bcast_S_S8192x2816 main_cst_2
  let main_v14 : IVec S8192x2816 1 := cmpf .olt main_v12 main_v13
  (main_v2, main_v6, main_v10, main_v14)
-- ==== Kernel.lean ====
abbrev S8192x512 : Shape := ⟨2, ![8192, 512]⟩
abbrev S1x8192x8 : Shape := ⟨3, ![1, 8192, 8]⟩
abbrev S32x8 : Shape := ⟨2, ![32, 8]⟩
abbrev S64x192 : Shape := ⟨2, ![64, 192]⟩
abbrev S32768x1 : Shape := ⟨2, ![32768, 1]⟩
abbrev S1x8192x8x64 : Shape := ⟨4, ![1, 8192, 8, 64]⟩
abbrev S1x2048x4x8x64 : Shape := ⟨5, ![1, 2048, 4, 8, 64]⟩
abbrev S1x4x8x2048x64 : Shape := ⟨5, ![1, 4, 8, 2048, 64]⟩
abbrev S_ : Shape := ⟨0, ![]⟩
abbrev S1x4x8x32x64x64 : Shape := ⟨6, ![1, 4, 8, 32, 64, 64]⟩
abbrev S1x4x8x1x64x64 : Shape := ⟨6, ![1, 4, 8, 1, 64, 64]⟩
abbrev S1x4x8x34x64x64 : Shape := ⟨6, ![1, 4, 8, 34, 64, 64]⟩
abbrev S1x4x8x32x192x64 : Shape := ⟨6, ![1, 4, 8, 32, 192, 64]⟩
abbrev S64 : Shape := ⟨1, ![64]⟩
abbrev S64x1 : Shape := ⟨2, ![64, 1]⟩
abbrev S192 : Shape := ⟨1, ![192]⟩
abbrev S1x192 : Shape := ⟨2, ![1, 192]⟩
abbrev S32 : Shape := ⟨1, ![32]⟩
abbrev S32x1x1 : Shape := ⟨3, ![32, 1, 1]⟩
abbrev S1x1x192 : Shape := ⟨3, ![1, 1, 192]⟩
abbrev S32x1x192 : Shape := ⟨3, ![32, 1, 192]⟩
abbrev S1x64x192 : Shape := ⟨3, ![1, 64, 192]⟩
abbrev S32x64x192 : Shape := ⟨3, ![32, 64, 192]⟩
abbrev S64x192x1 : Shape := ⟨3, ![64, 192, 1]⟩
abbrev S64x192x8 : Shape := ⟨3, ![64, 192, 8]⟩
abbrev S8x64x192 : Shape := ⟨3, ![8, 64, 192]⟩
abbrev S8x1x64x192 : Shape := ⟨4, ![8, 1, 64, 192]⟩
abbrev S1x4x8x32x64x192 : Shape := ⟨6, ![1, 4, 8, 32, 64, 192]⟩
abbrev S1x1x8x1x64x192 : Shape := ⟨6, ![1, 1, 8, 1, 64, 192]⟩
abbrev S1x4x8x32x64 : Shape := ⟨5, ![1, 4, 8, 32, 64]⟩
abbrev S1x4x8x32x64x1 : Shape := ⟨6, ![1, 4, 8, 32, 64, 1]⟩
abbrev S1x4x8x2048 : Shape := ⟨4, ![1, 4, 8, 2048]⟩
abbrev S1x2048x4x8 : Shape := ⟨4, ![1, 2048, 4, 8]⟩
abbrev S1x8192x8x1 : Shape := ⟨4, ![1, 8192, 8, 1]⟩
abbrev S128 : Shape := ⟨1, ![128]⟩
abbrev S256 : Shape := ⟨1, ![256]⟩
abbrev S1x128 : Shape := ⟨2, ![1, 128]⟩
abbrev S256x1 : Shape := ⟨2, ![256, 1]⟩
abbrev S256x128 : Shape := ⟨2, ![256, 128]⟩
abbrev S1x256x128 : Shape := ⟨3, ![1, 256, 128]⟩
abbrev S4x256x128 : Shape := ⟨3, ![4, 256, 128]⟩
abbrev S1x32 : Shape := ⟨2, ![1, 32]⟩
abbrev S32768x32 : Shape := ⟨2, ![32768, 32]⟩
abbrev S32768x8 : Shape := ⟨2, ![32768, 8]⟩
abbrev S8x32768 : Shape := ⟨2, ![8, 32768]⟩
abbrev S8x256x128 : Shape := ⟨3, ![8, 256, 128]⟩
abbrev S4x1x256x128 : Shape := ⟨4, ![4, 1, 256, 128]⟩
abbrev S1x8x256x128 : Shape := ⟨4, ![1, 8, 256, 128]⟩
abbrev S4x8x256x128 : Shape := ⟨4, ![4, 8, 256, 128]⟩
abbrev S2048x2048 : Shape := ⟨2, ![2048, 2048]⟩
abbrev S1024x512 : Shape := ⟨2, ![1024, 512]⟩
abbrev S64x512 : Shape := ⟨2, ![64, 512]⟩
abbrev S1152x512 : Shape := ⟨2, ![1152, 512]⟩
abbrev S256x512 : Shape := ⟨2, ![256, 512]⟩
abbrev S4x512x128 : Shape := ⟨3, ![4, 512, 128]⟩
abbrev S128x512 : Shape := ⟨2, ![128, 512]⟩
abbrev S128x128 : Shape := ⟨2, ![128, 128]⟩
abbrev S1x128x128 : Shape := ⟨3, ![1, 128, 128]⟩
abbrev S4x128x128 : Shape := ⟨3, ![4, 128, 128]⟩
abbrev S512x1 : Shape := ⟨2, ![512, 1]⟩
abbrev S1x512x1 : Shape := ⟨3, ![1, 512, 1]⟩
abbrev S4x512x1 : Shape := ⟨3, ![4, 512, 1]⟩

abbrev nBuf : Space → Nat
  | .hbm => 192
  | .vmem => 42
  | .smem => 0
  | _ => 0

abbrev hbmTy0_0 (i : Nat) : BufTy := match i % 128 with
  | 0 => ⟨S8192x512, .bf16⟩
  | 1 => ⟨S8192x512, .bf16⟩
  | 2 => ⟨S8192x512, .bf16⟩
  | 3 => ⟨S8192x512, .bf16⟩
  | 4 => ⟨S1x8192x8, .f32⟩
  | 5 => ⟨S32x8, .f32⟩
  | 6 => ⟨S64x192, .i32⟩
  | 7 => ⟨S64x192, .i1⟩
  | 8 => ⟨S32768x1, .i32⟩
  | 9 => ⟨S8192x512, .f32⟩
  | 10 => ⟨S1x8192x8x64, .f32⟩
  | 11 => ⟨S8192x512, .f32⟩
  | 12 => ⟨S1x8192x8x64, .f32⟩
  | 13 => ⟨S8192x512, .f32⟩
  | 14 => ⟨S1x8192x8x64, .f32⟩
  | 15 => ⟨S1x2048x4x8x64, .f32⟩
  | 16 => ⟨S1x4x8x2048x64, .f32⟩
  | 17 => ⟨S_, .i32⟩
  | 18 => ⟨S_, .f32⟩
  | 19 => ⟨S1x4x8x2048x64, .f32⟩
  | 20 => ⟨S1x4x8x32x64x64, .f32⟩
  | 21 => ⟨S1x2048x4x8x64, .f32⟩
  | 22 => ⟨S1x4x8x2048x64, .f32⟩
  | 23 => ⟨S_, .i32⟩
  | 24 => ⟨S_, .f32⟩
  | 25 => ⟨S1x4x8x2048x64, .f32⟩
  | 26 => ⟨S1x4x8x32x64x64, .f32⟩
  | 27 => ⟨S_, .f32⟩
  | 28 => ⟨S1x4x8x1x64x64, .f32⟩
  | 29 => ⟨S1x4x8x34x64x64, .f32⟩
  | 30 => ⟨S1x4x8x32x64x64, .f32⟩
  | 31 => ⟨S1x4x8x32x64x64, .f32⟩
  | 32 => ⟨S1x4x8x32x64x64, .f32⟩
  | 33 => ⟨S1x4x8x32x192x64, .f32⟩
  | 34 => ⟨S1x2048x4x8x64, .f32⟩
  | 35 => ⟨S1x4x8x2048x64, .f32⟩
  | 36 => ⟨S_, .i32⟩
  | 37 => ⟨S_, .f32⟩
  | 38 => ⟨S1x4x8x2048x64, .f32⟩
  | 39 => ⟨S1x4x8x32x64x64, .f32⟩
  | 40 => ⟨S_, .f32⟩
  | 41 => ⟨S1x4x8x1x64x64, .f32⟩
  | 42 => ⟨S1x4x8x34x64x64, .f32⟩
  | 43 => ⟨S1x4x8x32x64x64, .f32⟩
  | 44 => ⟨S1x4x8x32x64x64, .f32⟩
  | 45 => ⟨S1x4x8x32x64x64, .f32⟩
  | 46 => ⟨S1x4x8x32x192x64, .f32⟩
  | 47 => ⟨S64, .i32⟩
  | 48 => ⟨S64x1, .i32⟩
  | 49 => ⟨S192, .i32⟩
  | 50 => ⟨S1x192, .i32⟩
  | 51 => ⟨S_, .i32⟩
  | 52 => ⟨S1x192, .i32⟩
  | 53 => ⟨S1x192, .i32⟩
  | 54 => ⟨S64x192, .i32⟩
  | 55 => ⟨S64x192, .i32⟩
  | 56 => ⟨S64x192, .i32⟩
  | 57 => ⟨S32, .i32⟩
  | 58 => ⟨S32x1x1, .i32⟩
  | 59 => ⟨S_, .i32⟩
  | 60 => ⟨S32x1x1, .i32⟩
  | 61 => ⟨S32x1x1, .i32⟩
  | 62 => ⟨S_, .i32⟩
  | 63 => ⟨S32x1x1, .i32⟩
  | 64 => ⟨S32x1x1, .i32⟩
  | 65 => ⟨S1x1x192, .i32⟩
  | 66 => ⟨S32x1x192, .i32⟩
  | 67 => ⟨S32x1x192, .i32⟩
  | 68 => ⟨S32x1x192, .i32⟩
  | 69 => ⟨S64x192, .i32⟩
  | 70 => ⟨S1x64x192, .i32⟩
  | 71 => ⟨S_, .i32⟩
  | 72 => ⟨S1x64x192, .i32⟩
  | 73 => ⟨S1x64x192, .i1⟩
  | 74 => ⟨S_, .i32⟩
  | 75 => ⟨S32x1x192, .i32⟩
  | 76 => ⟨S32x1x192, .i1⟩
  | 77 => ⟨S32x64x192, .i1⟩
  | 78 => ⟨S32x64x192, .i1⟩
  | 79 => ⟨S32x64x192, .i1⟩
  | 80 => ⟨S_, .i32⟩
  | 81 => ⟨S32x1x192, .i32⟩
  | 82 => ⟨S32x1x192, .i1⟩
  | 83 => ⟨S32x64x192, .i1⟩
  | 84 => ⟨S32x64x192, .i1⟩
  | 85 => ⟨S_, .i32⟩
  | 86 => ⟨S64x192, .i32⟩
  | 87 => ⟨S64x192, .i32⟩
  | 88 => ⟨S64x192, .i32⟩
  | 89 => ⟨S64x192x1, .i32⟩
  | 90 => ⟨S64x192x8, .f32⟩
  | 91 => ⟨S8x64x192, .f32⟩
  | 92 => ⟨S8x1x64x192, .f32⟩
  | 93 => ⟨S1x4x8x32x64x192, .f32⟩
  | 94 => ⟨S1x1x8x1x64x192, .f32⟩
  | 95 => ⟨S1x4x8x32x64x192, .f32⟩
  | 96 => ⟨S1x4x8x32x64x192, .f32⟩
  | 97 => ⟨S_, .f32⟩
  | 98 => ⟨S_, .f32⟩
  | 99 => ⟨S1x4x8x32x64x192, .i1⟩
  | 100 => ⟨S1x4x8x32x64x192, .f32⟩
  | 101 => ⟨S1x4x8x32x64x192, .f32⟩
  | 102 => ⟨S_, .f32⟩
  | 103 => ⟨S1x4x8x32x64, .f32⟩
  | 104 => ⟨S1x4x8x32x64x1, .f32⟩
  | 105 => ⟨S1x4x8x32x64x192, .f32⟩
  | 106 => ⟨S1x4x8x32x64x192, .f32⟩
  | 107 => ⟨S1x4x8x32x64x192, .f32⟩
  | 108 => ⟨S_, .f32⟩
  | 109 => ⟨S1x4x8x32x64, .f32⟩
  | 110 => ⟨S1x4x8x32x64x1, .f32⟩
  | 111 => ⟨S1x4x8x32x64x64, .f32⟩
  | 112 => ⟨S1x4x8x32x64x64, .f32⟩
  | 113 => ⟨S1x4x8x32x64x64, .f32⟩
  | 114 => ⟨S1x4x8x32x64x1, .f32⟩
  | 115 => ⟨S1x4x8x32x64x1, .f32⟩
  | 116 => ⟨S1x4x8x32x64, .f32⟩
  | 117 => ⟨S1x4x8x2048x64, .f32⟩
  | 118 => ⟨S1x2048x4x8x64, .f32⟩
  | 119 => ⟨S1x8192x8x64, .f32⟩
  | 120 => ⟨S1x4x8x2048, .f32⟩
  | 121 => ⟨S1x2048x4x8, .f32⟩
  | 122 => ⟨S1x8192x8, .f32⟩
  | 123 => ⟨S8192x512, .f32⟩
  | 124 => ⟨S1x8192x8x64, .f32⟩
  | 125 => ⟨S1x8192x8x64, .f32⟩
  | 126 => ⟨S_, .f32⟩
  | 127 => ⟨S1x8192x8, .f32⟩
  | _ => ⟨S8192x512, .bf16⟩

abbrev hbmTy0_1 (i : Nat) : BufTy := match i % 128 with
  | 0 => ⟨S1x8192x8, .f32⟩
  | 1 => ⟨S1x8192x8x1, .f32⟩
  | 2 => ⟨S1x8192x8x64, .f32⟩
  | 3 => ⟨S8192x512, .f32⟩
  | 4 => ⟨S1x8192x8x1, .f32⟩
  | 5 => ⟨S1x8192x8x64, .f32⟩
  | 6 => ⟨S8192x512, .f32⟩
  | 7 => ⟨S128, .i32⟩
  | 8 => ⟨S256, .i32⟩
  | 9 => ⟨S_, .i32⟩
  | 10 => ⟨S256, .i32⟩
  | 11 => ⟨S256, .i32⟩
  | 12 => ⟨S1x128, .i32⟩
  | 13 => ⟨S256x1, .i32⟩
  | 14 => ⟨S256x128, .i32⟩
  | 15 => ⟨S256x128, .i32⟩
  | 16 => ⟨S256x128, .i32⟩
  | 17 => ⟨S256, .i32⟩
  | 18 => ⟨S256x1, .i32⟩
  | 19 => ⟨S256x128, .i32⟩
  | 20 => ⟨S256x128, .i32⟩
  | 21 => ⟨S_, .i32⟩
  | 22 => ⟨S256x128, .i32⟩
  | 23 => ⟨S256x128, .i1⟩
  | 24 => ⟨S_, .i32⟩
  | 25 => ⟨S256x128, .i32⟩
  | 26 => ⟨S256x128, .i1⟩
  | 27 => ⟨S_, .i32⟩
  | 28 => ⟨S256x128, .i32⟩
  | 29 => ⟨S256x128, .i1⟩
  | 30 => ⟨S256x128, .i1⟩
  | 31 => ⟨S256x128, .i1⟩
  | 32 => ⟨S256x128, .i1⟩
  | 33 => ⟨S256x128, .i1⟩
  | 34 => ⟨S1x256x128, .i1⟩
  | 35 => ⟨S1x256x128, .i1⟩
  | 36 => ⟨S1x256x128, .i1⟩
  | 37 => ⟨S1x256x128, .i1⟩
  | 38 => ⟨S4x256x128, .i1⟩
  | 39 => ⟨S32, .i32⟩
  | 40 => ⟨S1x32, .i32⟩
  | 41 => ⟨S32768x32, .i32⟩
  | 42 => ⟨S32768x32, .i32⟩
  | 43 => ⟨S32768x32, .i1⟩
  | 44 => ⟨S32768x32, .f32⟩
  | 45 => ⟨S32768x8, .f32⟩
  | 46 => ⟨S8x32768, .f32⟩
  | 47 => ⟨S8x256x128, .f32⟩
  | 48 => ⟨S4x1x256x128, .i1⟩
  | 49 => ⟨S1x8x256x128, .f32⟩
  | 50 => ⟨S_, .f32⟩
  | 51 => ⟨S_, .f32⟩
  | 52 => ⟨S4x8x256x128, .i1⟩
  | 53 => ⟨S4x8x256x128, .f32⟩
  | 54 => ⟨S4x8x256x128, .f32⟩
  | 55 => ⟨S4x8x256x128, .f32⟩
  | 56 => ⟨S2048x2048, .bf16⟩
  | 57 => ⟨S2048x2048, .bf16⟩
  | 58 => ⟨S2048x2048, .bf16⟩
  | 59 => ⟨S2048x2048, .bf16⟩
  | 60 => ⟨S2048x2048, .f32⟩
  | 61 => ⟨S2048x2048, .f32⟩
  | 62 => ⟨S2048x2048, .bf16⟩
  | 63 => ⟨S2048x2048, .bf16⟩
  | _ => ⟨S8192x512, .bf16⟩

abbrev hbmTy (i : Nat) : BufTy := match i / 128 with
  | 0 => hbmTy0_0 i
  | 1 => hbmTy0_1 i
  | _ => ⟨S8192x512, .bf16⟩

abbrev bufTy : (tb : Table) → Fin (tcTables nBuf tb) → BufTy
  | .hbm, ⟨i, _⟩ => hbmTy i
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S64x512, .bf16⟩
  | .local _ .vmem, ⟨5, _⟩ => ⟨S64x512, .bf16⟩
  | .local _ .vmem, ⟨6, _⟩ => ⟨S1024x512, .bf16⟩
  | .local _ .vmem, ⟨7, _⟩ => ⟨S1024x512, .bf16⟩
  | .local _ .vmem, ⟨8, _⟩ => ⟨S64x512, .bf16⟩
  | .local _ .vmem, ⟨9, _⟩ => ⟨S64x512, .bf16⟩
  | .local _ .vmem, ⟨10, _⟩ => ⟨S64x512, .bf16⟩
  | .local _ .vmem, ⟨11, _⟩ => ⟨S64x512, .bf16⟩
  | .local _ .vmem, ⟨12, _⟩ => ⟨S1024x512, .bf16⟩
  | .local _ .vmem, ⟨13, _⟩ => ⟨S1024x512, .bf16⟩
  | .local _ .vmem, ⟨14, _⟩ => ⟨S64x512, .bf16⟩
  | .local _ .vmem, ⟨15, _⟩ => ⟨S64x512, .bf16⟩
  | .local _ .vmem, ⟨16, _⟩ => ⟨S64x512, .f32⟩
  | .local _ .vmem, ⟨17, _⟩ => ⟨S64x512, .f32⟩
  | .local _ .vmem, ⟨18, _⟩ => ⟨S1024x512, .f32⟩
  | .local _ .vmem, ⟨19, _⟩ => ⟨S1024x512, .f32⟩
  | .local _ .vmem, ⟨20, _⟩ => ⟨S64x512, .f32⟩
  | .local _ .vmem, ⟨21, _⟩ => ⟨S64x512, .f32⟩
  | .local _ .vmem, ⟨22, _⟩ => ⟨S64x512, .f32⟩
  | .local _ .vmem, ⟨23, _⟩ => ⟨S64x512, .f32⟩
  | .local _ .vmem, ⟨24, _⟩ => ⟨S1024x512, .f32⟩
  | .local _ .vmem, ⟨25, _⟩ => ⟨S1024x512, .f32⟩
  | .local _ .vmem, ⟨26, _⟩ => ⟨S64x512, .f32⟩
  | .local _ .vmem, ⟨27, _⟩ => ⟨S64x512, .f32⟩
  | .local _ .vmem, ⟨28, _⟩ => ⟨S1x8x256x128, .f32⟩
  | .local _ .vmem, ⟨29, _⟩ => ⟨S1x8x256x128, .f32⟩
  | .local _ .vmem, ⟨30, _⟩ => ⟨S1x8x256x128, .f32⟩
  | .local _ .vmem, ⟨31, _⟩ => ⟨S1x8x256x128, .f32⟩
  | .local _ .vmem, ⟨32, _⟩ => ⟨S1x8x256x128, .f32⟩
  | .local _ .vmem, ⟨33, _⟩ => ⟨S1x8x256x128, .f32⟩
  | .local _ .vmem, ⟨34, _⟩ => ⟨S1x8x256x128, .f32⟩
  | .local _ .vmem, ⟨35, _⟩ => ⟨S1x8x256x128, .f32⟩
  | .local _ .vmem, ⟨36, _⟩ => ⟨S1x8x256x128, .f32⟩
  | .local _ .vmem, ⟨37, _⟩ => ⟨S1x8x256x128, .f32⟩
  | .local _ .vmem, ⟨38, _⟩ => ⟨S1024x512, .bf16⟩
  | .local _ .vmem, ⟨39, _⟩ => ⟨S1024x512, .bf16⟩
  | .local _ .vmem, ⟨40, _⟩ => ⟨S1024x512, .bf16⟩
  | .local _ .vmem, ⟨41, _⟩ => ⟨S1024x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_call1_v0 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_call2_v0 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_7 : Ref sig .tc := ⟨.hbm, 59, rfl⟩
abbrev main_v41 : Ref sig .tc := ⟨.hbm, 60, rfl⟩
abbrev main_v42 : Ref sig .tc := ⟨.hbm, 61, rfl⟩
abbrev main_c_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_13 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_v73 : Ref sig .tc := ⟨.hbm, 101, rfl⟩
abbrev main_cst_14 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_16 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_c_17 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_c_18 : Ref sig .tc := ⟨.hbm, 149, rfl⟩
abbrev main_v117 : Ref sig .tc := ⟨.hbm, 150, rfl⟩
abbrev main_v118 : Ref sig .tc := ⟨.hbm, 151, rfl⟩
abbrev main_c_19 : Ref sig .tc := ⟨.hbm, 152, rfl⟩
abbrev main_v119 : Ref sig .tc := ⟨.hbm, 153, rfl⟩
abbrev main_v120 : Ref sig .tc := ⟨.hbm, 154, rfl⟩
abbrev main_c_20 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_cst_21 : Ref sig .tc := ⟨.hbm, 178, rfl⟩
abbrev main_call4_v0 : Ref sig .tc := ⟨.hbm, 179, rfl⟩
abbrev main_call4_v1 : Ref sig .tc := ⟨.hbm, 180, rfl⟩
abbrev main_call4_v2 : Ref sig .tc := ⟨.hbm, 181, rfl⟩
abbrev main_call4_v3 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150_0 : Ref sig .tc := ⟨.hbm, 190, rfl⟩
abbrev main_v150_1 : Ref sig .tc := ⟨.hbm, 191, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg18_0 : Ref sig .tc := ⟨.vmem, 33, rfl⟩
abbrev cc0_stg19_0 : Ref sig .tc := ⟨.vmem, 34, rfl⟩
abbrev cc0_stg20_0 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem17_0 : DmaSem sig := 32
abbrev cc0_sem18_0 : DmaSem sig := 33
abbrev cc0_sem19_0 : DmaSem sig := 34
abbrev cc0_sem20_0 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c31_i32 : BitVec 32 := 31#32
  let v2 : BitVec 32 := Scalar.minsi v1 c31_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c31_i32 : BitVec 32 := 31#32
  let v2 : BitVec 32 := Scalar.minsi v1 c31_i32
  let c0_i32 : BitVec 32 := 0#32
  ![v2.toNat, arg0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c31_i32 : BitVec 32 := 31#32
  let v2 : BitVec 32 := Scalar.minsi v1 c31_i32
  let c0_i32 : BitVec 32 := 0#32
  ![v2.toNat, arg0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c31_i32 : BitVec 32 := 31#32
  let v2 : BitVec 32 := Scalar.minsi v1 c31_i32
  let c0_i32 : BitVec 32 := 0#32
  ![v2.toNat, arg0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c0_i32_0 : BitVec 32 := 0#32
  let c1_i32 : BitVec 32 := 1#32
  let v1 : BitVec 32 := Scalar.select v0 c0_i32_0 c1_i32
  let c0_i32_1 : BitVec 32 := 0#32
  let c0_i32_2 : BitVec 32 := 0#32
  let c0_i32_3 : BitVec 32 := 0#32
  let c0_i32_4 : BitVec 32 := 0#32
  ![v1.toNat, c0_i32_1.toNat, c0_i32_2.toNat, c0_i32_3.toNat]

def cc0_transform_15 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_16 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_17 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_18 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_19 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_20 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_21 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg1 c1_i32
  let c2_i32 : BitVec 32 := 2#32
  let c1_i32_0 : BitVec 32 := 1#32
  let v1 : BitVec 32 := Scalar.select v0 c2_i32 c1_i32_0
  let c0_i32 : BitVec 32 := 0#32
  let c0_i32_1 : BitVec 32 := 0#32
  let c0_i32_2 : BitVec 32 := 0#32
  let c0_i32_3 : BitVec 32 := 0#32
  ![v1.toNat, c0_i32.toNat, c0_i32_1.toNat, c0_i32_2.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 1 → Memref sig .tc .vmem S1x8x256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x8x256x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x8x256x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x8x256x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x8x256x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x8x256x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S1x8x256x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![false, true]

abbrev stage0_22 : Fin 2 → Memref sig .tc .vmem S1024x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1024x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== ReferenceIdeal.lean ====
abbrev S8192x512 : Shape := ⟨2, ![8192, 512]⟩
abbrev S1x8192x8 : Shape := ⟨3, ![1, 8192, 8]⟩
abbrev S32x8 : Shape := ⟨2, ![32, 8]⟩
abbrev S64x192 : Shape := ⟨2, ![64, 192]⟩
abbrev S1x8192x8x64 : Shape := ⟨4, ![1, 8192, 8, 64]⟩
abbrev S1x2048x4x8x64 : Shape := ⟨5, ![1, 2048, 4, 8, 64]⟩
abbrev S1x4x8x2048x64 : Shape := ⟨5, ![1, 4, 8, 2048, 64]⟩
abbrev S_ : Shape := ⟨0, ![]⟩
abbrev S1x4x8x32x64x64 : Shape := ⟨6, ![1, 4, 8, 32, 64, 64]⟩
abbrev S1x4x8x1x64x64 : Shape := ⟨6, ![1, 4, 8, 1, 64, 64]⟩
abbrev S1x4x8x34x64x64 : Shape := ⟨6, ![1, 4, 8, 34, 64, 64]⟩
abbrev S1x4x8x32x192x64 : Shape := ⟨6, ![1, 4, 8, 32, 192, 64]⟩
abbrev S64 : Shape := ⟨1, ![64]⟩
abbrev S64x1 : Shape := ⟨2, ![64, 1]⟩
abbrev S192 : Shape := ⟨1, ![192]⟩
abbrev S1x192 : Shape := ⟨2, ![1, 192]⟩
abbrev S32 : Shape := ⟨1, ![32]⟩
abbrev S32x1x1 : Shape := ⟨3, ![32, 1, 1]⟩
abbrev S1x1x192 : Shape := ⟨3, ![1, 1, 192]⟩
abbrev S32x1x192 : Shape := ⟨3, ![32, 1, 192]⟩
abbrev S1x64x192 : Shape := ⟨3, ![1, 64, 192]⟩
abbrev S32x64x192 : Shape := ⟨3, ![32, 64, 192]⟩
abbrev S64x192x1 : Shape := ⟨3, ![64, 192, 1]⟩
abbrev S64x192x8 : Shape := ⟨3, ![64, 192, 8]⟩
abbrev S8x64x192 : Shape := ⟨3, ![8, 64, 192]⟩
abbrev S8x1x64x192 : Shape := ⟨4, ![8, 1, 64, 192]⟩
abbrev S1x4x8x32x64x192 : Shape := ⟨6, ![1, 4, 8, 32, 64, 192]⟩
abbrev S1x1x8x1x64x192 : Shape := ⟨6, ![1, 1, 8, 1, 64, 192]⟩
abbrev S1x4x8x32x64 : Shape := ⟨5, ![1, 4, 8, 32, 64]⟩
abbrev S1x4x8x32x64x1 : Shape := ⟨6, ![1, 4, 8, 32, 64, 1]⟩
abbrev S1x4x8x2048 : Shape := ⟨4, ![1, 4, 8, 2048]⟩
abbrev S1x2048x4x8 : Shape := ⟨4, ![1, 2048, 4, 8]⟩
abbrev S4x8x32x64 : Shape := ⟨4, ![4, 8, 32, 64]⟩
abbrev S2048x2048 : Shape := ⟨2, ![2048, 2048]⟩

abbrev nBuf : Space → Nat
  | .hbm => 233
  | .vmem => 0
  | .smem => 0
  | _ => 0

abbrev hbmTy0_0 (i : Nat) : BufTy := match i % 128 with
  | 0 => ⟨S8192x512, .bf16⟩
  | 1 => ⟨S8192x512, .bf16⟩
  | 2 => ⟨S8192x512, .bf16⟩
  | 3 => ⟨S8192x512, .bf16⟩
  | 4 => ⟨S1x8192x8, .f32⟩
  | 5 => ⟨S32x8, .f32⟩
  | 6 => ⟨S64x192, .i32⟩
  | 7 => ⟨S64x192, .i1⟩
  | 8 => ⟨S8192x512, .f32⟩
  | 9 => ⟨S1x8192x8x64, .f32⟩
  | 10 => ⟨S8192x512, .f32⟩
  | 11 => ⟨S1x8192x8x64, .f32⟩
  | 12 => ⟨S8192x512, .f32⟩
  | 13 => ⟨S1x8192x8x64, .f32⟩
  | 14 => ⟨S1x2048x4x8x64, .f32⟩
  | 15 => ⟨S1x4x8x2048x64, .f32⟩
  | 16 => ⟨S_, .i32⟩
  | 17 => ⟨S_, .f32⟩
  | 18 => ⟨S1x4x8x2048x64, .f32⟩
  | 19 => ⟨S1x4x8x32x64x64, .f32⟩
  | 20 => ⟨S1x2048x4x8x64, .f32⟩
  | 21 => ⟨S1x4x8x2048x64, .f32⟩
  | 22 => ⟨S_, .i32⟩
  | 23 => ⟨S_, .f32⟩
  | 24 => ⟨S1x4x8x2048x64, .f32⟩
  | 25 => ⟨S_, .f32⟩
  | 26 => ⟨S1x4x8x32x64x64, .f32⟩
  | 27 => ⟨S_, .f32⟩
  | 28 => ⟨S1x4x8x1x64x64, .f32⟩
  | 29 => ⟨S1x4x8x34x64x64, .f32⟩
  | 30 => ⟨S_, .f32⟩
  | 31 => ⟨S1x4x8x1x64x64, .f32⟩
  | 32 => ⟨S_, .f32⟩
  | 33 => ⟨S1x4x8x1x64x64, .f32⟩
  | 34 => ⟨S1x4x8x32x64x64, .f32⟩
  | 35 => ⟨S1x4x8x32x64x64, .f32⟩
  | 36 => ⟨S1x4x8x32x64x64, .f32⟩
  | 37 => ⟨S1x4x8x32x192x64, .f32⟩
  | 38 => ⟨S1x2048x4x8x64, .f32⟩
  | 39 => ⟨S64, .i32⟩
  | 40 => ⟨S64x1, .i32⟩
  | 41 => ⟨S192, .i32⟩
  | 42 => ⟨S1x192, .i32⟩
  | 43 => ⟨S_, .i32⟩
  | 44 => ⟨S1x192, .i32⟩
  | 45 => ⟨S1x192, .i32⟩
  | 46 => ⟨S64x192, .i32⟩
  | 47 => ⟨S64x192, .i32⟩
  | 48 => ⟨S64x192, .i32⟩
  | 49 => ⟨S32, .i32⟩
  | 50 => ⟨S32x1x1, .i32⟩
  | 51 => ⟨S_, .i32⟩
  | 52 => ⟨S32x1x1, .i32⟩
  | 53 => ⟨S32x1x1, .i32⟩
  | 54 => ⟨S_, .i32⟩
  | 55 => ⟨S32x1x1, .i32⟩
  | 56 => ⟨S32x1x1, .i32⟩
  | 57 => ⟨S1x1x192, .i32⟩
  | 58 => ⟨S32x1x192, .i32⟩
  | 59 => ⟨S32x1x192, .i32⟩
  | 60 => ⟨S32x1x192, .i32⟩
  | 61 => ⟨S64x192, .i32⟩
  | 62 => ⟨S1x64x192, .i32⟩
  | 63 => ⟨S_, .i32⟩
  | 64 => ⟨S1x64x192, .i32⟩
  | 65 => ⟨S1x64x192, .i1⟩
  | 66 => ⟨S_, .i32⟩
  | 67 => ⟨S32x1x192, .i32⟩
  | 68 => ⟨S32x1x192, .i1⟩
  | 69 => ⟨S32x64x192, .i1⟩
  | 70 => ⟨S32x64x192, .i1⟩
  | 71 => ⟨S32x64x192, .i1⟩
  | 72 => ⟨S_, .i32⟩
  | 73 => ⟨S32x1x192, .i32⟩
  | 74 => ⟨S32x1x192, .i1⟩
  | 75 => ⟨S32x64x192, .i1⟩
  | 76 => ⟨S32x64x192, .i1⟩
  | 77 => ⟨S_, .i32⟩
  | 78 => ⟨S64x192, .i32⟩
  | 79 => ⟨S64x192, .i32⟩
  | 80 => ⟨S64x192, .i32⟩
  | 81 => ⟨S64x192x1, .i32⟩
  | 82 => ⟨S64x192x8, .f32⟩
  | 83 => ⟨S8x64x192, .f32⟩
  | 84 => ⟨S8x1x64x192, .f32⟩
  | 85 => ⟨S1x4x8x32x64x192, .f32⟩
  | 86 => ⟨S1x1x8x1x64x192, .f32⟩
  | 87 => ⟨S1x4x8x32x64x192, .f32⟩
  | 88 => ⟨S1x4x8x32x64x192, .f32⟩
  | 89 => ⟨S_, .f32⟩
  | 90 => ⟨S_, .f32⟩
  | 91 => ⟨S1x4x8x32x64x192, .i1⟩
  | 92 => ⟨S1x4x8x32x64x192, .f32⟩
  | 93 => ⟨S1x4x8x32x64x192, .f32⟩
  | 94 => ⟨S_, .f32⟩
  | 95 => ⟨S1x4x8x32x64x192, .f32⟩
  | 96 => ⟨S_, .f32⟩
  | 97 => ⟨S1x4x8x32x64, .f32⟩
  | 98 => ⟨S1x4x8x32x64x1, .f32⟩
  | 99 => ⟨S1x4x8x32x64x192, .f32⟩
  | 100 => ⟨S1x4x8x32x64x192, .i1⟩
  | 101 => ⟨S1x4x8x32x64x192, .f32⟩
  | 102 => ⟨S_, .f32⟩
  | 103 => ⟨S1x4x8x32x64, .f32⟩
  | 104 => ⟨S1x4x8x32x64x1, .f32⟩
  | 105 => ⟨S1x4x8x32x64x192, .f32⟩
  | 106 => ⟨S1x4x8x32x64x192, .f32⟩
  | 107 => ⟨S1x4x8x32x64x192, .f32⟩
  | 108 => ⟨S_, .f32⟩
  | 109 => ⟨S1x4x8x32x64, .f32⟩
  | 110 => ⟨S1x4x8x32x64x1, .f32⟩
  | 111 => ⟨S1x4x8x2048x64, .f32⟩
  | 112 => ⟨S_, .i32⟩
  | 113 => ⟨S_, .f32⟩
  | 114 => ⟨S1x4x8x2048x64, .f32⟩
  | 115 => ⟨S_, .f32⟩
  | 116 => ⟨S1x4x8x32x64x64, .f32⟩
  | 117 => ⟨S_, .f32⟩
  | 118 => ⟨S1x4x8x1x64x64, .f32⟩
  | 119 => ⟨S1x4x8x34x64x64, .f32⟩
  | 120 => ⟨S_, .f32⟩
  | 121 => ⟨S1x4x8x1x64x64, .f32⟩
  | 122 => ⟨S_, .f32⟩
  | 123 => ⟨S1x4x8x1x64x64, .f32⟩
  | 124 => ⟨S1x4x8x32x64x64, .f32⟩
  | 125 => ⟨S1x4x8x32x64x64, .f32⟩
  | 126 => ⟨S1x4x8x32x64x64, .f32⟩
  | 127 => ⟨S1x4x8x32x192x64, .f32⟩
  | _ => ⟨S8192x512, .bf16⟩

abbrev hbmTy0_1 (i : Nat) : BufTy := match i % 128 with
  | 0 => ⟨S1x4x8x32x64x64, .f32⟩
  | 1 => ⟨S1x4x8x32x64x64, .f32⟩
  | 2 => ⟨S1x4x8x32x64x64, .f32⟩
  | 3 => ⟨S1x4x8x32x64x1, .f32⟩
  | 4 => ⟨S_, .f32⟩
  | 5 => ⟨S1x4x8x32x64x1, .f32⟩
  | 6 => ⟨S1x4x8x32x64x1, .f32⟩
  | 7 => ⟨S1x4x8x32x64x1, .f32⟩
  | 8 => ⟨S1x4x8x32x64x1, .f32⟩
  | 9 => ⟨S1x4x8x32x64, .f32⟩
  | 10 => ⟨S1x4x8x2048x64, .f32⟩
  | 11 => ⟨S1x2048x4x8x64, .f32⟩
  | 12 => ⟨S1x8192x8x64, .f32⟩
  | 13 => ⟨S1x4x8x2048, .f32⟩
  | 14 => ⟨S1x2048x4x8, .f32⟩
  | 15 => ⟨S1x8192x8, .f32⟩
  | 16 => ⟨S8192x512, .f32⟩
  | 17 => ⟨S1x8192x8x64, .f32⟩
  | 18 => ⟨S1x2048x4x8, .f32⟩
  | 19 => ⟨S1x4x8x2048, .f32⟩
  | 20 => ⟨S1x4x8x32x64, .f32⟩
  | 21 => ⟨S1x2048x4x8x64, .f32⟩
  | 22 => ⟨S1x4x8x2048x64, .f32⟩
  | 23 => ⟨S1x4x8x32x64x64, .f32⟩
  | 24 => ⟨S1x4x8x32x64x1, .f32⟩
  | 25 => ⟨S1x4x8x32x64x1, .f32⟩
  | 26 => ⟨S1x4x8x32x64x64, .f32⟩
  | 27 => ⟨S1x4x8x32x64x64, .f32⟩
  | 28 => ⟨S1x4x8x32x64x64, .f32⟩
  | 29 => ⟨S_, .f32⟩
  | 30 => ⟨S1x4x8x32x64, .f32⟩
  | 31 => ⟨S1x4x8x32x64x1, .f32⟩
  | 32 => ⟨S1x4x8x32x64x1, .f32⟩
  | 33 => ⟨S1x4x8x32x64x1, .f32⟩
  | 34 => ⟨S1x4x8x32x64x64, .f32⟩
  | 35 => ⟨S1x4x8x32x64x64, .f32⟩
  | 36 => ⟨S1x4x8x32x64x192, .f32⟩
  | 37 => ⟨S1x4x8x32x192x64, .f32⟩
  | 38 => ⟨S1x4x8x32x64x192, .f32⟩
  | 39 => ⟨S1x4x8x32x64x64, .f32⟩
  | 40 => ⟨S1x4x8x32x64x64, .f32⟩
  | 41 => ⟨S1x4x8x32x64x64, .f32⟩
  | 42 => ⟨S_, .f32⟩
  | 43 => ⟨S1x4x8x34x64x64, .f32⟩
  | 44 => ⟨S_, .f32⟩
  | 45 => ⟨S1x4x8x34x64x64, .f32⟩
  | 46 => ⟨S1x4x8x34x64x64, .f32⟩
  | 47 => ⟨S_, .f32⟩
  | 48 => ⟨S1x4x8x34x64x64, .f32⟩
  | 49 => ⟨S1x4x8x34x64x64, .f32⟩
  | 50 => ⟨S1x4x8x1x64x64, .f32⟩
  | 51 => ⟨S1x4x8x32x64x64, .f32⟩
  | 52 => ⟨S1x4x8x1x64x64, .f32⟩
  | 53 => ⟨S1x4x8x2048x64, .f32⟩
  | 54 => ⟨S_, .f32⟩
  | 55 => ⟨S1x4x8x2048x64, .f32⟩
  | 56 => ⟨S1x4x8x2048x64, .f32⟩
  | 57 => ⟨S1x2048x4x8x64, .f32⟩
  | 58 => ⟨S_, .f32⟩
  | 59 => ⟨S4x8x32x64, .f32⟩
  | 60 => ⟨S1x4x8x32x64, .f32⟩
  | 61 => ⟨S1x4x8x32x64x192, .f32⟩
  | 62 => ⟨S1x4x8x32x64x192, .f32⟩
  | 63 => ⟨S1x4x8x32x64x192, .f32⟩
  | 64 => ⟨S1x4x8x32x64x192, .f32⟩
  | 65 => ⟨S_, .f32⟩
  | 66 => ⟨S1x4x8x32x64, .f32⟩
  | 67 => ⟨S1x4x8x32x64x1, .f32⟩
  | 68 => ⟨S1x4x8x32x64x1, .f32⟩
  | 69 => ⟨S_, .f32⟩
  | 70 => ⟨S4x8x32x64, .f32⟩
  | 71 => ⟨S1x4x8x32x64, .f32⟩
  | 72 => ⟨S1x4x8x32x64, .f32⟩
  | 73 => ⟨S1x4x8x32x64x192, .f32⟩
  | 74 => ⟨S1x4x8x32x64x192, .f32⟩
  | 75 => ⟨S1x4x8x32x64x192, .f32⟩
  | 76 => ⟨S_, .f32⟩
  | 77 => ⟨S1x4x8x32x64x192, .f32⟩
  | 78 => ⟨S1x4x8x32x64x192, .f32⟩
  | 79 => ⟨S1x4x8x32x192x64, .f32⟩
  | 80 => ⟨S1x8192x8x64, .f32⟩
  | 81 => ⟨S1x4x8x32x64x64, .f32⟩
  | 82 => ⟨S1x4x8x32x64x64, .f32⟩
  | 83 => ⟨S1x4x8x32x64x64, .f32⟩
  | 84 => ⟨S_, .f32⟩
  | 85 => ⟨S1x4x8x34x64x64, .f32⟩
  | 86 => ⟨S_, .f32⟩
  | 87 => ⟨S1x4x8x34x64x64, .f32⟩
  | 88 => ⟨S1x4x8x34x64x64, .f32⟩
  | 89 => ⟨S_, .f32⟩
  | 90 => ⟨S1x4x8x34x64x64, .f32⟩
  | 91 => ⟨S1x4x8x34x64x64, .f32⟩
  | 92 => ⟨S1x4x8x1x64x64, .f32⟩
  | 93 => ⟨S1x4x8x32x64x64, .f32⟩
  | 94 => ⟨S1x4x8x1x64x64, .f32⟩
  | 95 => ⟨S1x4x8x2048x64, .f32⟩
  | 96 => ⟨S_, .f32⟩
  | 97 => ⟨S1x4x8x2048x64, .f32⟩
  | 98 => ⟨S1x4x8x2048x64, .f32⟩
  | 99 => ⟨S1x2048x4x8x64, .f32⟩
  | 100 => ⟨S1x8192x8x64, .f32⟩
  | 101 => ⟨S1x8192x8x64, .bf16⟩
  | 102 => ⟨S2048x2048, .bf16⟩
  | 103 => ⟨S1x8192x8x64, .bf16⟩
  | 104 => ⟨S2048x2048, .bf16⟩
  | _ => ⟨S8192x512, .bf16⟩

abbrev hbmTy (i : Nat) : BufTy := match i / 128 with
  | 0 => hbmTy0_0 i
  | 1 => hbmTy0_1 i
  | _ => ⟨S8192x512, .bf16⟩

abbrev bufTy : (tb : Table) → Fin (tcTables nBuf tb) → BufTy
  | .hbm, ⟨i, _⟩ => hbmTy i
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_call1_v0 : Ref sig .tc := ⟨.hbm, 23, rfl⟩
abbrev main_v12_0 : Ref sig .tc := ⟨.hbm, 24, rfl⟩
abbrev main_v12_1 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_8 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_call2_v0 : Ref sig .tc := ⟨.hbm, 90, rfl⟩
abbrev main_v66_1 : Ref sig .tc := ⟨.hbm, 91, rfl⟩
abbrev main_call2_v2 : Ref sig .tc := ⟨.hbm, 92, rfl⟩
abbrev main_v66_0 : Ref sig .tc := ⟨.hbm, 93, rfl⟩
abbrev main_call2_cst : Ref sig .tc := ⟨.hbm, 94, rfl⟩
abbrev main_v66_2 : Ref sig .tc := ⟨.hbm, 95, rfl⟩
abbrev main_cst_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_14 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_15 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_16 : Ref sig .tc := ⟨.hbm, 112, rfl⟩
abbrev main_call3_v0 : Ref sig .tc := ⟨.hbm, 113, rfl⟩
abbrev main_v80_0 : Ref sig .tc := ⟨.hbm, 114, rfl⟩
abbrev main_v80_1 : Ref sig .tc := ⟨.hbm, 115, rfl⟩
abbrev main_v81 : Ref sig .tc := ⟨.hbm, 116, rfl⟩
abbrev main_cst_17 : Ref sig .tc := ⟨.hbm, 117, rfl⟩
abbrev main_v82 : Ref sig .tc := ⟨.hbm, 118, rfl⟩
abbrev main_v83 : Ref sig .tc := ⟨.hbm, 119, rfl⟩
abbrev main_cst_18 : Ref sig .tc := ⟨.hbm, 120, rfl⟩
abbrev main_v84 : Ref sig .tc := ⟨.hbm, 121, rfl⟩
abbrev main_cst_19 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_20 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_21 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_cst_22 : Ref sig .tc := ⟨.hbm, 170, rfl⟩
abbrev main_v130 : Ref sig .tc := ⟨.hbm, 171, rfl⟩
abbrev main_cst_23 : Ref sig .tc := ⟨.hbm, 172, rfl⟩
abbrev main_v131 : Ref sig .tc := ⟨.hbm, 173, rfl⟩
abbrev main_v132 : Ref sig .tc := ⟨.hbm, 174, rfl⟩
abbrev main_cst_24 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_call4_cst : Ref sig .tc := ⟨.hbm, 182, rfl⟩
abbrev main_call4_v0 : Ref sig .tc := ⟨.hbm, 183, rfl⟩
abbrev main_v139 : Ref sig .tc := ⟨.hbm, 184, rfl⟩
abbrev main_v140 : Ref sig .tc := ⟨.hbm, 185, rfl⟩
abbrev main_cst_25 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_cst_26 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_cst_27 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_call5_cst : Ref sig .tc := ⟨.hbm, 204, rfl⟩
abbrev main_call5_v0 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_cst_28 : Ref sig .tc := ⟨.hbm, 212, rfl⟩
abbrev main_v162 : Ref sig .tc := ⟨.hbm, 213, rfl⟩
abbrev main_cst_29 : Ref sig .tc := ⟨.hbm, 214, rfl⟩
abbrev main_v163 : Ref sig .tc := ⟨.hbm, 215, rfl⟩
abbrev main_v164 : Ref sig .tc := ⟨.hbm, 216, rfl⟩
abbrev main_cst_30 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_call6_cst : Ref sig .tc := ⟨.hbm, 224, rfl⟩
abbrev main_call6_v0 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩

abbrev nD : Nat := 1
abbrev τ : Topo := Topo.v7x

variable {F : FTy → Type} [FloatOps F]
-- ==== Kernel2.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S2816x1024, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .bf16⟩
  | .hbm, ⟨36, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== Kernel3.lean ====
abbrev S8192x1024 : Shape := ⟨2, ![8192, 1024]⟩
abbrev S8192x2816 : Shape := ⟨2, ![8192, 2816]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x1024, .f32⟩
  | .hbm, ⟨4, _⟩ => ⟨S2816x1024, .f32⟩
  | .hbm, ⟨5, _⟩ => ⟨S1024x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S8192x2816, .f32⟩
  | .hbm, ⟨10, _⟩ => ⟨S8192x2816, .bf16⟩
  | .hbm, ⟨11, _⟩ => ⟨S8192x2816, .bf16⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel6.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S512x2816 : Shape := ⟨2, ![512, 2816]⟩
abbrev S512x1024 : Shape := ⟨2, ![512, 1024]⟩
abbrev S512x1 : Shape := ⟨2, ![512, 1]⟩
abbrev S8x128 : Shape := ⟨2, ![8, 128]⟩
abbrev S1024 : Shape := ⟨1, ![1024]⟩
abbrev S512 : Shape := ⟨1, ![512]⟩

abbrev nBuf : Space → Nat
  | .hbm => 20
  | .vmem => 17
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .bf16⟩
  | .hbm, ⟨3, _⟩ => ⟨S2816x1024, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1, .f32⟩
  | .local _ .vmem, ⟨9, _⟩ => ⟨S512x1, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S8x128, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_10 : BitVec 32 := 0#32
  let v12 : BitVec 1 := Scalar.cmpi .eq arg2 c0_i32_10
  let v13 : BitVec 32 := Scalar.extui v12
  let c0_i32_11 : BitVec 32 := 0#32
  let v14 : BitVec 1 := Scalar.cmpi .ne v13 c0_i32_11
  v14

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]
-- ==== Reference6Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .bf16⟩
  | .hbm, ⟨3, _⟩ => ⟨S2816x1024, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S2816x1024, .f32⟩
  | .hbm, ⟨27, _⟩ => ⟨S1024x2816, .f32⟩
  | .hbm, ⟨28, _⟩ => ⟨S8192x2816, .f32⟩
  | .hbm, ⟨29, _⟩ => ⟨S2816x1024, .f32⟩
  | .hbm, ⟨30, _⟩ => ⟨S1024x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel7.lean ====
abbrev S8192x3840 : Shape := ⟨2, ![8192, 3840]⟩
abbrev S1024x3840 : Shape := ⟨2, ![1024, 3840]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S512x3840 : Shape := ⟨2, ![512, 3840]⟩
abbrev S512x1024 : Shape := ⟨2, ![512, 1024]⟩
abbrev S512x1 : Shape := ⟨2, ![512, 1]⟩
abbrev S8x128 : Shape := ⟨2, ![8, 128]⟩
abbrev S1024 : Shape := ⟨1, ![1024]⟩
abbrev S512 : Shape := ⟨1, ![512]⟩

abbrev nBuf : Space → Nat
  | .hbm => 18
  | .vmem => 14
  | .smem => 0
  | _ => 0

abbrev bufTy : (tb : Table) → Fin (tcTables nBuf tb) → BufTy
  | .hbm, ⟨0, _⟩ => ⟨S8192x3840, .bf16⟩
  | .hbm, ⟨1, _⟩ => ⟨S1024x3840, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S1x1024, .f32⟩
  | .local _ .vmem, ⟨0, _⟩ => ⟨S512x3840, .bf16⟩
  | .local _ .vmem, ⟨1, _⟩ => ⟨S512x3840, .bf16⟩
  | .local _ .vmem, ⟨2, _⟩ => ⟨S1024x3840, .bf16⟩
  | .local _ .vmem, ⟨3, _⟩ => ⟨S512x1024, .f32⟩
  | .local _ .vmem, ⟨4, _⟩ => ⟨S512x1024, .f32⟩
  | .local _ .vmem, ⟨5, _⟩ => ⟨S512x1, .f32⟩
  | .local _ .vmem, ⟨6, _⟩ => ⟨S512x1, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S8x128, .f32⟩
  | _, _ => ⟨S8192x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_5 : BitVec 32 := 0#32
  let v8 : BitVec 1 := Scalar.cmpi .eq arg2 c0_i32_5
  let v9 : BitVec 32 := Scalar.extui v8
  let c0_i32_6 : BitVec 32 := 0#32
  let v10 : BitVec 1 := Scalar.cmpi .ne v9 c0_i32_6
  v10

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3840 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Reference7Ideal.lean ====
abbrev S8192x3840 : Shape := ⟨2, ![8192, 3840]⟩
abbrev S1024x3840 : Shape := ⟨2, ![1024, 3840]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x3840, .bf16⟩
  | .hbm, ⟨1, _⟩ => ⟨S1024x3840, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x3840, .f32⟩
  | .hbm, ⟨25, _⟩ => ⟨S8192x3840, .f32⟩
  | .hbm, ⟨26, _⟩ => ⟨S8192x3840, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel8.lean ====
abbrev S8192x1024 : Shape := ⟨2, ![8192, 1024]⟩
abbrev S8192x3840 : Shape := ⟨2, ![8192, 3840]⟩
abbrev S1024x3840 : Shape := ⟨2, ![1024, 3840]⟩
abbrev S2048x1024 : Shape := ⟨2, ![2048, 1024]⟩
abbrev S2048x1280 : Shape := ⟨2, ![2048, 1280]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3840, .bf16⟩
  | .hbm, ⟨2, _⟩ => ⟨S1024x3840, .f32⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S8192x3840 : Shape := ⟨2, ![8192, 3840]⟩
abbrev S_ : Shape := ⟨0, ![]⟩
abbrev S1024x3840 : Shape := ⟨2, ![1024, 3840]⟩
abbrev S3840x1024 : Shape := ⟨2, ![3840, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3840, .bf16⟩
  | .hbm, ⟨2, _⟩ => ⟨S_, .f32⟩
  | .hbm, ⟨3, _⟩ => ⟨S1024x3840, .f32⟩
  | .hbm, ⟨4, _⟩ => ⟨S8192x1024, .f32⟩
  | .hbm, ⟨5, _⟩ => ⟨S8192x3840, .f32⟩
  | .hbm, ⟨6, _⟩ => ⟨S8192x3840, .f32⟩
  | .hbm, ⟨7, _⟩ => ⟨S3840x1024, .f32⟩
  | .hbm, ⟨8, _⟩ => ⟨S1024x3840, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x1024 : Shape := ⟨2, ![8192, 1024]⟩
abbrev S1024x3840 : Shape := ⟨2, ![1024, 3840]⟩
abbrev S8192x3840 : Shape := ⟨2, ![8192, 3840]⟩
abbrev S256x1024 : Shape := ⟨2, ![256, 1024]⟩
abbrev S256x3840 : Shape := ⟨2, ![256, 3840]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3840, .bf16⟩
  | .hbm, ⟨2, _⟩ => ⟨S8192x3840, .f32⟩
  | .local _ .vmem, ⟨0, _⟩ => ⟨S256x1024, .bf16⟩
  | .local _ .vmem, ⟨1, _⟩ => ⟨S256x1024, .bf16⟩
  | .local _ .vmem, ⟨2, _⟩ => ⟨S1024x3840, .bf16⟩
  | .local _ .vmem, ⟨3, _⟩ => ⟨S256x3840, .f32⟩
  | .local _ .vmem, ⟨4, _⟩ => ⟨S256x3840, .f32⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3840 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x3840 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x3840 : Shape := ⟨2, ![1024, 3840]⟩
abbrev S8192x3840 : Shape := ⟨2, ![8192, 3840]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3840, .bf16⟩
  | .hbm, ⟨2, _⟩ => ⟨S8192x1024, .f32⟩
  | .hbm, ⟨3, _⟩ => ⟨S1024x3840, .f32⟩
  | .hbm, ⟨4, _⟩ => ⟨S8192x3840, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S8192x1024 : Shape := ⟨2, ![8192, 1024]⟩
abbrev S512x1024 : Shape := ⟨2, ![512, 1024]⟩
abbrev S8192x512 : Shape := ⟨2, ![8192, 512]⟩
abbrev S512x512 : Shape := ⟨2, ![512, 512]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S512x1024, .bf16⟩
  | .hbm, ⟨2, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | .local _ .vmem, ⟨5, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S512x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .f32⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S1024x512, .f32⟩
  | .hbm, ⟨7, _⟩ => ⟨S512x1024, .f32⟩
  | .hbm, ⟨8, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x512 : Shape := ⟨2, ![8192, 512]⟩
abbrev S512x1024 : Shape := ⟨2, ![512, 1024]⟩
abbrev S8192x1024 : Shape := ⟨2, ![8192, 1024]⟩
abbrev S1x1024 : Shape := ⟨2, ![1, 1024]⟩
abbrev S8192x1 : Shape := ⟨2, ![8192, 1]⟩
abbrev S512x512 : Shape := ⟨2, ![512, 512]⟩
abbrev S512x1 : Shape := ⟨2, ![512, 1]⟩
abbrev S8x128 : Shape := ⟨2, ![8, 128]⟩
abbrev S512 : Shape := ⟨1, ![512]⟩

abbrev nBuf : Space → Nat
  | .hbm => 9
  | .vmem => 16
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S512x1024, .bf16⟩
  | .hbm, ⟨3, _⟩ => ⟨S512x1024, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S8192x1, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x512, .bf16⟩
  | .local _ .vmem, ⟨4, _⟩ => ⟨S512x512, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1, .f32⟩
  | .local _ .vmem, ⟨14, _⟩ => ⟨S512x1, .f32⟩
  | .local _ .vmem, ⟨15, _⟩ => ⟨S8x128, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_8 : BitVec 32 := 0#32
  let v9 : BitVec 1 := Scalar.cmpi .ne v8 c0_i32_8
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Reference12Ideal.lean ====
abbrev S8192x512 : Shape := ⟨2, ![8192, 512]⟩
abbrev S512x1024 : Shape := ⟨2, ![512, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 41
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S512x1024, .bf16⟩
  | .hbm, ⟨3, _⟩ => ⟨S512x1024, .bf16⟩
  | .hbm, ⟨4, _⟩ => ⟨S8192x1024, .f32⟩
  | .hbm, ⟨5, _⟩ => ⟨S1x1024, .f32⟩
  | .hbm, ⟨6, _⟩ => ⟨S8192x512, .f32⟩
  | .hbm, ⟨7, _⟩ => ⟨S512x1024, .f32⟩
  | .hbm, ⟨8, _⟩ => ⟨S8192x1024, .f32⟩
  | .hbm, ⟨9, _⟩ => ⟨S8192x512, .f32⟩
  | .hbm, ⟨10, _⟩ => ⟨S512x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel13.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S8192x1 : Shape := ⟨2, ![8192, 1]⟩
abbrev S512x2816 : Shape := ⟨2, ![512, 2816]⟩
abbrev S512x1024 : Shape := ⟨2, ![512, 1024]⟩
abbrev S512x1 : Shape := ⟨2, ![512, 1]⟩
abbrev S8x128 : Shape := ⟨2, ![8, 128]⟩
abbrev S512 : Shape := ⟨1, ![512]⟩

abbrev nBuf : Space → Nat
  | .hbm => 7
  | .vmem => 13
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .hbm, ⟨6, _⟩ => ⟨S8192x1, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1, .f32⟩
  | .local _ .vmem, ⟨11, _⟩ => ⟨S512x1, .f32⟩
  | .local _ .vmem, ⟨12, _⟩ => ⟨S8x128, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== Reference13Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel14.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x128, .f32⟩
  | .hbm, ⟨6, _⟩ => ⟨S8192x1024, .f32⟩
  | .hbm, ⟨7, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x128, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S8x128, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (i : grid0.Coords) : BitVec 1 :=
  let arg2 : BitVec 32 := BitVec.ofNat 32 (i 2).val
  let c0_i32_5 : BitVec 32 := 0#32
  let v8 : BitVec 1 := Scalar.cmpi .eq arg2 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Reference14Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S1x128, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_cst_9 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_cst_11 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Proof.Frames.lean ====
/- The three frames: the kernel's two are generated; the reference's is its run read at the arguments. -/
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

namespace Cert.Proof

open Idealize.ShloMosaic Idealize.SL.Sem

/-- The frame of the kernel as printed. -/
theorem frame_kernel : Cert.quiescent_Kernel (hKernel := Cert.Kernel.Gen.facts) :=
  fun m ρ _ => Cert.Kernel.Gen.frame m ρ

/-- The frame of the idealized kernel. -/
theorem frame_kernelIdeal : Cert.quiescent_KernelIdeal (hKernelIdeal := Cert.KernelIdeal.Gen.facts) :=
  fun m ρ _ => Cert.KernelIdeal.Gen.frame m ρ

/-- The frame of the reference: it writes no argument and declares no semaphore. -/
theorem frame_referenceIdeal :
    Cert.quiescent_ReferenceIdeal (hReferenceIdeal := Cert.ReferenceIdeal.Gen.facts) := by
  intro m ρ _
  exact (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

end Cert.Proof

end
-- ==== Proof.Tile.lean ====
/- ONE TILE OF THE KERNEL: 128 keys against the window of 256 queries they meet, the eight heads in
   four pairs of 128 lanes. The kernel's body is eight copies of this function, at eight offsets. -/
module

public import proofs.«01_k».proof.Proof.Gen.KernelIdeal
public import Idealize.ShloMosaic.Lib.Pointwise

@[expose] public section

set_option maxRecDepth 16384

noncomputable section

namespace Cert.KernelIdeal.Tile

open Idealize.ShloMosaic Idealize.ShloMosaic.TcCoe Idealize.SL.Sem
open Cert.KernelIdeal Cert.KernelIdeal.Gen

variable {F : FTy → Type} [FloatOps F]

/-- The four pairs of heads of a window of queries, one above the other. -/
def pairsW {φ : FTy} (w : FVec F S256x512 φ) : FVec F S4x256x128 φ :=
  concatenate S4x256x128 0
    [⟨S1x256x128, shapeCast S1x256x128 (extractStridedSlice S256x128 ![0, 0] w slices_S256x512_o0_0_S256x128) shapeCasts_S256x128_S1x256x128⟩,
     ⟨S1x256x128, shapeCast S1x256x128 (extractStridedSlice S256x128 ![0, 128] w slices_S256x512_o0_128_S256x128) shapeCasts_S256x128_S1x256x128⟩,
     ⟨S1x256x128, shapeCast S1x256x128 (extractStridedSlice S256x128 ![0, 256] w slices_S256x512_o0_256_S256x128) shapeCasts_S256x128_S1x256x128⟩,
     ⟨S1x256x128, shapeCast S1x256x128 (extractStridedSlice S256x128 ![0, 384] w slices_S256x512_o0_384_S256x128) shapeCasts_S256x128_S1x256x128⟩]
    concatenates_S1x256x128_S1x256x128_S1x256x128_S1x256x128_S4x256x128_d0

/-- The four pairs of heads of a tile of keys. -/
def pairsK {φ : FTy} (w : FVec F S128x512 φ) : FVec F S4x128x128 φ :=
  concatenate S4x128x128 0
    [⟨S1x128x128, shapeCast S1x128x128 (extractStridedSlice S128x128 ![0, 0] w slices_S128x512_o0_0_S128x128) shapeCasts_S128x128_S1x128x128⟩,
     ⟨S1x128x128, shapeCast S1x128x128 (extractStridedSlice S128x128 ![0, 128] w slices_S128x512_o0_128_S128x128) shapeCasts_S128x128_S1x128x128⟩,
     ⟨S1x128x128, shapeCast S1x128x128 (extractStridedSlice S128x128 ![0, 256] w slices_S128x512_o0_256_S128x128) shapeCasts_S128x128_S1x128x128⟩,
     ⟨S1x128x128, shapeCast S1x128x128 (extractStridedSlice S128x128 ![0, 384] w slices_S128x512_o0_384_S128x128) shapeCasts_S128x128_S1x128x128⟩]
    concatenates_S1x128x128_S1x128x128_S1x128x128_S1x128x128_S4x128x128_d0

/-- The rows of a pair's first head over those of its second, each with the other's lanes at zero. -/
def perHead (w : FVec F S256x512 .bf16) : FVec F S4x512x128 .bf16 :=
  concatenate S4x512x128 1
    [⟨S4x256x128, select (cmpi .slt (iota .tc S4x256x128 32 [2] iota_S4x256x128_d2_w32) (broadcast S4x256x128 64#32)) (pairsW w) (broadcast S4x256x128 (Scalar.ofBits .bf16 0x0000#16))⟩,
     ⟨S4x256x128, select (cmpi .slt (iota .tc S4x256x128 32 [2] iota_S4x256x128_d2_w32) (broadcast S4x256x128 64#32)) (broadcast S4x256x128 (Scalar.ofBits .bf16 0x0000#16)) (pairsW w)⟩]
    concatenates_S4x256x128_S4x256x128_S4x512x128_d1

/-- A quantity of the queries kept in 64 equal lanes per head, as one column per head and row. -/
def cols (w : FVec F S256x512 .f32) : FVec F S4x512x128 .f32 :=
  broadcastTo S4x512x128 (concatenate S4x512x1 0
    [⟨S1x512x1, shapeCast S1x512x1 (concatenate S512x1 0 [⟨S256x1, extractStridedSlice S256x1 ![0, 0] w slices_S256x512_o0_0_S256x1⟩, ⟨S256x1, extractStridedSlice S256x1 ![0, 64] w slices_S256x512_o0_64_S256x1⟩] concatenates_S256x1_S256x1_S512x1_d0) shapeCasts_S512x1_S1x512x1⟩,
     ⟨S1x512x1, shapeCast S1x512x1 (concatenate S512x1 0 [⟨S256x1, extractStridedSlice S256x1 ![0, 128] w slices_S256x512_o0_128_S256x1⟩, ⟨S256x1, extractStridedSlice S256x1 ![0, 192] w slices_S256x512_o0_192_S256x1⟩] concatenates_S256x1_S256x1_S512x1_d0) shapeCasts_S512x1_S1x512x1⟩,
     ⟨S1x512x1, shapeCast S1x512x1 (concatenate S512x1 0 [⟨S256x1, extractStridedSlice S256x1 ![0, 256] w slices_S256x512_o0_256_S256x1⟩, ⟨S256x1, extractStridedSlice S256x1 ![0, 320] w slices_S256x512_o0_320_S256x1⟩] concatenates_S256x1_S256x1_S512x1_d0) shapeCasts_S512x1_S1x512x1⟩,
     ⟨S1x512x1, shapeCast S1x512x1 (concatenate S512x1 0 [⟨S256x1, extractStridedSlice S256x1 ![0, 384] w slices_S256x512_o0_384_S256x1⟩, ⟨S256x1, extractStridedSlice S256x1 ![0, 448] w slices_S256x512_o0_448_S256x1⟩] concatenates_S256x1_S256x1_S512x1_d0) shapeCasts_S512x1_S1x512x1⟩]
    concatenates_S1x512x1_S1x512x1_S1x512x1_S1x512x1_S4x512x1_d0) broadcasts_S4x512x1_S4x512x128

/-- A tile's bias, its eight heads as four pairs. -/
def biasP (b : Vec F S1x8x256x128 .f32) : FVec F S4x512x128 .f32 :=
  shapeCast S4x512x128 (shapeCast S8x256x128 b shapeCasts_S1x8x256x128_S8x256x128) shapeCasts_S8x256x128_S4x512x128

/-- The probabilities of a tile, from the saved log-sum of each query. -/
def prob (q : FVec F S256x512 .bf16) (ls : FVec F S256x512 .f32) (k : Vec F S128x512 .bf16)
    (b : Vec F S1x8x256x128 .f32) : FVec F S4x512x128 .f32 :=
  exp (subf (addf
    (matmul dot_S4x512x128_S4x128x128_S4x512x128_2_2_1_1_0_0 none (perHead q)
      (pairsK (shapeCast S128x512 k shapeCasts_S128x512_S128x512)) (constant S4x512x128 .f32 0x00000000#32))
    (biasP b)) (cols ls))

/-- The tile's share of the gradient of `v`. -/
def dvTile (q : FVec F S256x512 .bf16) (d : FVec F S256x512 .bf16) (ls : FVec F S256x512 .f32)
    (k : Vec F S128x512 .bf16) (b : Vec F S1x8x256x128 .f32) : FVec F S4x128x128 .f32 :=
  matmul dot_S4x512x128_S4x512x128_S4x128x128_1_1_2_2_0_0 none
    (truncf .bf16 (prob q ls k b) bitsLt_bf16_f32) (perHead d) (constant S4x128x128 .f32 0x00000000#32)

/-- The tile's share of the gradient of `k`. -/
def dkTile (q : FVec F S256x512 .bf16) (d : FVec F S256x512 .bf16) (ls cp : FVec F S256x512 .f32)
    (k v : Vec F S128x512 .bf16) (b : Vec F S1x8x256x128 .f32) : FVec F S4x128x128 .f32 :=
  matmul dot_S4x512x128_S4x512x128_S4x128x128_1_1_2_2_0_0 none
    (truncf .bf16 (mulf (prob q ls k b) (addf
      (matmul dot_S4x512x128_S4x128x128_S4x512x128_2_2_1_1_0_0 none (perHead d)
        (pairsK (shapeCast S128x512 v shapeCasts_S128x512_S128x512)) (constant S4x512x128 .f32 0x00000000#32))
      (cols cp))) bitsLt_bf16_f32) (perHead q) (constant S4x128x128 .f32 0x00000000#32)

/-- The row of pair `p` that a tile stores. -/
def part (o : Fin 3 → ℕ) (h : S4x128x128.Slices o S1x128x128) (x : FVec F S4x128x128 .f32) :
    FVec F S128x128 .bf16 :=
  truncf .bf16 (shapeCast S128x128 (extractStridedSlice S1x128x128 o x h) shapeCasts_S1x128x128_S128x128) bitsLt_bf16_f32

/-- The window of 256 queries at a tile's offset. -/
def win {φ : FTy} (o : Fin 2 → ℕ) (h : S1152x512.Slices o S256x512) (x : FVec F S1152x512 φ) :
    FVec F S256x512 φ := extractStridedSlice S256x512 o x h

/-! ## The tile read at an index -/

theorem lanes_lt (l : Fin 128) :
    IntOp.cmpi .slt (BitVec.ofNat 32 l.val) 64#32 = BitVec.ofBool (decide (l.val < 64)) := by
  revert l; decide +kernel

theorem perHead_lo (w : FVec Ideal S256x512 .bf16) (p : Fin 4) (g : Fin 256) (l : Fin 128) :
    perHead w (ix3 p ⟨g.val, by omega⟩ l) = if l.val < 64 then w (ix2 g ⟨128 * p.val + l.val, by omega⟩) else 0 := by
  fin_cases p <;> pointwise [perHead, pairsW] <;> rw [lanes_lt] <;> pointwise

theorem perHead_hi (w : FVec Ideal S256x512 .bf16) (p : Fin 4) (g : Fin 256) (l : Fin 128) :
    perHead w (ix3 p ⟨256 + g.val, by omega⟩ l) = if l.val < 64 then 0 else w (ix2 g ⟨128 * p.val + l.val, by omega⟩) := by
  fin_cases p <;> pointwise [perHead, pairsW] <;> rw [lanes_lt] <;> pointwise

theorem pairsK_at (w : FVec Ideal S128x512 .bf16) (p : Fin 4) (j l : Fin 128) :
    pairsK w (ix3 p j l) = w (ix2 j ⟨128 * p.val + l.val, by omega⟩) := by
  fin_cases p <;> pointwise [pairsK]

theorem cols_lo (w : FVec Ideal S256x512 .f32) (p : Fin 4) (g : Fin 256) (l : Fin 128) :
    cols w (ix3 p ⟨g.val, by omega⟩ l) = w (ix2 g ⟨128 * p.val, by omega⟩) := by
  fin_cases p <;> pointwise [cols]

theorem cols_hi (w : FVec Ideal S256x512 .f32) (p : Fin 4) (g : Fin 256) (l : Fin 128) :
    cols w (ix3 p ⟨256 + g.val, by omega⟩ l) = w (ix2 g ⟨128 * p.val + 64, by omega⟩) := by
  fin_cases p <;> pointwise [cols]

theorem bias_lo (b : Vec Ideal S1x8x256x128 .f32) (p : Fin 4) (g : Fin 256) (j : Fin 128) :
    biasP b (ix3 p ⟨g.val, by omega⟩ j) = b (ix4 0 ⟨2 * p.val, by omega⟩ g j) := by
  fin_cases p <;> pointwise [biasP] <;> congr 1 <;> idx_ext <;> omega

theorem bias_hi (b : Vec Ideal S1x8x256x128 .f32) (p : Fin 4) (g : Fin 256) (j : Fin 128) :
    biasP b (ix3 p ⟨256 + g.val, by omega⟩ j) = b (ix4 0 ⟨2 * p.val + 1, by omega⟩ g j) := by
  fin_cases p <;> pointwise [biasP] <;> congr 1 <;> idx_ext <;> omega

/-- A sum over the 128 lanes of a pair is the sum over each head's 64. -/
theorem sum_lanes (f : Fin 128 → EReal) :
    ∑ l : Fin 128, f l = (∑ e : Fin 64, f ⟨e.val, by omega⟩) + ∑ e : Fin 64, f ⟨64 + e.val, by omega⟩ :=
  Fin.sum_univ_add (a := 64) (b := 64) f

/-- A sum over the 512 rows of a pair is the sum over each head's 256. -/
theorem sum_rows (f : Fin 512 → EReal) :
    ∑ l : Fin 512, f l = (∑ e : Fin 256, f ⟨e.val, by omega⟩) + ∑ e : Fin 256, f ⟨256 + e.val, by omega⟩ :=
  Fin.sum_univ_add (a := 256) (b := 256) f

theorem dot_lo (w : FVec Ideal S256x512 .bf16) (k : FVec Ideal S128x512 .bf16) (p : Fin 4) (g : Fin 256) (j : Fin 128) :
    ∑ l : Fin 128, perHead w (ix3 p ⟨g.val, by omega⟩ l) * pairsK k (ix3 p j l)
      = ∑ e : Fin 64, w (ix2 g ⟨64 * (2 * p.val) + e.val, by omega⟩) * k (ix2 j ⟨64 * (2 * p.val) + e.val, by omega⟩) := by
  rw [sum_lanes, Finset.sum_congr rfl fun e _ => by rw [perHead_lo, if_pos (by simp), pairsK_at],
    Finset.sum_eq_zero (s := Finset.univ) (f := fun e : Fin 64 => perHead w (ix3 p ⟨g.val, by omega⟩ ⟨64 + e.val, by omega⟩) * pairsK k (ix3 p j ⟨64 + e.val, by omega⟩)) fun e _ => by rw [perHead_lo, if_neg (by simp), zero_mul], add_zero]
  refine Finset.sum_congr rfl fun e _ => ?_
  congr 3 <;> ext <;> simp <;> omega

theorem dot_hi (w : FVec Ideal S256x512 .bf16) (k : FVec Ideal S128x512 .bf16) (p : Fin 4) (g : Fin 256) (j : Fin 128) :
    ∑ l : Fin 128, perHead w (ix3 p ⟨256 + g.val, by omega⟩ l) * pairsK k (ix3 p j l)
      = ∑ e : Fin 64, w (ix2 g ⟨64 * (2 * p.val + 1) + e.val, by omega⟩) * k (ix2 j ⟨64 * (2 * p.val + 1) + e.val, by omega⟩) := by
  rw [sum_lanes, Finset.sum_eq_zero (s := Finset.univ) (f := fun e : Fin 64 => perHead w (ix3 p ⟨256 + g.val, by omega⟩ ⟨e.val, by omega⟩) * pairsK k (ix3 p j ⟨e.val, by omega⟩)) fun e _ => by rw [perHead_hi, if_pos (by simp), zero_mul], zero_add,
    Finset.sum_congr rfl fun e _ => by rw [perHead_hi, if_neg (by simp), pairsK_at]]
  refine Finset.sum_congr rfl fun e _ => ?_
  congr 3 <;> ext <;> simp <;> omega

/-- The exponential of a query's logit less its saved log-sum, at head `h`. -/
def expAt (q ls : S256x512.Idx → EReal) (k : S128x512.Idx → EReal) (b : S1x8x256x128.Idx → EReal)
    (h : Fin 8) (g : Fin 256) (j : Fin 128) : EReal :=
  Ideal.exp ((∑ e : Fin 64, q (ix2 g ⟨64 * h.val + e.val, by omega⟩) * k (ix2 j ⟨64 * h.val + e.val, by omega⟩))
    + b (ix4 0 h g j) - ls (ix2 g ⟨64 * h.val, by omega⟩))

theorem prob_lo (q : FVec Ideal S256x512 .bf16) (ls : FVec Ideal S256x512 .f32) (k : Vec Ideal S128x512 .bf16)
    (b : Vec Ideal S1x8x256x128 .f32) (p : Fin 4) (g : Fin 256) (j : Fin 128) :
    prob q ls k b (ix3 p ⟨g.val, by omega⟩ j) = expAt q ls k b ⟨2 * p.val, by omega⟩ g j := by
  pointwise [prob]
  rw [dot_lo, bias_lo, cols_lo]
  unfold expAt
  congr 4; apply Fin.ext; show _ = 64 * _; dsimp only; omega

theorem prob_hi (q : FVec Ideal S256x512 .bf16) (ls : FVec Ideal S256x512 .f32) (k : Vec Ideal S128x512 .bf16)
    (b : Vec Ideal S1x8x256x128 .f32) (p : Fin 4) (g : Fin 256) (j : Fin 128) :
    prob q ls k b (ix3 p ⟨256 + g.val, by omega⟩ j) = expAt q ls k b ⟨2 * p.val + 1, by omega⟩ g j := by
  pointwise [prob]
  rw [dot_hi, bias_hi, cols_hi]
  unfold expAt
  congr 4; apply Fin.ext; show _ = 64 * _; dsimp only; omega

/-- A contraction of a pair's 512 rows against per-head rows keeps the rows of the lane's own head. -/
theorem rows_head (w : FVec Ideal S256x512 .bf16) (p : Fin 4) (l : Fin 128) (f : Fin 512 → EReal)
    (G : Fin 8 → Fin 256 → EReal)
    (h0 : ∀ g : Fin 256, f ⟨g.val, by omega⟩ = G ⟨2 * p.val, by omega⟩ g)
    (h1 : ∀ g : Fin 256, f ⟨256 + g.val, by omega⟩ = G ⟨2 * p.val + 1, by omega⟩ g) :
    ∑ i : Fin 512, f i * perHead w (ix3 p i l)
      = ∑ g : Fin 256, G ⟨2 * p.val + l.val / 64, by omega⟩ g * w (ix2 g ⟨128 * p.val + l.val, by omega⟩) := by
  rw [sum_rows]
  simp only [perHead_lo, perHead_hi, h0, h1]
  by_cases hl : l.val < 64
  · simp only [if_pos hl, mul_zero, Finset.sum_const_zero, add_zero]
    refine Finset.sum_congr rfl fun g _ => ?_
    congr 2; ext; simp; omega
  · simp only [if_neg hl, mul_zero, Finset.sum_const_zero, zero_add]
    refine Finset.sum_congr rfl fun g _ => ?_
    congr 2; ext; simp; omega

theorem dvTile_at (q d : FVec Ideal S256x512 .bf16) (ls : FVec Ideal S256x512 .f32) (k : Vec Ideal S128x512 .bf16)
    (b : Vec Ideal S1x8x256x128 .f32) (p : Fin 4) (j l : Fin 128) :
    dvTile q d ls k b (ix3 p j l)
      = ∑ g : Fin 256, expAt q ls k b ⟨2 * p.val + l.val / 64, by omega⟩ g j
          * d (ix2 g ⟨128 * p.val + l.val, by omega⟩) := by
  pointwise [dvTile]
  exact rows_head d p l _ (fun h g => expAt q ls k b h g j) (fun g => prob_lo q ls k b p g j)
    (fun g => prob_hi q ls k b p g j)

/-- The gradient of a logit, at head `h`. -/
def gradAt (q d ls cp : S256x512.Idx → EReal) (k v : S128x512.Idx → EReal) (b : S1x8x256x128.Idx → EReal)
    (h : Fin 8) (g : Fin 256) (j : Fin 128) : EReal :=
  expAt q ls k b h g j * ((∑ e : Fin 64, d (ix2 g ⟨64 * h.val + e.val, by omega⟩) * v (ix2 j ⟨64 * h.val + e.val, by omega⟩))
    + cp (ix2 g ⟨64 * h.val, by omega⟩))

theorem dkTile_at (q d : FVec Ideal S256x512 .bf16) (ls cp : FVec Ideal S256x512 .f32) (k v : Vec Ideal S128x512 .bf16)
    (b : Vec Ideal S1x8x256x128 .f32) (p : Fin 4) (j l : Fin 128) :
    dkTile q d ls cp k v b (ix3 p j l)
      = ∑ g : Fin 256, gradAt q d ls cp k v b ⟨2 * p.val + l.val / 64, by omega⟩ g j
          * q (ix2 g ⟨128 * p.val + l.val, by omega⟩) := by
  pointwise [dkTile]
  refine rows_head q p l _ (fun h g => gradAt q d ls cp k v b h g j) (fun g => ?_) (fun g => ?_)
  · simp only [gradAt, prob_lo, dot_lo, cols_lo]
    congr 4; apply Fin.ext; dsimp only; omega
  · simp only [gradAt, prob_hi, dot_hi, cols_hi]
    congr 4; apply Fin.ext; dsimp only; omega

theorem part_at (p : Fin 4) (o : Fin 3 → ℕ) (ho : o = ![p.val, 0, 0]) (h : S4x128x128.Slices o S1x128x128)
    (x : FVec Ideal S4x128x128 .f32) (j l : Fin 128) : part o h x (ix2 j l) = x (ix3 p j l) := by
  subst ho
  pointwise [part]

end Cert.KernelIdeal.Tile
-- ==== Proof.Pieces.lean ====
/- THE KERNEL'S BODY AS EIGHT TILES: each piece it stores is a pair's row of the tile function at its
   offset. -/
module

public import proofs.«01_k».proof.Proof.Tile
public import proofs.«01_k».proof.Proof.Gen.KernelIdeal.Value
public import Idealize.ShloMosaic.Lib.Pipeline.ValueKit

@[expose] public section

set_option maxRecDepth 16384

noncomputable section

namespace Cert.KernelIdeal.Tile

open Idealize.ShloMosaic Idealize.ShloMosaic.TcCoe Idealize.SL.Sem
open Cert.KernelIdeal Cert.KernelIdeal.Gen

variable {F : FTy → Type} [FloatOps F]

/-- The rows before, of and after a block, one above the other. -/
abbrev catQ {φ : FTy} (a : FVec F S64x512 φ) (b : FVec F S1024x512 φ) (c : FVec F S64x512 φ) : FVec F S1152x512 φ :=
  concatenate S1152x512 0 [⟨S64x512, shapeCast S64x512 a shapeCasts_S64x512_S64x512⟩,
    ⟨S1024x512, shapeCast S1024x512 b shapeCasts_S1024x512_S1024x512⟩,
    ⟨S64x512, shapeCast S64x512 c shapeCasts_S64x512_S64x512⟩] concatenates_S64x512_S1024x512_S64x512_S1152x512_d0

theorem winSlices (u : ℕ) (hu : u < 8) : S1152x512.Slices ![128 * u, 0] S256x512 := by
  interval_cases u <;> decide

theorem pairSlices (p : ℕ) (hp : p < 4) : S4x128x128.Slices ![p, 0, 0] S1x128x128 := by
  interval_cases p <;> decide

theorem keyInb (u : ℕ) (hu : u < 8) (a : Fin 2) : (![128 * u, 0] : Fin 2 → ℕ) a + S128x512.size a ≤ S1024x512.size a := by
  interval_cases u <;> revert a <;> decide

theorem pieceInb (u p : ℕ) (hu : u < 8) (hp : p < 4) (a : Fin 2) :
    (![128 * u, 128 * p] : Fin 2 → ℕ) a + S128x128.size a ≤ S1024x512.size a := by
  interval_cases u <;> interval_cases p <;> revert a <;> decide

/-- Tile `u`'s keys of a block. -/
abbrev keyRect (u : ℕ) (hu : u < 8) : Rect S1024x512 :=
  Rect.unit (s := S1024x512) ![128 * u, 0] S128x512.size (keyInb u hu)

/-- The piece stored for tile `u` and pair `p`. -/
abbrev pieceRect (u p : ℕ) (hu : u < 8) (hp : p < 4) : Rect S1024x512 :=
  Rect.unit (s := S1024x512) ![128 * u, 128 * p] S128x128.size (pieceInb u p hu hp)

/-- Tile `u`'s rows of a block of keys. -/
def keysOf (u : ℕ) (hu : u < 8) (x : Vec F S1024x512 .bf16) : Vec F S128x512 .bf16 := View.ld x (keyRect u hu)

/-- The whole bias of a tile. -/
def biasOf (x : Vec F S1x8x256x128 .f32) : Vec F S1x8x256x128 .f32 := View.ld x r0_3

/-- What the kernel leaves of the gradient of `v`: tile by tile and pair by pair. -/
def dvOut (q d : FVec F S1152x512 .bf16) (ls : FVec F S1152x512 .f32) (k : Vec F S1024x512 .bf16)
    (b : Fin 8 → Vec F S1x8x256x128 .f32) : Vec F S1024x512 .bf16 :=
  View.canon (List.ofFn fun n : Fin 32 =>
    ⟨pieceRect (7 - n.val / 4) (3 - n.val % 4) (by omega) (by omega),
      part ![3 - n.val % 4, 0, 0] (pairSlices _ (by omega))
        (dvTile (win _ (winSlices (7 - n.val / 4) (by omega)) q) (win _ (winSlices (7 - n.val / 4) (by omega)) d)
          (win _ (winSlices (7 - n.val / 4) (by omega)) ls) (keysOf (7 - n.val / 4) (by omega) k)
          (biasOf (b ⟨7 - n.val / 4, by omega⟩)))⟩)

/-- What the kernel leaves of the gradient of `k`: tile by tile and pair by pair. -/
def dkOut (q d : FVec F S1152x512 .bf16) (ls cp : FVec F S1152x512 .f32) (k v : Vec F S1024x512 .bf16)
    (b : Fin 8 → Vec F S1x8x256x128 .f32) : Vec F S1024x512 .bf16 :=
  View.canon (List.ofFn fun n : Fin 32 =>
    ⟨pieceRect (7 - n.val / 4) (3 - n.val % 4) (by omega) (by omega),
      part ![3 - n.val % 4, 0, 0] (pairSlices _ (by omega))
        (dkTile (win _ (winSlices (7 - n.val / 4) (by omega)) q) (win _ (winSlices (7 - n.val / 4) (by omega)) d)
          (win _ (winSlices (7 - n.val / 4) (by omega)) ls) (win _ (winSlices (7 - n.val / 4) (by omega)) cp)
          (keysOf (7 - n.val / 4) (by omega) k) (keysOf (7 - n.val / 4) (by omega) v)
          (biasOf (b ⟨7 - n.val / 4, by omega⟩)))⟩)

theorem out23_eq (x0 x1 : Vec F S1024x512 .bf16) (x2 : Vec F S64x512 .bf16) (x3 : Vec F S1024x512 .bf16) (x4 x5 : Vec F S64x512 .bf16) (x6 : Vec F S1024x512 .bf16) (x7 : Vec F S64x512 .bf16) (x8 : Vec F S64x512 .f32) (x9 : Vec F S1024x512 .f32) (x10 x11 : Vec F S64x512 .f32) (x12 : Vec F S1024x512 .f32) (x13 : Vec F S64x512 .f32)
    (x14 x15 x16 x17 x18 x19 x20 x21 : Vec F S1x8x256x128 .f32) :
    out0_23 x0 x1 x2 x3 x4 x5 x6 x7 x8 x9 x10 x11 x12 x13 x14 x15 x16 x17 x18 x19 x20 x21
      = dvOut (catQ (View.ld x2 r0_0) (View.ld x3 r0_1) (View.ld x4 r0_0)) (catQ (View.ld x5 r0_0) (View.ld x6 r0_1) (View.ld x7 r0_0))
          (catQ (View.ld x8 r0_0) (View.ld x9 r0_1) (View.ld x10 r0_0)) x0 ![x14, x15, x16, x17, x18, x19, x20, x21] := by
  rfl

theorem out22_eq (x0 x1 : Vec F S1024x512 .bf16) (x2 : Vec F S64x512 .bf16) (x3 : Vec F S1024x512 .bf16) (x4 x5 : Vec F S64x512 .bf16) (x6 : Vec F S1024x512 .bf16) (x7 : Vec F S64x512 .bf16) (x8 : Vec F S64x512 .f32) (x9 : Vec F S1024x512 .f32) (x10 x11 : Vec F S64x512 .f32) (x12 : Vec F S1024x512 .f32) (x13 : Vec F S64x512 .f32)
    (x14 x15 x16 x17 x18 x19 x20 x21 : Vec F S1x8x256x128 .f32) :
    out0_22 x0 x1 x2 x3 x4 x5 x6 x7 x8 x9 x10 x11 x12 x13 x14 x15 x16 x17 x18 x19 x20 x21
      = dkOut (catQ (View.ld x2 r0_0) (View.ld x3 r0_1) (View.ld x4 r0_0)) (catQ (View.ld x5 r0_0) (View.ld x6 r0_1) (View.ld x7 r0_0))
          (catQ (View.ld x8 r0_0) (View.ld x9 r0_1) (View.ld x10 r0_0)) (catQ (View.ld x11 r0_0) (View.ld x12 r0_1) (View.ld x13 r0_0))
          x0 x1 ![x14, x15, x16, x17, x18, x19, x20, x21] := by
  rfl

/-- The exponential of a logit less the saved log-sum: tile `u`, head `h`, query `g` of the window, key `j` of the tile. -/
def expT (q : S1152x512.Idx → EReal) (ls : S1152x512.Idx → EReal) (k : S1024x512.Idx → EReal)
    (b : Fin 8 → S1x8x256x128.Idx → EReal) (u h : Fin 8) (g : Fin 256) (j : Fin 128) : EReal :=
  Ideal.exp ((∑ e : Fin 64, q (ix2 ⟨128 * u.val + g.val, by omega⟩ ⟨64 * h.val + e.val, by omega⟩)
      * k (ix2 ⟨128 * u.val + j.val, by omega⟩ ⟨64 * h.val + e.val, by omega⟩))
    + b u (ix4 0 h g j) - ls (ix2 ⟨128 * u.val + g.val, by omega⟩ ⟨64 * h.val, by omega⟩))

/-- The gradient of a logit: tile `u`, head `h`, query `g` of the window, key `j` of the tile. -/
def gradT (q d ls cp : S1152x512.Idx → EReal) (k v : S1024x512.Idx → EReal)
    (b : Fin 8 → S1x8x256x128.Idx → EReal) (u h : Fin 8) (g : Fin 256) (j : Fin 128) : EReal :=
  expT q ls k b u h g j *
    ((∑ e : Fin 64, d (ix2 ⟨128 * u.val + g.val, by omega⟩ ⟨64 * h.val + e.val, by omega⟩)
      * v (ix2 ⟨128 * u.val + j.val, by omega⟩ ⟨64 * h.val + e.val, by omega⟩))
    + cp (ix2 ⟨128 * u.val + g.val, by omega⟩ ⟨64 * h.val, by omega⟩))

theorem win_at {φ : FTy} (u : ℕ) (hu : u < 8) (x : FVec Ideal S1152x512 φ) (g : Fin 256) (c : Fin 512) :
    win ![128 * u, 0] (winSlices u hu) x (ix2 g c) = x (ix2 ⟨128 * u + g.val, by omega⟩ c) := by
  pointwise [win]

theorem key_at (u : ℕ) (hu : u < 8) (x : Vec Ideal S1024x512 .bf16) (j : Fin 128) (c : Fin 512) :
    keysOf u hu x (ix2 j c) = x (ix2 ⟨128 * u + j.val, by omega⟩ c) := by
  refine View.ld_unit_apply_of x _ _ _ _ _ fun a => ?_
  fin_cases a <;> simp

theorem bias_ld (x : Vec Ideal S1x8x256x128 .f32) : biasOf x = x :=
  View.ld_unit_lit' _ x (by decide)

theorem expAt_win (q : FVec Ideal S1152x512 .bf16) (ls : FVec Ideal S1152x512 .f32) (k : Vec Ideal S1024x512 .bf16)
    (b : Fin 8 → Vec Ideal S1x8x256x128 .f32) (u h : Fin 8) (g : Fin 256) (j : Fin 128) :
    expAt (win _ (winSlices u.val u.isLt) q) (win _ (winSlices u.val u.isLt) ls) (keysOf u.val u.isLt k) (biasOf (b u)) h g j
      = expT q ls k b u h g j := by
  unfold expAt expT
  simp only [win_at u.val u.isLt q, win_at u.val u.isLt ls, key_at, bias_ld]

theorem gradAt_win (q d : FVec Ideal S1152x512 .bf16) (ls cp : FVec Ideal S1152x512 .f32) (k v : Vec Ideal S1024x512 .bf16)
    (b : Fin 8 → Vec Ideal S1x8x256x128 .f32) (u h : Fin 8) (g : Fin 256) (j : Fin 128) :
    gradAt (win _ (winSlices u.val u.isLt) q) (win _ (winSlices u.val u.isLt) d) (win _ (winSlices u.val u.isLt) ls)
        (win _ (winSlices u.val u.isLt) cp) (keysOf u.val u.isLt k) (keysOf u.val u.isLt v) (biasOf (b u)) h g j
      = gradT q d ls cp k v b u h g j := by
  unfold gradAt gradT
  rw [expAt_win]
  simp only [win_at u.val u.isLt d, win_at u.val u.isLt cp, key_at]

theorem tile_lt (k : Fin 32) : 7 - k.val / 4 < 8 := by omega

theorem pair_lt (k : Fin 32) : 3 - k.val % 4 < 4 := by omega

/-- Every row and lane of a block lies in the piece of its tile and pair. -/
theorem pieces_cover (y : S1024x512.Idx) : ∃ k : Fin 32, ∀ a : Fin S1024x512.rank,
    ![128 * (7 - k.val / 4), 128 * (3 - k.val % 4)] a ≤ (y a).val ∧
      (y a).val < ![128 * (7 - k.val / 4), 128 * (3 - k.val % 4)] a + S128x128.size a := by
  have h0 : (y 0).val < 1024 := (y 0).isLt
  have h1 : (y 1).val < 512 := (y 1).isLt
  refine ⟨⟨4 * (7 - (y 0).val / 128) + (3 - (y 1).val / 128), by omega⟩, fun a => ?_⟩
  fin_cases a
  · constructor <;> simp <;> omega
  · constructor <;> simp <;> omega

/-- The gradient of `v` at key `j` of tile `u`, lane `e` of head `h`: a sum over the 256 queries of the tile's window. -/
theorem dvOut_at (q d : FVec Ideal S1152x512 .bf16) (ls : FVec Ideal S1152x512 .f32) (kk : Vec Ideal S1024x512 .bf16)
    (b : Fin 8 → Vec Ideal S1x8x256x128 .f32) (u h : Fin 8) (j : Fin 128) (e : Fin 64) :
    dvOut q d ls kk b (ix2 ⟨128 * u.val + j.val, by omega⟩ ⟨64 * h.val + e.val, by omega⟩)
      = ∑ g : Fin 256, expT q ls kk b u h g j * d (ix2 ⟨128 * u.val + g.val, by omega⟩ ⟨64 * h.val + e.val, by omega⟩) := by
  unfold dvOut
  canon_tiles x hx
  · obtain ⟨r, l, rfl⟩ : ∃ (r l : Fin 128), x = ix2 r l := ⟨x 0, x 1, by idx_ext⟩
    simp only [ix2_0, ix2_1] at hx0 hx1
    obtain rfl : u = ⟨7 - k.val / 4, tile_lt k⟩ := by apply Fin.ext; dsimp only; omega
    obtain rfl : j = r := by apply Fin.ext; dsimp only at hx0; omega
    rw [part_at ⟨3 - k.val % 4, pair_lt k⟩ _ rfl, dvTile_at]
    refine Finset.sum_congr rfl fun g _ => ?_
    rw [← expAt_win, win_at]
    congr 2
    · congr 1; dsimp only; omega
    · congr 1; apply Fin.ext; dsimp only; omega
    · exact tile_lt k
  · exact pieces_cover _

/-- The gradient of `k` at key `j` of tile `u`, lane `e` of head `h`: a sum over the 256 queries of the tile's window. -/
theorem dkOut_at (q d : FVec Ideal S1152x512 .bf16) (ls cp : FVec Ideal S1152x512 .f32) (kk v : Vec Ideal S1024x512 .bf16)
    (b : Fin 8 → Vec Ideal S1x8x256x128 .f32) (u h : Fin 8) (j : Fin 128) (e : Fin 64) :
    dkOut q d ls cp kk v b (ix2 ⟨128 * u.val + j.val, by omega⟩ ⟨64 * h.val + e.val, by omega⟩)
      = ∑ g : Fin 256, gradT q d ls cp kk v b u h g j * q (ix2 ⟨128 * u.val + g.val, by omega⟩ ⟨64 * h.val + e.val, by omega⟩) := by
  unfold dkOut
  canon_tiles x hx
  · obtain ⟨r, l, rfl⟩ : ∃ (r l : Fin 128), x = ix2 r l := ⟨x 0, x 1, by idx_ext⟩
    simp only [ix2_0, ix2_1] at hx0 hx1
    obtain rfl : u = ⟨7 - k.val / 4, tile_lt k⟩ := by apply Fin.ext; dsimp only; omega
    obtain rfl : j = r := by apply Fin.ext; dsimp only at hx0; omega
    rw [part_at ⟨3 - k.val % 4, pair_lt k⟩ _ rfl, dkTile_at]
    refine Finset.sum_congr rfl fun g _ => ?_
    rw [← gradAt_win, win_at]
    congr 2
    · congr 1; dsimp only; omega
    · congr 1; apply Fin.ext; dsimp only; omega
    · exact tile_lt k
  · exact pieces_cover _

end Cert.KernelIdeal.Tile
-- ==== Proof.Array.lean ====
/- THE KERNEL'S TWO RESULTS, ELEMENT BY ELEMENT: each as a sum over the 256 queries of a window, read from the
   arrays the kernel is called on. -/
module

public import proofs.«01_k».proof.Proof.Pieces

@[expose] public section

set_option maxRecDepth 16384

noncomputable section

namespace Cert.KernelIdeal.Tile

open Idealize.ShloMosaic Idealize.ShloMosaic.TcCoe Idealize.SL.Sem
open Idealize.ShloMosaic.Pipeline (Dat)
open Cert.KernelIdeal Cert.KernelIdeal.Gen

/-- The row of a 2048-row array that row `i` of point `t`'s 1152 rows is read from: 64 rows before the block, the
    block, 64 rows behind it, the outer two taken from the nearest block of 64 rows at the array's ends. -/
def rowOf (t : Fin 2) (i : Fin 1152) : Fin 2048 :=
  if h : i.val < 64 then ⟨64 * (16 * t.val - 1) + i.val, by omega⟩
  else if h' : i.val < 1088 then ⟨1024 * t.val + i.val - 64, by omega⟩
  else ⟨64 * min (16 * t.val + 16) 31 + i.val - 1088, by omega⟩

/-- Which of the four bias variants tile `u` of point `t` takes. -/
def variant (t : Fin 2) (u : Fin 8) : Fin 4 :=
  if u.val = 0 ∧ t.val = 0 then 0 else if u.val = 7 ∧ t.val = 1 then 2 else 1

theorem idx_key : ∀ t : Fin cfg0.N, win0_0.index t = ![t.val % 2, t.val / 2] :=
  (by decide +kernel : ∀ t : Fin grid0.N, win0_0.index t = ![t.val % 2, t.val / 2])

theorem idx_prev : ∀ t : Fin cfg0.N, win0_2.index t = ![16 * (t.val % 2) - 1, t.val / 2] :=
  (by decide +kernel : ∀ t : Fin grid0.N, win0_2.index t = ![16 * (t.val % 2) - 1, t.val / 2])

theorem idx_next : ∀ t : Fin cfg0.N, win0_4.index t = ![min (16 * (t.val % 2) + 16) 31, t.val / 2] :=
  (by decide +kernel : ∀ t : Fin grid0.N, win0_4.index t = ![min (16 * (t.val % 2) + 16) 31, t.val / 2])

theorem idx_bias0 : ∀ t : Fin cfg0.N, win0_14.index t = ![if t.val % 2 = 0 then 0 else 1, 0, 0, 0] :=
  (by decide +kernel : ∀ t : Fin grid0.N, win0_14.index t = ![if t.val % 2 = 0 then 0 else 1, 0, 0, 0])

theorem idx_bias1 : ∀ t : Fin cfg0.N, win0_15.index t = ![1, 0, 0, 0] :=
  (by decide +kernel : ∀ t : Fin grid0.N, win0_15.index t = ![1, 0, 0, 0])

theorem idx_bias7 : ∀ t : Fin cfg0.N, win0_21.index t = ![if t.val % 2 = 1 then 2 else 1, 0, 0, 0] :=
  (by decide +kernel : ∀ t : Fin grid0.N, win0_21.index t = ![if t.val % 2 = 1 then 2 else 1, 0, 0, 0])

/-! ## The windows' blocks, read from any array -/

/-- The windows that move as the keys' window does. -/
theorem idx_cur : ∀ t : Fin cfg0.N, win0_1.index t = win0_0.index t ∧ win0_3.index t = win0_0.index t
    ∧ win0_6.index t = win0_0.index t ∧ win0_9.index t = win0_0.index t ∧ win0_12.index t = win0_0.index t
    ∧ win0_22.index t = win0_0.index t ∧ win0_23.index t = win0_0.index t :=
  (by decide +kernel : ∀ t : Fin grid0.N, win0_1.index t = win0_0.index t ∧ win0_3.index t = win0_0.index t
    ∧ win0_6.index t = win0_0.index t ∧ win0_9.index t = win0_0.index t ∧ win0_12.index t = win0_0.index t
    ∧ win0_22.index t = win0_0.index t ∧ win0_23.index t = win0_0.index t)

/-- The windows of the rows before and behind a block move alike for the four arrays of the queries. -/
theorem idx_halo : ∀ t : Fin cfg0.N, win0_5.index t = win0_2.index t ∧ win0_8.index t = win0_2.index t
    ∧ win0_11.index t = win0_2.index t ∧ win0_7.index t = win0_4.index t ∧ win0_10.index t = win0_4.index t
    ∧ win0_13.index t = win0_4.index t :=
  (by decide +kernel : ∀ t : Fin grid0.N, win0_5.index t = win0_2.index t ∧ win0_8.index t = win0_2.index t
    ∧ win0_11.index t = win0_2.index t ∧ win0_7.index t = win0_4.index t ∧ win0_10.index t = win0_4.index t
    ∧ win0_13.index t = win0_4.index t)

/-- The biases of the inner tiles. -/
theorem idx_bias : ∀ t : Fin cfg0.N, win0_16.index t = win0_15.index t ∧ win0_17.index t = win0_15.index t
    ∧ win0_18.index t = win0_15.index t ∧ win0_19.index t = win0_15.index t ∧ win0_20.index t = win0_15.index t :=
  (by decide +kernel : ∀ t : Fin grid0.N, win0_16.index t = win0_15.index t ∧ win0_17.index t = win0_15.index t
    ∧ win0_18.index t = win0_15.index t ∧ win0_19.index t = win0_15.index t ∧ win0_20.index t = win0_15.index t)

theorem catQ_at {φ : FTy} (a : FVec Ideal S64x512 φ) (b : FVec Ideal S1024x512 φ) (c : FVec Ideal S64x512 φ)
    (i : Fin 1152) (l : Fin 512) :
    catQ a b c (ix2 i l) = if h : i.val < 64 then a (ix2 ⟨i.val, h⟩ l)
      else if h' : i.val < 1088 then b (ix2 ⟨i.val - 64, by omega⟩ l) else c (ix2 ⟨i.val - 1088, by omega⟩ l) := by
  pointwise
  by_cases h : i.val < 64
  · rw [dif_pos h, dif_pos h]
  · rw [dif_neg h, dif_neg h]
    by_cases h' : i.val < 1088
    · rw [dif_pos (by omega), dif_pos h']
    · rw [dif_neg (by omega), dif_neg h']
      congr 2

/-- The 1152 rows of point `t` read from the array `A`. -/
theorem rows_of {φ : FTy} (A : FVec Ideal S2048x2048 φ) (a : FVec Ideal S64x512 φ) (b : FVec Ideal S1024x512 φ)
    (c : FVec Ideal S64x512 φ) (t : Fin 2) (r : Fin 4)
    (ha : ∀ (j : Fin 64) (l : Fin 512) h0 h1, a (ix2 j l) = A (ix2 ⟨64 * (16 * t.val - 1) + j.val, h0⟩ ⟨512 * r.val + l.val, h1⟩))
    (hb : ∀ (j : Fin 1024) (l : Fin 512) h0 h1, b (ix2 j l) = A (ix2 ⟨1024 * t.val + j.val, h0⟩ ⟨512 * r.val + l.val, h1⟩))
    (hc : ∀ (j : Fin 64) (l : Fin 512) h0 h1, c (ix2 j l) = A (ix2 ⟨64 * min (16 * t.val + 16) 31 + j.val, h0⟩ ⟨512 * r.val + l.val, h1⟩))
    (i : Fin 1152) (l : Fin 512) :
    catQ a b c (ix2 i l) = A (ix2 (rowOf t i) ⟨512 * r.val + l.val, by omega⟩) := by
  rw [catQ_at]
  unfold rowOf
  split_ifs with h h'
  · exact ha _ _ _ _
  · rw [hb _ _ (by dsimp only; omega) (by omega)]; congr 2; apply Fin.ext; dsimp only; omega
  · rw [hc _ _ (by dsimp only; omega) (by omega)]; congr 2; apply Fin.ext; dsimp only; omega

/-! ## The windows' blocks, read from any array -/

theorem blk_k (A : S2048x2048.Idx → EReal) (t : Fin cfg0.N) (j : Fin 1024) (l : Fin 512) (h0) (h1) :
    ((cfg0.win 0).blk t).view.read (Elt Ideal) A (ix2 j l) = A (ix2 ⟨1024 * (t.val % 2) + j.val, h0⟩ ⟨512 * (t.val / 2) + l.val, h1⟩) := by
  blk_point [idx_key t]

theorem blk_v (A : S2048x2048.Idx → EReal) (t : Fin cfg0.N) (j : Fin 1024) (l : Fin 512) (h0) (h1) :
    ((cfg0.win 1).blk t).view.read (Elt Ideal) A (ix2 j l) = A (ix2 ⟨1024 * (t.val % 2) + j.val, h0⟩ ⟨512 * (t.val / 2) + l.val, h1⟩) := by
  blk_point [(idx_cur t).1, idx_key t]

theorem blk_q_prev (A : S2048x2048.Idx → EReal) (t : Fin cfg0.N) (j : Fin 64) (l : Fin 512) (h0) (h1) :
    ((cfg0.win 2).blk t).view.read (Elt Ideal) A (ix2 j l) = A (ix2 ⟨64 * (16 * (t.val % 2) - 1) + j.val, h0⟩ ⟨512 * (t.val / 2) + l.val, h1⟩) := by
  blk_point [idx_prev t]

theorem blk_q (A : S2048x2048.Idx → EReal) (t : Fin cfg0.N) (j : Fin 1024) (l : Fin 512) (h0) (h1) :
    ((cfg0.win 3).blk t).view.read (Elt Ideal) A (ix2 j l) = A (ix2 ⟨1024 * (t.val % 2) + j.val, h0⟩ ⟨512 * (t.val / 2) + l.val, h1⟩) := by
  blk_point [(idx_cur t).2.1, idx_key t]

theorem blk_q_next (A : S2048x2048.Idx → EReal) (t : Fin cfg0.N) (j : Fin 64) (l : Fin 512) (h0) (h1) :
    ((cfg0.win 4).blk t).view.read (Elt Ideal) A (ix2 j l) = A (ix2 ⟨64 * min (16 * (t.val % 2) + 16) 31 + j.val, h0⟩ ⟨512 * (t.val / 2) + l.val, h1⟩) := by
  blk_point [idx_next t]

theorem blk_d_prev (A : S2048x2048.Idx → EReal) (t : Fin cfg0.N) (j : Fin 64) (l : Fin 512) (h0) (h1) :
    ((cfg0.win 5).blk t).view.read (Elt Ideal) A (ix2 j l) = A (ix2 ⟨64 * (16 * (t.val % 2) - 1) + j.val, h0⟩ ⟨512 * (t.val / 2) + l.val, h1⟩) := by
  blk_point [(idx_halo t).1, idx_prev t]

theorem blk_d (A : S2048x2048.Idx → EReal) (t : Fin cfg0.N) (j : Fin 1024) (l : Fin 512) (h0) (h1) :
    ((cfg0.win 6).blk t).view.read (Elt Ideal) A (ix2 j l) = A (ix2 ⟨1024 * (t.val % 2) + j.val, h0⟩ ⟨512 * (t.val / 2) + l.val, h1⟩) := by
  blk_point [(idx_cur t).2.2.1, idx_key t]

theorem blk_d_next (A : S2048x2048.Idx → EReal) (t : Fin cfg0.N) (j : Fin 64) (l : Fin 512) (h0) (h1) :
    ((cfg0.win 7).blk t).view.read (Elt Ideal) A (ix2 j l) = A (ix2 ⟨64 * min (16 * (t.val % 2) + 16) 31 + j.val, h0⟩ ⟨512 * (t.val / 2) + l.val, h1⟩) := by
  blk_point [(idx_halo t).2.2.2.1, idx_next t]

theorem blk_ls_prev (A : S2048x2048.Idx → EReal) (t : Fin cfg0.N) (j : Fin 64) (l : Fin 512) (h0) (h1) :
    ((cfg0.win 8).blk t).view.read (Elt Ideal) A (ix2 j l) = A (ix2 ⟨64 * (16 * (t.val % 2) - 1) + j.val, h0⟩ ⟨512 * (t.val / 2) + l.val, h1⟩) := by
  blk_point [(idx_halo t).2.1, idx_prev t]

theorem blk_ls (A : S2048x2048.Idx → EReal) (t : Fin cfg0.N) (j : Fin 1024) (l : Fin 512) (h0) (h1) :
    ((cfg0.win 9).blk t).view.read (Elt Ideal) A (ix2 j l) = A (ix2 ⟨1024 * (t.val % 2) + j.val, h0⟩ ⟨512 * (t.val / 2) + l.val, h1⟩) := by
  blk_point [(idx_cur t).2.2.2.1, idx_key t]

theorem blk_ls_next (A : S2048x2048.Idx → EReal) (t : Fin cfg0.N) (j : Fin 64) (l : Fin 512) (h0) (h1) :
    ((cfg0.win 10).blk t).view.read (Elt Ideal) A (ix2 j l) = A (ix2 ⟨64 * min (16 * (t.val % 2) + 16) 31 + j.val, h0⟩ ⟨512 * (t.val / 2) + l.val, h1⟩) := by
  blk_point [(idx_halo t).2.2.2.2.1, idx_next t]

theorem blk_cp_prev (A : S2048x2048.Idx → EReal) (t : Fin cfg0.N) (j : Fin 64) (l : Fin 512) (h0) (h1) :
    ((cfg0.win 11).blk t).view.read (Elt Ideal) A (ix2 j l) = A (ix2 ⟨64 * (16 * (t.val % 2) - 1) + j.val, h0⟩ ⟨512 * (t.val / 2) + l.val, h1⟩) := by
  blk_point [(idx_halo t).2.2.1, idx_prev t]

theorem blk_cp (A : S2048x2048.Idx → EReal) (t : Fin cfg0.N) (j : Fin 1024) (l : Fin 512) (h0) (h1) :
    ((cfg0.win 12).blk t).view.read (Elt Ideal) A (ix2 j l) = A (ix2 ⟨1024 * (t.val % 2) + j.val, h0⟩ ⟨512 * (t.val / 2) + l.val, h1⟩) := by
  blk_point [(idx_cur t).2.2.2.2.1, idx_key t]

theorem blk_cp_next (A : S2048x2048.Idx → EReal) (t : Fin cfg0.N) (j : Fin 64) (l : Fin 512) (h0) (h1) :
    ((cfg0.win 13).blk t).view.read (Elt Ideal) A (ix2 j l) = A (ix2 ⟨64 * min (16 * (t.val % 2) + 16) 31 + j.val, h0⟩ ⟨512 * (t.val / 2) + l.val, h1⟩) := by
  blk_point [(idx_halo t).2.2.2.2.2, idx_next t]

theorem blk_b1 (A : S4x8x256x128.Idx → EReal) (t : Fin cfg0.N) (h : Fin 8) (g : Fin 256) (j : Fin 128) :
    ((cfg0.win 15).blk t).view.read (Elt Ideal) A (ix4 0 h g j) = A (ix4 1 h g j) := by
  blk_point [idx_bias1 t]

theorem blk_b2 (A : S4x8x256x128.Idx → EReal) (t : Fin cfg0.N) (h : Fin 8) (g : Fin 256) (j : Fin 128) :
    ((cfg0.win 16).blk t).view.read (Elt Ideal) A (ix4 0 h g j) = A (ix4 1 h g j) := by
  blk_point [(idx_bias t).1, idx_bias1 t]

theorem blk_b3 (A : S4x8x256x128.Idx → EReal) (t : Fin cfg0.N) (h : Fin 8) (g : Fin 256) (j : Fin 128) :
    ((cfg0.win 17).blk t).view.read (Elt Ideal) A (ix4 0 h g j) = A (ix4 1 h g j) := by
  blk_point [(idx_bias t).2.1, idx_bias1 t]

theorem blk_b4 (A : S4x8x256x128.Idx → EReal) (t : Fin cfg0.N) (h : Fin 8) (g : Fin 256) (j : Fin 128) :
    ((cfg0.win 18).blk t).view.read (Elt Ideal) A (ix4 0 h g j) = A (ix4 1 h g j) := by
  blk_point [(idx_bias t).2.2.1, idx_bias1 t]

theorem blk_b5 (A : S4x8x256x128.Idx → EReal) (t : Fin cfg0.N) (h : Fin 8) (g : Fin 256) (j : Fin 128) :
    ((cfg0.win 19).blk t).view.read (Elt Ideal) A (ix4 0 h g j) = A (ix4 1 h g j) := by
  blk_point [(idx_bias t).2.2.2.1, idx_bias1 t]

theorem blk_b6 (A : S4x8x256x128.Idx → EReal) (t : Fin cfg0.N) (h : Fin 8) (g : Fin 256) (j : Fin 128) :
    ((cfg0.win 20).blk t).view.read (Elt Ideal) A (ix4 0 h g j) = A (ix4 1 h g j) := by
  blk_point [(idx_bias t).2.2.2.2, idx_bias1 t]

theorem blk_b0 (A : S4x8x256x128.Idx → EReal) (t : Fin cfg0.N) (h : Fin 8) (g : Fin 256) (j : Fin 128) (v : Fin 4)
    (hv : v.val = if t.val % 2 = 0 then 0 else 1) :
    ((cfg0.win 14).blk t).view.read (Elt Ideal) A (ix4 0 h g j) = A (ix4 v h g j) := by
  blk_point [idx_bias0 t, hv]

theorem blk_b7 (A : S4x8x256x128.Idx → EReal) (t : Fin cfg0.N) (h : Fin 8) (g : Fin 256) (j : Fin 128) (v : Fin 4)
    (hv : v.val = if t.val % 2 = 1 then 2 else 1) :
    ((cfg0.win 21).blk t).view.read (Elt Ideal) A (ix4 0 h g j) = A (ix4 v h g j) := by
  blk_point [idx_bias7 t, hv]

/-- A tile's bias is the variant's. -/
theorem pick_b (B : S4x8x256x128.Idx → EReal) (b0 b1 b2 b3 b4 b5 b6 b7 : Vec Ideal S1x8x256x128 .f32) (t : Fin 2)
    (h : Fin 8) (g : Fin 256) (j : Fin 128)
    (h0 : ∀ v : Fin 4, v.val = (if t.val = 0 then 0 else 1) → b0 (ix4 0 h g j) = B (ix4 v h g j))
    (h1 : b1 (ix4 0 h g j) = B (ix4 1 h g j)) (h2 : b2 (ix4 0 h g j) = B (ix4 1 h g j))
    (h3 : b3 (ix4 0 h g j) = B (ix4 1 h g j)) (h4 : b4 (ix4 0 h g j) = B (ix4 1 h g j))
    (h5 : b5 (ix4 0 h g j) = B (ix4 1 h g j)) (h6 : b6 (ix4 0 h g j) = B (ix4 1 h g j))
    (h7 : ∀ v : Fin 4, v.val = (if t.val = 1 then 2 else 1) → b7 (ix4 0 h g j) = B (ix4 v h g j)) (u : Fin 8) :
    (![b0, b1, b2, b3, b4, b5, b6, b7] : Fin 8 → Vec Ideal S1x8x256x128 .f32) u (ix4 0 h g j) = B (ix4 (variant t u) h g j) := by
  fin_cases u
  · exact h0 _ (by fin_cases t <;> rfl)
  · exact h1
  · exact h2
  · exact h3
  · exact h4
  · exact h5
  · exact h6
  · exact h7 _ (by fin_cases t <;> rfl)

end Cert.KernelIdeal.Tile
-- ==== Proof.Final.lean ====
/- THE KERNEL'S TWO RESULTS as sums over the arrays the kernel is called on. -/
module

public import proofs.«01_k».proof.Proof.Array

@[expose] public section

set_option maxRecDepth 16384

noncomputable section

namespace Cert.KernelIdeal.Tile

open Idealize.ShloMosaic Idealize.ShloMosaic.TcCoe Idealize.SL.Sem
open Idealize.ShloMosaic.Pipeline (Dat)
open Cert.KernelIdeal Cert.KernelIdeal.Gen

/-- Lane `e` of head `h` of residue `r`. -/
abbrev col (r : Fin 4) (h : Fin 8) (e : Fin 64) : Fin 2048 := ⟨512 * r.val + (64 * h.val + e.val), by omega⟩

/-- Key `j` of tile `u` of block `t`. -/
abbrev krow (t : Fin 2) (u : Fin 8) (j : Fin 128) : Fin 2048 := ⟨1024 * t.val + (128 * u.val + j.val), by omega⟩

/-- The row that query `g` of tile `u`'s window is read from. -/
abbrev qrow (t : Fin 2) (u : Fin 8) (g : Fin 256) : Fin 2048 := rowOf t ⟨128 * u.val + g.val, by omega⟩

/-- The exponential of a logit less its query's log-sum. -/
def pSum (K Q LS : S2048x2048.Idx → EReal) (B : S4x8x256x128.Idx → EReal) (r : Fin 4) (t : Fin 2) (u h : Fin 8)
    (g : Fin 256) (j : Fin 128) : EReal :=
  Ideal.exp ((∑ e : Fin 64, Q (ix2 (qrow t u g) (col r h e)) * K (ix2 (krow t u j) (col r h e)))
    + B (ix4 (variant t u) h g j) - LS (ix2 (qrow t u g) (col r h 0)))

/-- The gradient of `v` at a key. -/
def dvSum (K Q D LS : S2048x2048.Idx → EReal) (B : S4x8x256x128.Idx → EReal) (r : Fin 4) (t : Fin 2) (u : Fin 8)
    (j : Fin 128) (h : Fin 8) (e : Fin 64) : EReal :=
  ∑ g : Fin 256, pSum K Q LS B r t u h g j * D (ix2 (qrow t u g) (col r h e))

/-- The gradient of `k` at a key. -/
def dkSum (K V Q D LS CP : S2048x2048.Idx → EReal) (B : S4x8x256x128.Idx → EReal) (r : Fin 4) (t : Fin 2) (u : Fin 8)
    (j : Fin 128) (h : Fin 8) (e : Fin 64) : EReal :=
  ∑ g : Fin 256, pSum K Q LS B r t u h g j
    * ((∑ e' : Fin 64, D (ix2 (qrow t u g) (col r h e')) * V (ix2 (krow t u j) (col r h e')))
        + CP (ix2 (qrow t u g) (col r h 0)))
    * Q (ix2 (qrow t u g) (col r h e))

section Point
variable (K V Q D LS CP : S2048x2048.Idx → EReal) (B : S4x8x256x128.Idx → EReal) (t : Fin 2) (r : Fin 4)
  (x0 x1 : Vec Ideal S1024x512 .bf16) (q d : FVec Ideal S1152x512 .bf16) (ls cp : FVec Ideal S1152x512 .f32)
  (b : Fin 8 → Vec Ideal S1x8x256x128 .f32)
  (h0 : ∀ (j : Fin 1024) (l : Fin 512), x0 (ix2 j l) = K (ix2 ⟨1024 * t.val + j.val, by omega⟩ ⟨512 * r.val + l.val, by omega⟩))
  (h1 : ∀ (j : Fin 1024) (l : Fin 512), x1 (ix2 j l) = V (ix2 ⟨1024 * t.val + j.val, by omega⟩ ⟨512 * r.val + l.val, by omega⟩))
  (hq : ∀ (i : Fin 1152) (l : Fin 512), q (ix2 i l) = Q (ix2 (rowOf t i) ⟨512 * r.val + l.val, by omega⟩))
  (hd : ∀ (i : Fin 1152) (l : Fin 512), d (ix2 i l) = D (ix2 (rowOf t i) ⟨512 * r.val + l.val, by omega⟩))
  (hls : ∀ (i : Fin 1152) (l : Fin 512), ls (ix2 i l) = LS (ix2 (rowOf t i) ⟨512 * r.val + l.val, by omega⟩))
  (hcp : ∀ (i : Fin 1152) (l : Fin 512), cp (ix2 i l) = CP (ix2 (rowOf t i) ⟨512 * r.val + l.val, by omega⟩))
  (hb : ∀ (u h : Fin 8) (g : Fin 256) (j : Fin 128), b u (ix4 0 h g j) = B (ix4 (variant t u) h g j))

include h0 hq hls hb in
theorem expT_eq (u h : Fin 8) (g : Fin 256) (j : Fin 128) : expT q ls x0 b u h g j = pSum K Q LS B r t u h g j := by
  unfold expT pSum
  simp only [h0, hq, hls, hb]
  rfl

include h0 hq hd hls hb in
/-- What a point leaves of the gradient of `v`. -/
theorem dv_point (u h : Fin 8) (j : Fin 128) (e : Fin 64) :
    dvOut q d ls x0 b (ix2 ⟨128 * u.val + j.val, by omega⟩ ⟨64 * h.val + e.val, by omega⟩) = dvSum K Q D LS B r t u j h e := by
  rw [dvOut_at]
  unfold dvSum
  refine Finset.sum_congr rfl fun g _ => ?_
  rw [expT_eq K Q LS B t r x0 q ls b h0 hq hls hb, hd]

include h0 h1 hq hd hls hcp hb in
/-- What a point leaves of the gradient of `k`. -/
theorem dk_point (u h : Fin 8) (j : Fin 128) (e : Fin 64) :
    dkOut q d ls cp x0 x1 b (ix2 ⟨128 * u.val + j.val, by omega⟩ ⟨64 * h.val + e.val, by omega⟩)
      = dkSum K V Q D LS CP B r t u j h e := by
  rw [dkOut_at]
  unfold dkSum
  refine Finset.sum_congr rfl fun g _ => ?_
  unfold gradT
  rw [expT_eq K Q LS B t r x0 q ls b h0 hq hls hb, hq, hcp]
  simp only [hd, h1]
  rfl

end Point

theorem ld_halo {φ : EltTy} (x : Vec Ideal S64x512 φ) : View.ld x r0_0 = x := View.ld_unit_lit' _ x (by decide)

theorem ld_block {φ : EltTy} (x : Vec Ideal S1024x512 φ) : View.ld x r0_1 = x := View.ld_unit_lit' _ x (by decide)

/-- A point's residue and its block. -/
abbrev ptR (t : Fin cfg0.N) : Fin 4 := ⟨t.val / 2, by have : t.val < 8 := t.isLt; omega⟩

abbrev ptT (t : Fin cfg0.N) : Fin 2 := ⟨t.val % 2, by omega⟩

/-- A point's 1152 rows of the queries, from the blocks of its three windows. -/
theorem rows_win {φ : FTy} (A : FVec Ideal S2048x2048 φ) (a : FVec Ideal S64x512 φ) (b : FVec Ideal S1024x512 φ)
    (c : FVec Ideal S64x512 φ) (t : Fin cfg0.N)
    (ha : ∀ (j : Fin 64) (l : Fin 512) h0 h1, a (ix2 j l) = A (ix2 ⟨64 * (16 * (t.val % 2) - 1) + j.val, h0⟩ ⟨512 * (t.val / 2) + l.val, h1⟩))
    (hb : ∀ (j : Fin 1024) (l : Fin 512) h0 h1, b (ix2 j l) = A (ix2 ⟨1024 * (t.val % 2) + j.val, h0⟩ ⟨512 * (t.val / 2) + l.val, h1⟩))
    (hc : ∀ (j : Fin 64) (l : Fin 512) h0 h1, c (ix2 j l) = A (ix2 ⟨64 * min (16 * (t.val % 2) + 16) 31 + j.val, h0⟩ ⟨512 * (t.val / 2) + l.val, h1⟩))
    (i : Fin 1152) (l : Fin 512) :
    catQ (F := Ideal) (φ := φ) a b c (ix2 i l)
      = A (ix2 (rowOf (ptT t) i) ⟨512 * (ptR t).val + l.val, by dsimp only; have : t.val < 8 := t.isLt; omega⟩) := by
  refine rows_of A _ _ _ (ptT t) (ptR t) ha hb hc i l

/-- The point that writes a result's element, and the element's place in the point's block. -/
theorem emb_val (t : Fin cfg0.N) (y : S1024x512.Idx) :
    ((((cfg0.win 22).blk t).view.emb y) 0).val = 1024 * (t.val % 2) + (y 0).val
      ∧ ((((cfg0.win 22).blk t).view.emb y) 1).val = 512 * (t.val / 2) + (y 1).val
      ∧ ((((cfg0.win 23).blk t).view.emb y) 0).val = 1024 * (t.val % 2) + (y 0).val
      ∧ ((((cfg0.win 23).blk t).view.emb y) 1).val = 512 * (t.val / 2) + (y 1).val := by
  obtain ⟨-, -, -, -, -, h22, h23⟩ := idx_cur t
  refine ⟨?_, ?_, ?_, ?_⟩ <;> blk_simp [h22, h23, idx_key t] <;> try omega

section Blocks
variable (K V Q D LS CP : S2048x2048.Idx → EReal) (B : S4x8x256x128.Idx → EReal) (t : Fin cfg0.N)
  (u h : Fin 8) (j : Fin 128) (e : Fin 64)

/-- What point `t` leaves of the gradient of `v`, from the arrays. -/
theorem dv_blk :
    out0_23 (F := Ideal) (((cfg0.win 0).blk t).view.read (Elt Ideal) K) (((cfg0.win 1).blk t).view.read (Elt Ideal) V) (((cfg0.win 2).blk t).view.read (Elt Ideal) Q) (((cfg0.win 3).blk t).view.read (Elt Ideal) Q) (((cfg0.win 4).blk t).view.read (Elt Ideal) Q) (((cfg0.win 5).blk t).view.read (Elt Ideal) D) (((cfg0.win 6).blk t).view.read (Elt Ideal) D) (((cfg0.win 7).blk t).view.read (Elt Ideal) D) (((cfg0.win 8).blk t).view.read (Elt Ideal) LS) (((cfg0.win 9).blk t).view.read (Elt Ideal) LS) (((cfg0.win 10).blk t).view.read (Elt Ideal) LS) (((cfg0.win 11).blk t).view.read (Elt Ideal) CP) (((cfg0.win 12).blk t).view.read (Elt Ideal) CP) (((cfg0.win 13).blk t).view.read (Elt Ideal) CP) (((cfg0.win 14).blk t).view.read (Elt Ideal) B) (((cfg0.win 15).blk t).view.read (Elt Ideal) B) (((cfg0.win 16).blk t).view.read (Elt Ideal) B) (((cfg0.win 17).blk t).view.read (Elt Ideal) B) (((cfg0.win 18).blk t).view.read (Elt Ideal) B) (((cfg0.win 19).blk t).view.read (Elt Ideal) B) (((cfg0.win 20).blk t).view.read (Elt Ideal) B) (((cfg0.win 21).blk t).view.read (Elt Ideal) B)
      (ix2 ⟨128 * u.val + j.val, by omega⟩ ⟨64 * h.val + e.val, by omega⟩)
    = dvSum K Q D LS B (ptR t) (ptT t) u j h e := by
  rw [out23_eq]
  simp only [ld_halo, ld_block]
  exact dv_point K Q D LS B (ptT t) (ptR t) _ _ _ _ _ (fun j l => blk_k K t j l _ _)
    (rows_win (φ := .bf16) Q _ _ _ t (blk_q_prev Q t) (blk_q Q t) (blk_q_next Q t))
    (rows_win (φ := .bf16) D _ _ _ t (blk_d_prev D t) (blk_d D t) (blk_d_next D t))
    (rows_win (φ := .f32) LS _ _ _ t (blk_ls_prev LS t) (blk_ls LS t) (blk_ls_next LS t))
    (fun u h g j => pick_b B (((cfg0.win 14).blk t).view.read (Elt Ideal) B) (((cfg0.win 15).blk t).view.read (Elt Ideal) B) (((cfg0.win 16).blk t).view.read (Elt Ideal) B) (((cfg0.win 17).blk t).view.read (Elt Ideal) B) (((cfg0.win 18).blk t).view.read (Elt Ideal) B) (((cfg0.win 19).blk t).view.read (Elt Ideal) B) (((cfg0.win 20).blk t).view.read (Elt Ideal) B) (((cfg0.win 21).blk t).view.read (Elt Ideal) B) (ptT t) h g j
      (blk_b0 B t h g j) (blk_b1 B t h g j) (blk_b2 B t h g j) (blk_b3 B t h g j) (blk_b4 B t h g j) (blk_b5 B t h g j)
      (blk_b6 B t h g j) (blk_b7 B t h g j) u)
    u h j e

/-- What point `t` leaves of the gradient of `k`, from the arrays. -/
theorem dk_blk :
    out0_22 (F := Ideal) (((cfg0.win 0).blk t).view.read (Elt Ideal) K) (((cfg0.win 1).blk t).view.read (Elt Ideal) V) (((cfg0.win 2).blk t).view.read (Elt Ideal) Q) (((cfg0.win 3).blk t).view.read (Elt Ideal) Q) (((cfg0.win 4).blk t).view.read (Elt Ideal) Q) (((cfg0.win 5).blk t).view.read (Elt Ideal) D) (((cfg0.win 6).blk t).view.read (Elt Ideal) D) (((cfg0.win 7).blk t).view.read (Elt Ideal) D) (((cfg0.win 8).blk t).view.read (Elt Ideal) LS) (((cfg0.win 9).blk t).view.read (Elt Ideal) LS) (((cfg0.win 10).blk t).view.read (Elt Ideal) LS) (((cfg0.win 11).blk t).view.read (Elt Ideal) CP) (((cfg0.win 12).blk t).view.read (Elt Ideal) CP) (((cfg0.win 13).blk t).view.read (Elt Ideal) CP) (((cfg0.win 14).blk t).view.read (Elt Ideal) B) (((cfg0.win 15).blk t).view.read (Elt Ideal) B) (((cfg0.win 16).blk t).view.read (Elt Ideal) B) (((cfg0.win 17).blk t).view.read (Elt Ideal) B) (((cfg0.win 18).blk t).view.read (Elt Ideal) B) (((cfg0.win 19).blk t).view.read (Elt Ideal) B) (((cfg0.win 20).blk t).view.read (Elt Ideal) B) (((cfg0.win 21).blk t).view.read (Elt Ideal) B)
      (ix2 ⟨128 * u.val + j.val, by omega⟩ ⟨64 * h.val + e.val, by omega⟩)
    = dkSum K V Q D LS CP B (ptR t) (ptT t) u j h e := by
  rw [out22_eq]
  simp only [ld_halo, ld_block]
  exact dk_point K V Q D LS CP B (ptT t) (ptR t) _ _ _ _ _ _ _ (fun j l => blk_k K t j l _ _) (fun j l => blk_v V t j l _ _)
    (rows_win (φ := .bf16) Q _ _ _ t (blk_q_prev Q t) (blk_q Q t) (blk_q_next Q t))
    (rows_win (φ := .bf16) D _ _ _ t (blk_d_prev D t) (blk_d D t) (blk_d_next D t))
    (rows_win (φ := .f32) LS _ _ _ t (blk_ls_prev LS t) (blk_ls LS t) (blk_ls_next LS t))
    (rows_win (φ := .f32) CP _ _ _ t (blk_cp_prev CP t) (blk_cp CP t) (blk_cp_next CP t))
    (fun u h g j => pick_b B (((cfg0.win 14).blk t).view.read (Elt Ideal) B) (((cfg0.win 15).blk t).view.read (Elt Ideal) B) (((cfg0.win 16).blk t).view.read (Elt Ideal) B) (((cfg0.win 17).blk t).view.read (Elt Ideal) B) (((cfg0.win 18).blk t).view.read (Elt Ideal) B) (((cfg0.win 19).blk t).view.read (Elt Ideal) B) (((cfg0.win 20).blk t).view.read (Elt Ideal) B) (((cfg0.win 21).blk t).view.read (Elt Ideal) B) (ptT t) h g j
      (blk_b0 B t h g j) (blk_b1 B t h g j) (blk_b2 B t h g j) (blk_b3 B t h g j) (blk_b4 B t h g j) (blk_b5 B t h g j)
      (blk_b6 B t h g j) (blk_b7 B t h g j) u)
    u h j e

end Blocks

/-- The coordinates of an element of a result: its residue, block, tile and key, its head and lane. -/
def resI (i : S2048x2048.Idx) : Fin 4 := ⟨(i 1).val / 512, by have : (i 1).val < 2048 := (i 1).isLt; omega⟩
def blockI (i : S2048x2048.Idx) : Fin 2 := ⟨(i 0).val / 1024, by have : (i 0).val < 2048 := (i 0).isLt; omega⟩
def tileI (i : S2048x2048.Idx) : Fin 8 := ⟨(i 0).val % 1024 / 128, by omega⟩
def keyI (i : S2048x2048.Idx) : Fin 128 := ⟨(i 0).val % 128, by omega⟩
def headI (i : S2048x2048.Idx) : Fin 8 := ⟨(i 1).val % 512 / 64, by omega⟩
def laneI (i : S2048x2048.Idx) : Fin 64 := ⟨(i 1).val % 64, by omega⟩

theorem coords_eq (t : Fin cfg0.N) (i : S2048x2048.Idx) (a b : ℕ) (ha : a < 1024) (hb : b < 512)
    (h0 : (i 0).val = 1024 * (t.val % 2) + a) (h1 : (i 1).val = 512 * (t.val / 2) + b) :
    ptR t = resI i ∧ ptT t = blockI i ∧ (⟨a / 128, by omega⟩ : Fin 8) = tileI i ∧ (⟨a % 128, by omega⟩ : Fin 128) = keyI i
      ∧ (⟨b / 64, by omega⟩ : Fin 8) = headI i ∧ (⟨b % 64, by omega⟩ : Fin 64) = laneI i := by
  unfold resI blockI tileI keyI headI laneI
  refine ⟨?_, ?_, ?_, ?_, ?_, ?_⟩ <;> apply Fin.ext <;> dsimp only <;> omega

variable (m : (ℓ : Loc nD τ sig) → Buf (Elt Ideal) ℓ)

/-- The kernel's result for the gradient of `v`, element by element. -/
theorem dv_final (c : Dev nD) : (dats m 0 c).arrAt 23 cfg0.N = fun i : S2048x2048.Idx =>
    dvSum (V m c main_v144) (V m c main_v146) (V m c main_v147) (V m c main_v148) (V m c main_v143) (resI i) (blockI i) (tileI i) (keyI i) (headI i) (laneI i) := by
  refine (dats m 0 c).arrAt_eq_of_covers 23 _ (by decide +kernel) fun t hf y => ?_
  have h0 : (y 0).val < 1024 := (y 0).isLt
  have h1 : (y 1).val < 512 := (y 1).isLt
  obtain ⟨-, -, e0, e1⟩ := emb_val t y
  have hy : ix2 (n0 := 1024) (n1 := 512) ⟨128 * ((y 0).val / 128) + (y 0).val % 128, by omega⟩ ⟨64 * ((y 1).val / 64) + (y 1).val % 64, by omega⟩ = y := by
    funext a; apply Fin.ext; fin_cases a
    · show 128 * ((y 0).val / 128) + (y 0).val % 128 = (y 0).val; omega
    · show 64 * ((y 1).val / 64) + (y 1).val % 64 = (y 1).val; omega
  rw [cast_eq]
  generalize hz : (cfg0.win 23).xinj (cfg0.grid.coords t) y = z
  obtain rfl : z = ix2 (n0 := 1024) (n1 := 512) ⟨128 * ((y 0).val / 128) + (y 0).val % 128, by omega⟩ ⟨64 * ((y 1).val / 64) + (y 1).val % 64, by omega⟩ := hz.symm.trans hy.symm
  have key := dv_blk (V m c main_v144) (V m c main_v145) (V m c main_v146) (V m c main_v147) (V m c main_v148)
    (V m c main_v149) (V m c main_v143) t ⟨(y 0).val / 128, by omega⟩ ⟨(y 1).val / 64, by omega⟩
    ⟨(y 0).val % 128, by omega⟩ ⟨(y 1).val % 64, by omega⟩
  rw [after0_23]
  refine Eq.trans key ?_
  obtain ⟨c1, c2, c3, c4, c5, c6⟩ := coords_eq t ((((cfg0.win 23).blk t).view.emb y)) _ _ h0 h1 e0 e1
  exact congr (congr (congr (congr (congr (congrArg (fun x => dvSum (V m c main_v144) (V m c main_v146) (V m c main_v147) (V m c main_v148) (V m c main_v143) x) c1) c2) c3) c4) c5) c6

/-- The kernel's result for the gradient of `k`, element by element. -/
theorem dk_final (c : Dev nD) : (dats m 0 c).arrAt 22 cfg0.N = fun i : S2048x2048.Idx =>
    dkSum (V m c main_v144) (V m c main_v145) (V m c main_v146) (V m c main_v147) (V m c main_v148) (V m c main_v149) (V m c main_v143) (resI i) (blockI i) (tileI i) (keyI i) (headI i) (laneI i) := by
  refine (dats m 0 c).arrAt_eq_of_covers 22 _ (by decide +kernel) fun t hf y => ?_
  have h0 : (y 0).val < 1024 := (y 0).isLt
  have h1 : (y 1).val < 512 := (y 1).isLt
  obtain ⟨e0, e1, -, -⟩ := emb_val t y
  have hy : ix2 (n0 := 1024) (n1 := 512) ⟨128 * ((y 0).val / 128) + (y 0).val % 128, by omega⟩ ⟨64 * ((y 1).val / 64) + (y 1).val % 64, by omega⟩ = y := by
    funext a; apply Fin.ext; fin_cases a
    · show 128 * ((y 0).val / 128) + (y 0).val % 128 = (y 0).val; omega
    · show 64 * ((y 1).val / 64) + (y 1).val % 64 = (y 1).val; omega
  rw [cast_eq]
  generalize hz : (cfg0.win 22).xinj (cfg0.grid.coords t) y = z
  obtain rfl : z = ix2 (n0 := 1024) (n1 := 512) ⟨128 * ((y 0).val / 128) + (y 0).val % 128, by omega⟩ ⟨64 * ((y 1).val / 64) + (y 1).val % 64, by omega⟩ := hz.symm.trans hy.symm
  have key := dk_blk (V m c main_v144) (V m c main_v145) (V m c main_v146) (V m c main_v147) (V m c main_v148)
    (V m c main_v149) (V m c main_v143) t ⟨(y 0).val / 128, by omega⟩ ⟨(y 1).val / 64, by omega⟩
    ⟨(y 0).val % 128, by omega⟩ ⟨(y 1).val % 64, by omega⟩
  rw [after0_22]
  refine Eq.trans key ?_
  obtain ⟨c1, c2, c3, c4, c5, c6⟩ := coords_eq t ((((cfg0.win 22).blk t).view.emb y)) _ _ h0 h1 e0 e1
  exact congr (congr (congr (congr (congr (congrArg (fun x => dkSum (V m c main_v144) (V m c main_v145) (V m c main_v146) (V m c main_v147) (V m c main_v148) (V m c main_v149) (V m c main_v143) x) c1) c2) c3) c4) c5) c6

end Cert.KernelIdeal.Tile
-- ==== Proof.RefBase.lean ====
/- THE REFERENCE'S INTERMEDIATE ARRAYS, named at an index. -/
module
public import proofs.«01_k».proof.Proof.Gen.ReferenceIdeal.Run
public import Idealize.ShloMosaic.Lib.Pointwise
@[expose] public section
noncomputable section
namespace Cert.ReferenceIdeal.At
open Idealize.ShloMosaic Idealize.ShloMosaic.StableHlo Idealize.ShloMosaic.TcCoe Idealize.SL.Sem
open Cert.ReferenceIdeal Cert.ReferenceIdeal.Value Cert.ReferenceIdeal.Gen
set_option maxRecDepth 16384
variable (V0 : Valuation τ sig (Elt Ideal))
/-- The argument arrays. -/
abbrev aq : S8192x512.Idx → EReal := V0 (Proc.devRef .tc main_arg0)
abbrev ak : S8192x512.Idx → EReal := V0 (Proc.devRef .tc main_arg1)
abbrev av : S8192x512.Idx → EReal := V0 (Proc.devRef .tc main_arg2)
abbrev ado : S8192x512.Idx → EReal := V0 (Proc.devRef .tc main_arg3)
abbrev adl : S1x8192x8.Idx → EReal := V0 (Proc.devRef .tc main_arg4)
abbrev arb : S32x8.Idx → EReal := V0 (Proc.devRef .tc main_arg5)
variable (r : Fin 4) (h : Fin 8) (n : Fin 32) (i : Fin 64) (k : Fin 192) (e : Fin 64)
/-- The reference's intermediate arrays at a residue `r`, a head `h`, a block `n`, a query `i` and a key `k` of the block's band. -/
abbrev bMask : BitVec 1 := (res_main_v66_1 V0 : S1x4x8x32x64x192.Idx → BitVec 1) (ix6 0 r h n i k)
abbrev bQ : EReal := (res_main_v9 V0 : S1x4x8x32x64x64.Idx → EReal) (ix6 0 r h n i e)
abbrev bV : EReal := (res_main_v89 V0 : S1x4x8x32x192x64.Idx → EReal) (ix6 0 r h n k e)
abbrev bL : EReal := (res_main_v66_0 V0 : S1x4x8x32x64x192.Idx → EReal) (ix6 0 r h n i k)
abbrev bM : EReal := (res_main_v67 V0 : S1x4x8x32x64.Idx → EReal) (ix5 0 r h n i)
abbrev bEq : EReal := (res_main_v71 V0 : S1x4x8x32x64x192.Idx → EReal) (ix6 0 r h n i k)
abbrev bP : EReal := (res_main_v76 V0 : S1x4x8x32x64x192.Idx → EReal) (ix6 0 r h n i k)
abbrev bDen : EReal := (res_main_v78 V0 : S1x4x8x32x64x1.Idx → EReal) (ix6 0 r h n i 0)
abbrev bPV : EReal := (res_main_v90 V0 : S1x4x8x32x64x64.Idx → EReal) (ix6 0 r h n i e)
abbrev bDo : EReal := (res_main_v112 V0 : S1x4x8x32x64x64.Idx → EReal) (ix6 0 r h n i e)
abbrev bDl : EReal := (res_main_v113 V0 : S1x4x8x32x64x1.Idx → EReal) (ix6 0 r h n i 0)
abbrev bDn : EReal := (res_main_v123 V0 : S1x4x8x32x64x64.Idx → EReal) (ix6 0 r h n i e)
abbrev bDV : EReal := (res_main_v125 V0 : S1x4x8x32x192x64.Idx → EReal) (ix6 0 r h n k e)
abbrev bG : EReal := (res_main_v145 V0 : S1x4x8x32x64x192.Idx → EReal) (ix6 0 r h n i k)
abbrev bDK : EReal := (res_main_v157 V0 : S1x4x8x32x192x64.Idx → EReal) (ix6 0 r h n k e)
abbrev cDV (b : Fin 34) (j : Fin 64) : EReal := (res_main_v134 V0 : S1x4x8x34x64x64.Idx → EReal) (ix6 0 r h b j e)
abbrev cDK (b : Fin 34) (j : Fin 64) : EReal := (res_main_v166 V0 : S1x4x8x34x64x64.Idx → EReal) (ix6 0 r h b j e)

end Cert.ReferenceIdeal.At
-- ==== Proof.RefRead.lean ====
/- THE REFERENCE'S ARRAYS READ AT AN INDEX, each from the arrays it is computed of. -/
module
public import proofs.«01_k».proof.Proof.RefBase
@[expose] public section
noncomputable section
namespace Cert.ReferenceIdeal.At
open Idealize.ShloMosaic Idealize.ShloMosaic.TcCoe Idealize.ShloMosaic.StableHlo Idealize.SL.Sem
open Cert.ReferenceIdeal Cert.ReferenceIdeal.Value Cert.ReferenceIdeal.Gen
set_option maxRecDepth 16384
variable (V0 : Valuation τ sig (Elt Ideal))
variable (r : Fin 4) (h : Fin 8) (n : Fin 32) (i : Fin 64) (k : Fin 192) (e : Fin 64)
theorem row_congr (f : S8192x512.Idx → EReal) {a b : Nat} (ha : a < 8192) (hb : b < 8192) (c : Fin 512) (e : a = b) :
    f (ix2 ⟨a, ha⟩ c) = f (ix2 ⟨b, hb⟩ c) := by subst e; rfl
theorem v9_at : bQ V0 r h n i e = aq V0 (ix2 ⟨(64*n.val+i.val)*4+r.val, by omega⟩ ⟨h.val*64+e.val, by omega⟩) := by
  pointwise [bQ, res_main_v9]
  rw [dif_pos (by omega)]
  exact row_congr _ _ _ _ (by omega)
theorem v15_at (b : Fin 34) (i : Fin 64) : (res_main_v15 V0 : S1x4x8x34x64x64.Idx → EReal) (ix6 0 r h b i e) =
    (if hb : 64 ≤ 64 * b.val + i.val ∧ 64 * b.val + i.val < 2112 then ak V0 (ix2 ⟨(64*b.val+i.val-64)*4+r.val, by omega⟩ ⟨h.val*64+e.val, by omega⟩) else 0 : EReal) := by
  by_cases hb : 64 ≤ 64 * b.val + i.val ∧ 64 * b.val + i.val < 2112
  · refine Eq.trans ?_ (dif_pos hb).symm
    pointwise [res_main_v15, res_main_v14]
    split_ifs <;> first | omega | exact row_congr (ak V0) _ _ _ (by omega)
  · refine Eq.trans ?_ (dif_neg hb).symm
    pointwise [res_main_v15, res_main_v14]
    split_ifs <;> first | rfl | omega
theorem v27_at (b : Fin 34) (i : Fin 64): (res_main_v83 V0 : S1x4x8x34x64x64.Idx → EReal) (ix6 0 r h b i e) =
    (if hb : 64 ≤ 64 * b.val + i.val ∧ 64 * b.val + i.val < 2112 then av V0 (ix2 ⟨(64*b.val+i.val-64)*4+r.val, by omega⟩ ⟨h.val*64+e.val, by omega⟩) else 0 : EReal) := by
  by_cases hb : 64 ≤ 64 * b.val + i.val ∧ 64 * b.val + i.val < 2112
  · refine Eq.trans ?_ (dif_pos hb).symm
    pointwise [res_main_v83, res_main_v82]
    split_ifs <;> first | omega | exact row_congr (av V0) _ _ _ (by omega)
  · refine Eq.trans ?_ (dif_neg hb).symm
    pointwise [res_main_v83, res_main_v82]
    split_ifs <;> first | rfl | omega
theorem v33_at  : bV V0 r h n k e =
    if hb : 64 ≤ 64 * n.val + k.val ∧ 64 * n.val + k.val < 2112 then av V0 (ix2 ⟨(64*n.val+k.val-64)*4+r.val, by omega⟩ ⟨h.val*64+e.val, by omega⟩) else 0 := by
  pointwise [bV, res_main_v89]
  simp only [v27_at]
  by_cases hb : 64 ≤ 64 * n.val + k.val ∧ 64 * n.val + k.val < 2112
  · rw [dif_pos hb]
    split_ifs <;> first | omega | exact row_congr (av V0) _ _ _ (by omega)
  · rw [dif_neg hb]
    split_ifs <;> first | rfl | omega
theorem v112_at  : bDo V0 r h n i e = ado V0 (ix2 ⟨(64*n.val+i.val)*4+r.val, by omega⟩ ⟨h.val*64+e.val, by omega⟩) := by
  pointwise [bDo, res_main_v112]
  exact row_congr _ _ _ _ (by omega)
theorem v113_at  : bDl V0 r h n i = adl V0 (ix3 0 ⟨(64*n.val+i.val)*4+r.val, by omega⟩ h) := by
  pointwise [bDl, res_main_v113]
  have e : (⟨(n.val * 64 + i.val) * 4 + r.val, by omega⟩ : Fin 8192) = ⟨(64*n.val+i.val)*4+r.val, by omega⟩ := by
    apply Fin.ext; dsimp only; omega
  rw [e]
theorem ofBool_one (p : Prop) [Decidable p] : (BitVec.ofBool (decide p) = 1#1) ↔ p := by
  by_cases h : p <;> simp [h]
/-- The keys' band, as the logits read it. -/
abbrev kArr : S1x4x8x32x192x64.Idx → EReal := (concatenate S1x4x8x32x192x64 4 [⟨S1x4x8x32x64x64, ((extractStridedSlice S1x4x8x32x64x64 ![0, 0, 0, 0, 0, 0] (res_main_v15 V0) slices_S1x4x8x34x64x64_S1x4x8x32x64x64_0_0_0_0_0_0) : (⟨S1x4x8x32x64x64, .f32⟩ : BufTy).Contents (Elt Ideal))⟩, ⟨S1x4x8x32x64x64, ((extractStridedSlice S1x4x8x32x64x64 ![0, 0, 0, 1, 0, 0] (res_main_v15 V0) slices_S1x4x8x34x64x64_S1x4x8x32x64x64_0_0_0_1_0_0) : (⟨S1x4x8x32x64x64, .f32⟩ : BufTy).Contents (Elt Ideal))⟩, ⟨S1x4x8x32x64x64, ((extractStridedSlice S1x4x8x32x64x64 ![0, 0, 0, 2, 0, 0] (res_main_v15 V0) slices_S1x4x8x34x64x64_S1x4x8x32x64x64_0_0_0_2_0_0) : (⟨S1x4x8x32x64x64, .f32⟩ : BufTy).Contents (Elt Ideal))⟩] concatenates_S1x4x8x32x64x64_S1x4x8x32x64x64_S1x4x8x32x64x64_S1x4x8x32x192x64_d4 : (⟨S1x4x8x32x192x64, .f32⟩ : BufTy).Contents (Elt Ideal))
theorem kArr_at  : kArr V0 (ix6 0 r h n k e) =
    if hb : 64 ≤ 64 * n.val + k.val ∧ 64 * n.val + k.val < 2112 then ak V0 (ix2 ⟨(64*n.val+k.val-64)*4+r.val, by omega⟩ ⟨h.val*64+e.val, by omega⟩) else 0 := by
  pointwise [kArr]
  simp only [v15_at]
  by_cases hb : 64 ≤ 64 * n.val + k.val ∧ 64 * n.val + k.val < 2112
  · rw [dif_pos hb]
    split_ifs <;> first | omega | exact row_congr (ak V0) _ _ _ (by omega)
  · rw [dif_neg hb]
    split_ifs <;> first | rfl | omega

theorem v82_at  : bEq V0 r h n i k =  (FloatOps.uitofp (F := Ideal) FTy.f32 (BitVec.ofBool (decide (bL V0 r h n i k = bM V0 r h n i)))) := by
  pointwise [bEq, bL, bM, res_main_v71]
theorem v87_at  : bP V0 r h n i k = Ideal.exp (bL V0 r h n i k - bM V0 r h n i) := by
  pointwise [bP, bL, bM, res_main_v76, res_main_v73]
theorem v90_at  : bPV V0 r h n i e = ∑ k, bP V0 r h n i k * bV V0 r h n k e := by
  pointwise [bPV, bP, bV, res_main_v90]
theorem v123_at  : bDn V0 r h n i e = Ideal.div (bDo V0 r h n i e) (bDen V0 r h n i) := by
  pointwise [bDn, bDo, bDen, res_main_v123]
theorem v125_at  : bDV V0 r h n k e = ∑ i : Fin 64, bDn V0 r h n i e * bP V0 r h n i k := by
  pointwise [bDV, bDn, bP, res_main_v125]
theorem v151_at (b : Fin 34) (j : Fin 64) : cDV V0 r h e b j =
 (((if h_1 : 2 ≤ b.val ∧ b.val - 2 < 32 then bDV V0 r h ⟨b.val - 2, by omega⟩ ⟨128 + j.val, by omega⟩ e else 0) +
        if h_1 : 1 ≤ b.val ∧ b.val - 1 < 32 then bDV V0 r h ⟨b.val - 1, by omega⟩ ⟨64 + j.val, by omega⟩ e else 0) +
      if h_1 : b.val < 32 then bDV V0 r h ⟨b.val, by omega⟩ ⟨j.val, by omega⟩ e else 0) := by
  pointwise [cDV, bDV, res_main_v134]
theorem v166_at (b : Fin 34) (j : Fin 64) : cDK V0 r h e b j =
 (((if h_1 : 2 ≤ b.val ∧ b.val - 2 < 32 then bDK V0 r h ⟨b.val - 2, by omega⟩ ⟨128 + j.val, by omega⟩ e else 0) +
        if h_1 : 1 ≤ b.val ∧ b.val - 1 < 32 then bDK V0 r h ⟨b.val - 1, by omega⟩ ⟨64 + j.val, by omega⟩ e else 0) +
      if h_1 : b.val < 32 then bDK V0 r h ⟨b.val, by omega⟩ ⟨j.val, by omega⟩ e else 0) := by
  pointwise [cDK, bDK, res_main_v166]

theorem fiber5 (j : S1x4x8x32x64.Idx) (x : S1x4x8x32x64x192.Idx) :
    reducesTo_S1x4x8x32x64x192_S1x4x8x32x64_d5.drop x = j ↔ ∃ k : Fin 192, ix6 (j 0) (j 1) (j 2) (j 3) (j 4) k = x := by
  constructor
  · intro e
    refine ⟨x 5, ?_⟩
    subst e
    funext a
    match a with
    | ⟨0, _⟩ => rfl
    | ⟨1, _⟩ => rfl
    | ⟨2, _⟩ => rfl
    | ⟨3, _⟩ => rfl
    | ⟨4, _⟩ => rfl
    | ⟨5, _⟩ => rfl
  · rintro ⟨k, rfl⟩
    funext b
    match b with
    | ⟨0, _⟩ => rfl
    | ⟨1, _⟩ => rfl
    | ⟨2, _⟩ => rfl
    | ⟨3, _⟩ => rfl
    | ⟨4, _⟩ => rfl
theorem last_inj : Function.Injective (fun k : Fin 192 => (ix6 0 r h n i k : S1x4x8x32x64x192.Idx)) := fun a b e => by
  have := congrFun e 5
  exact this
theorem sum5 (v : S1x4x8x32x64x192.Idx → EReal) (init : EReal) :
    Ideal.hostReduceAdd reducesTo_S1x4x8x32x64x192_S1x4x8x32x64_d5 v init (ix5 0 r h n i) = init + ∑ k, v (ix6 0 r h n i k) :=
  congrArg (init + ·) (Finset.sum_filter_eq_sum_of_fiber _ (fun k : Fin 192 => ix6 0 r h n i k) (last_inj r h n i) (fiber5 (ix5 0 r h n i)) v)
theorem max5 (b : EReal) (v : S1x4x8x32x64x192.Idx → EReal) :
    (Finset.univ.filter (fun x => reducesTo_S1x4x8x32x64x192_S1x4x8x32x64_d5.drop x = ix5 0 r h n i)).fold max b v
      = (Finset.univ : Finset (Fin 192)).fold max b (fun k => v (ix6 0 r h n i k)) :=
  Finset.fold_filter_eq_fold_of_fiber max _ (fun k : Fin 192 => ix6 0 r h n i k) (last_inj r h n i) (fiber5 (ix5 0 r h n i)) b v
theorem fiber5e (j : S1x4x8x32x64.Idx) (x : S1x4x8x32x64x64.Idx) :
    reducesTo_S1x4x8x32x64x64_S1x4x8x32x64_d5.drop x = j ↔ ∃ k : Fin 64, ix6 (j 0) (j 1) (j 2) (j 3) (j 4) k = x := by
  constructor
  · intro e
    refine ⟨x 5, ?_⟩
    subst e
    funext a
    match a with
    | ⟨0, _⟩ => rfl
    | ⟨1, _⟩ => rfl
    | ⟨2, _⟩ => rfl
    | ⟨3, _⟩ => rfl
    | ⟨4, _⟩ => rfl
    | ⟨5, _⟩ => rfl
  · rintro ⟨k, rfl⟩
    funext b
    match b with
    | ⟨0, _⟩ => rfl
    | ⟨1, _⟩ => rfl
    | ⟨2, _⟩ => rfl
    | ⟨3, _⟩ => rfl
    | ⟨4, _⟩ => rfl
theorem laste_inj : Function.Injective (fun k : Fin 64 => (ix6 0 r h n i k : S1x4x8x32x64x64.Idx)) := fun a b e => by
  have := congrFun e 5
  exact this
theorem sum5e (v : S1x4x8x32x64x64.Idx → EReal) (init : EReal) :
    Ideal.hostReduceAdd reducesTo_S1x4x8x32x64x64_S1x4x8x32x64_d5 v init (ix5 0 r h n i) = init + ∑ k, v (ix6 0 r h n i k) :=
  congrArg (init + ·) (Finset.sum_filter_eq_sum_of_fiber _ (fun k : Fin 64 => ix6 0 r h n i k) (laste_inj r h n i) (fiber5e (ix5 0 r h n i)) v)
theorem one5 (v : S1x4x8x32x64x1.Idx → EReal) (init : EReal) :
    Ideal.hostReduceAdd reducesTo_S1x4x8x32x64x1_S4x8x32x64_d0_5 v init (ix4 r h n i) = init + v (ix6 0 r h n i 0) := by
  refine congrArg (init + ·) ?_
  rw [show (Finset.univ.filter (fun x => reducesTo_S1x4x8x32x64x1_S4x8x32x64_d0_5.drop x = ix4 r h n i)) = {ix6 0 r h n i 0} from ?_]
  · exact Finset.sum_singleton _ _
  · ext x
    rw [Finset.mem_filter, Finset.mem_singleton]
    constructor
    · rintro ⟨_, e⟩
      funext a
      match a with
      | ⟨0, _⟩ => exact Subsingleton.elim (α := Fin 1) _ _
      | ⟨1, _⟩ => exact congrFun e 0
      | ⟨2, _⟩ => exact congrFun e 1
      | ⟨3, _⟩ => exact congrFun e 2
      | ⟨4, _⟩ => exact congrFun e 3
      | ⟨5, _⟩ => exact Subsingleton.elim (α := Fin 1) _ _
    · rintro rfl
      refine ⟨Finset.mem_univ _, ?_⟩
      funext b
      match b with
      | ⟨0, _⟩ => rfl
      | ⟨1, _⟩ => rfl
      | ⟨2, _⟩ => rfl
      | ⟨3, _⟩ => rfl
theorem v78_at : bM V0 r h n i = (Finset.univ : Finset (Fin 192)).fold max ⊥ (fun k => bL V0 r h n i k) := by
  pointwise [bM, res_main_v67]
  refine (max5 r h n i (Ideal.ofBits FTy.f32 4286578688#32) _).trans ?_
  rw [show Ideal.ofBits FTy.f32 4286578688#32 = ⊥ from by simp [Ideal.ofBits, Ideal.ieee]]
theorem v89_at : bDen V0 r h n i = ∑ k, bP V0 r h n i k := by
  pointwise [bDen, bP, res_main_v78]
  rw [sum5]
  exact zero_add _
theorem v131_at  : bG V0 r h n i k = (∑ x, bDn V0 r h n i x * bV V0 r h n k x +
        (Ideal.div (bDl V0 r h n i) (bDen V0 r h n i) +
          -∑ x, bDo V0 r h n i x * Ideal.div 1 (bDen V0 r h n i * bDen V0 r h n i) * bPV V0 r h n i x)) * bP V0 r h n i k := by
  pointwise [bG, bDn, bV, bDl, bDen, bDo, bPV, bP, res_main_v145]
  rw [one5]
  pointwise
  rw [sum5e]
  pointwise
theorem v143_at  : bDK V0 r h n k e = ∑ x : Fin 64,
      Scalar.select (bMask V0 r h n x k)
        ((bG V0 r h n x k +
            Ideal.div (bDl V0 r h n x + ∑ y, -bG V0 r h n x y) (∑ y, bEq V0 r h n x y) * bEq V0 r h n x k) * bQ V0 r h n x e)
        0 := by
  pointwise [bDK, bG, bDl, bEq, bQ, bMask, res_main_v157]
  simp only [one5, sum5]
  pointwise
  simp only [sum5]
  pointwise

end Cert.ReferenceIdeal.At
-- ==== Proof.RefLogit.lean ====
/- THE REFERENCE'S LOGITS: a query against a key of its band, plus the bias of their distance. -/
module
public import proofs.«01_k».proof.Proof.RefRead
@[expose] public section
noncomputable section
namespace Cert.ReferenceIdeal.At
open Idealize.ShloMosaic Idealize.ShloMosaic.TcCoe Idealize.ShloMosaic.StableHlo Idealize.SL.Sem
open Cert.ReferenceIdeal Cert.ReferenceIdeal.Value Cert.ReferenceIdeal.Gen
set_option maxRecDepth 16384
variable (V0 : Valuation τ sig (Elt Ideal))
variable (r : Fin 4) (h : Fin 8) (n : Fin 32) (i : Fin 64) (k : Fin 192) (e : Fin 64)
theorem gather_at (x : S32x8.Idx → EReal) (idx : S64x192x1.Idx → BitVec 32) :
    Host.gather gather_S32x8_S64x192x1_S64x192x8_2_0_n_n_0_2_18 x idx (ix3 i k h)
      = x (ix2 ⟨min (idx (ix3 i k 0)).toInt.toNat 31, by omega⟩ h) := by
  have es : gather_S32x8_S64x192x1_S64x192x8_2_0_n_n_0_2_18.siIdx (ix3 i k h) ⟨0, by decide⟩ = (ix3 i k 0 : S64x192x1.Idx) := by
      funext b
      match b with
      | ⟨0, _⟩ => rfl
      | ⟨1, _⟩ => rfl
      | ⟨2, _⟩ => rfl
  unfold Host.gather
  congr 1
  funext a
  match a with
  | ⟨0, _⟩ =>
    apply Fin.ext
    show _ + _ + _ = min (idx (ix3 i k 0)).toInt.toNat 31
    rw [← es]
    rfl
  | ⟨1, _⟩ =>
    apply Fin.ext
    show gather_S32x8_S64x192x1_S64x192x8_2_0_n_n_0_2_18.start (ix3 i k h) idx 1 + gather_S32x8_S64x192x1_S64x192x8_2_0_n_n_0_2_18.batchCoord (ix3 i k h) 1 + gather_S32x8_S64x192x1_S64x192x8_2_0_n_n_0_2_18.offCoord (ix3 i k h) 1 = h.val
    rw [GatherDims.start, dif_neg (by decide), GatherDims.batchCoord_eq_zero _ _ _ (by decide), GatherDims.offCoord, dif_pos (by decide)]
    exact Nat.zero_add _
theorem rm_val (i : Fin 64) (k : Fin 192) : (S64x192.rowMajor (ix2 i k)).val = 192 * i.val + k.val := by
  rw [Shape.rowMajor_val_two]
  show i.val * 192 + k.val = 192 * i.val + k.val
  omega
/-- The gathered bias: a row of the table, at the head. -/
theorem bias_at (h : Fin 8) (i : Fin 64) (k : Fin 192):
   Host.gather gather_S32x8_S64x192x1_S64x192x8_2_0_n_n_0_2_18 (V0 (Proc.devRef .tc main_arg5))
          (broadcastInDim S64x192x1 ![0, 1] bcast_S64x192_S64x192x1_0_1
            (select (constantI S64x192 1 0#1)
              (addi (res_main_c V0) (broadcastInDim S64x192 ![] bcast_S_S64x192 (constantI S_ 32 32#32)))
              (res_main_c V0)))
          (ix3 i k h) = arb V0 (ix2 ⟨min (lit0 ⟨192 * i.val + k.val, by show _ < 12288; omega⟩).toInt.toNat 31, by omega⟩ h) := by
  rw [gather_at]
  have : (broadcastInDim S64x192x1 ![0, 1] bcast_S64x192_S64x192x1_0_1
            (select (constantI S64x192 1 0#1)
              (addi (res_main_c V0) (broadcastInDim S64x192 ![] bcast_S_S64x192 (constantI S_ 32 32#32)))
              (res_main_c V0)) : S64x192x1.Idx → BitVec 32) (ix3 i k 0) = lit0 ⟨192 * i.val + k.val, by show _ < 12288; omega⟩ := by
    pointwise [res_main_c]
    apply congrArg lit0
    apply Fin.ext
    exact rm_val i k
  apply congrArg (fun w => arb V0 (ix2 w h))
  apply Fin.ext
  dsimp only
  rw [this]

theorem logit_arr (K : S1x4x8x32x192x64.Idx → EReal) (G : S64x192x8.Idx → EReal) : (select (res_main_v66_1 V0) (addf (Host.dotGeneral (F := Ideal) (φ₁ := .f32) (φ₂ := .f32) dot_S1x4x8x32x64x64_S1x4x8x32x192x64_S1x4x8x32x64x192_5_5_4_4_0123_0123 none (res_main_v9 V0) K) (broadcastInDim S1x4x8x32x64x192 ![0, 1, 2, 3, 4, 5] bcast_S1x1x8x1x64x192_S1x4x8x32x64x192_0_1_2_3_4_5 (broadcastInDim S1x1x8x1x64x192 ![2, 3, 4, 5] bcast_S8x1x64x192_S1x1x8x1x64x192_2_3_4_5 (broadcastInDim S8x1x64x192 ![0, 2, 3] bcast_S8x64x192_S8x1x64x192_0_2_3 (transpose S8x64x192 [2, 0, 1] G transposes_S64x192x8_S8x64x192_2_0_1))))) (broadcastInDim S1x4x8x32x64x192 ![] bcast_S_S1x4x8x32x64x192 (constant S_ .f32 0xFF800000#32)) : FVec Ideal S1x4x8x32x64x192 .f32) (ix6 0 r h n i k) = Scalar.select (bMask V0 r h n i k) (∑ x, bQ V0 r h n i x * K (ix6 0 r h n k x) + G (ix3 i k h)) (⊥ : EReal) := by
  pointwise
  rw [show Ideal.ofBits FTy.f32 4286578688#32 = ⊥ from by simp [Ideal.ofBits, Ideal.ieee]]

theorem v77_at : bL V0 r h n i k = Scalar.select (bMask V0 r h n i k) (∑ x, bQ V0 r h n i x * kArr V0 (ix6 0 r h n k x) +
    arb V0 (ix2 ⟨min (lit0 ⟨192 * i.val + k.val, by show _ < 12288; omega⟩).toInt.toNat 31, by omega⟩ h)) (⊥ : EReal) := by
  rw [← bias_at]
  exact logit_arr V0 r h n i k (kArr V0) _

end Cert.ReferenceIdeal.At
-- ==== Proof.RefMask.lean ====
/- THE REFERENCE'S MASK: which keys of its band a query sees. -/
module
public import proofs.«01_k».proof.Proof.RefBase
@[expose] public section
noncomputable section
namespace Cert.ReferenceIdeal.At
open Idealize.ShloMosaic Idealize.ShloMosaic.TcCoe Idealize.ShloMosaic.StableHlo Idealize.SL.Sem
open Cert.ReferenceIdeal Cert.ReferenceIdeal.Value Cert.ReferenceIdeal.Gen
set_option maxRecDepth 16384
variable (V0 : Valuation τ sig (Elt Ideal))
variable (r : Fin 4) (h : Fin 8) (n : Fin 32) (i : Fin 64) (k : Fin 192) (e : Fin 64)
theorem near_word : ∀ (i : Fin 64) (k : Fin 192),
     IntOp.cmpi CmpIPredicate.sle
          (IntOp.absi (IntOp.subi (IntOp.subi (BitVec.ofNat 32 k.val) 64#32) (BitVec.ofNat 32 i.val))) 64#32 = BitVec.ofBool (decide (i.val ≤ k.val ∧ k.val ≤ i.val + 128)) := by
  decide +kernel
theorem ge_word : ∀ (n : Fin 32) (k : Fin 192),
    IntOp.cmpi CmpIPredicate.sge
          (IntOp.addi (IntOp.muli (IntOp.subi (BitVec.ofNat 32 n.val) 1#32) 64#32) (BitVec.ofNat 32 k.val)) 0#32 = BitVec.ofBool (decide (64 ≤ 64 * n.val + k.val)) := by
  decide +kernel
theorem lt_word : ∀ (n : Fin 32) (k : Fin 192),
    IntOp.cmpi CmpIPredicate.slt
          (IntOp.addi (IntOp.muli (IntOp.subi (BitVec.ofNat 32 n.val) 1#32) 64#32) (BitVec.ofNat 32 k.val)) 2048#32 = BitVec.ofBool (decide (64 * n.val + k.val < 2112)) := by
  decide +kernel
theorem mask_at  : bMask V0 r h n i k =
   BitVec.ofBool (decide (i.val ≤ k.val ∧ k.val ≤ i.val + 128 ∧ 64 ≤ 64 * n.val + k.val ∧ 64 * n.val + k.val < 2112)) := by
  pointwise [bMask, res_main_v66_1, res_main_v26, res_main_v41]
  rw [near_word, ge_word, lt_word]
  by_cases h1 : i.val ≤ k.val <;> by_cases h2 : k.val ≤ i.val + 128 <;> by_cases h3 : 64 ≤ 64 * n.val + k.val <;> by_cases h4 : 64 * n.val + k.val < 2112 <;> simp only [h1, h2, h3, h4, and_self, and_true, true_and, and_false, false_and, decide_true, decide_false] <;> rfl

end Cert.ReferenceIdeal.At
-- ==== Proof.HostA.lean ====
/- THE KERNEL'S HOST CODE, FIRST PART: the buffers before its launch, at an index; the logits and the values' band. -/
module
public import proofs.«01_k».proof.Proof.Final
public import proofs.«01_k».proof.Proof.RefLogit
public import proofs.«01_k».proof.Proof.RefMask
public import Idealize.ShloMosaic.Lib.StableHlo.ReadAt
@[expose] public section
noncomputable section
namespace Cert.KernelIdeal.Host
open Idealize.ShloMosaic Idealize.ShloMosaic.TcCoe Idealize.SL.Sem Idealize.ShloMosaic.StableHlo
open Cert.KernelIdeal Cert.KernelIdeal.Gen
set_option maxRecDepth 16384
variable (W : Valuation τ sig (Elt Ideal))
/-- The host line up to the logits, then two short stretches, then the rest. -/
abbrev headA : List (HloOp τ sig (Elt Ideal)) := List.flatten [hostOps0, hostOps0_1, hostOps0_2, hostOps0_3, hostOps0_4, hostOps0_5]
abbrev headB : List (HloOp τ sig (Elt Ideal)) := List.flatten [hostOps0_6, hostOps0_7]
abbrev mid1 : List (HloOp τ sig (Elt Ideal)) := List.take 6 hostOps0_8
abbrev mid2 : List (HloOp τ sig (Elt Ideal)) := List.take 8 (List.drop 6 hostOps0_8)
abbrev tail : List (HloOp τ sig (Elt Ideal)) := List.flatten [List.drop 14 hostOps0_8, hostOps0_9, hostOps0_10]
abbrev kq : S8192x512.Idx → EReal := W (Proc.devRef .tc main_arg0)
abbrev kk : S8192x512.Idx → EReal := W (Proc.devRef .tc main_arg1)
abbrev kv : S8192x512.Idx → EReal := W (Proc.devRef .tc main_arg2)
abbrev kdo : S8192x512.Idx → EReal := W (Proc.devRef .tc main_arg3)
abbrev kdl : S1x8192x8.Idx → EReal := W (Proc.devRef .tc main_arg4)
abbrev krb : S32x8.Idx → EReal := W (Proc.devRef .tc main_arg5)
variable (r : Fin 4) (h : Fin 8) (n : Fin 32) (i : Fin 64) (e : Fin 64) (k : Fin 192)
open Cert.ReferenceIdeal.At (near_word ge_word lt_word gather_at rm_val row_congr)
theorem zero_word : (FloatOps.sitofp (F := Ideal) FTy.f32 0#32 : EReal) = 0 := by
  simp [FloatOps.sitofp]
theorem ix2_congr {a b : Nat} {X : (⟨2, ![a, b]⟩ : Shape).Idx → EReal} {x x' : Fin a} {y y' : Fin b} (hx : x.val = x'.val) (hy : y.val = y'.val) :
    X (ix2 x y) = X (ix2 x' y') := by
  rw [Fin.ext hx, Fin.ext hy]
theorem band_if (f : S8192x512.Idx → EReal) (z : EReal) (hz : z = 0) :
   (if h_1 : k.val < 64 then
      if h_0 : n.val < 1 then 0
      else
        if h_2 : n.val - 1 < 32 then
          if h_3 : (n.val - 1) * 64 + k.val < 2048 then
            f (ix2 ⟨((n.val - 1) * 64 + k.val) * 4 + r.val, by omega⟩ ⟨h.val * 64 + e.val, by omega⟩)
          else z
        else 0
    else
      if h_2 : k.val - 64 < 64 then
        if h_3 : n.val * 64 + (k.val - 64) < 2048 then
          f (ix2 ⟨(n.val * 64 + (k.val - 64)) * 4 + r.val, by omega⟩ ⟨h.val * 64 + e.val, by omega⟩)
        else z
      else
        if h_0 : 2 + n.val < 1 then 0
        else
          if h_3 : 2 + n.val - 1 < 32 then
            if h_4 : (2 + n.val - 1) * 64 + (k.val - 64 - 64) < 2048 then
              f (ix2 ⟨((2 + n.val - 1) * 64 + (k.val - 64 - 64)) * 4 + r.val, by omega⟩ ⟨h.val * 64 + e.val, by omega⟩)
            else z
          else 0) = (if hb : 64 ≤ 64 * n.val + k.val ∧ 64 * n.val + k.val < 2112 then f (ix2 ⟨(64*n.val+k.val-64)*4+r.val, by omega⟩ ⟨h.val*64+e.val, by omega⟩) else 0) := by
  subst hz
  by_cases hb : 64 ≤ 64 * n.val + k.val ∧ 64 * n.val + k.val < 2112
  · refine Eq.trans ?_ (dif_pos hb).symm
    split_ifs <;> first | (exfalso; omega) | exact row_congr f _ _ _ (by omega)
  · refine Eq.trans ?_ (dif_neg hb).symm
    split_ifs <;> first | rfl | (exfalso; omega)
abbrev w73 : S1x4x8x32x64x192.Idx → EReal := W (Proc.devRef .tc main_v73)
abbrev w9 : S1x4x8x32x64x64.Idx → EReal := W (Proc.devRef .tc main_v9)
abbrev w19 : S1x4x8x32x192x64.Idx → EReal := W (Proc.devRef .tc main_v19)
abbrev w29 : S1x4x8x32x192x64.Idx → EReal := W (Proc.devRef .tc main_v29)
abbrev w22 : S1x4x8x2048x64.Idx → EReal := W (Proc.devRef .tc main_v22)
theorem headA_v22 (p : Fin 2048) : w22 (after headA W) (ix5 0 r h p e) = kv W (ix2 ⟨p.val*4+r.val, by omega⟩ ⟨h.val*64+e.val, by omega⟩) := by
  unfold w22 headA
  after_reads_at
theorem headA_v19 : w19 (after headA W) (ix6 0 r h n k e) = (if hb : 64 ≤ 64 * n.val + k.val ∧ 64 * n.val + k.val < 2112 then kk W (ix2 ⟨(64*n.val+k.val-64)*4+r.val, by omega⟩ ⟨h.val*64+e.val, by omega⟩) else 0) := by
  generalize hR : (if hb : 64 ≤ 64 * n.val + k.val ∧ 64 * n.val + k.val < 2112 then kk W (ix2 ⟨(64*n.val+k.val-64)*4+r.val, by omega⟩ ⟨h.val*64+e.val, by omega⟩) else 0) = R
  unfold w19 headA
  after_reads_at
  after_reads_at
  after_reads_at
  exact (band_if r h n e k (kk W) _ zero_word).trans hR
theorem headA_v9 : w9 (after headA W) (ix6 0 r h n i e) = kq W (ix2 ⟨(64*n.val+i.val)*4+r.val, by omega⟩ ⟨h.val*64+e.val, by omega⟩) := by
  generalize hR : kq W _ = R
  unfold w9 headA
  after_reads_at
  rw [dif_pos (show n.val * 64 + i.val < 2048 by omega)]
  exact (row_congr (kq W) _ _ _ (by omega)).trans hR
theorem band_if' (f : S8192x512.Idx → EReal) (F : S1x4x8x2048x64.Idx → EReal)
    (hF : ∀ p : Fin 2048, F (ix5 0 r h p e) = f (ix2 ⟨p.val*4+r.val, by omega⟩ ⟨h.val*64+e.val, by omega⟩)) :
   (if h_1 : k.val < 64 then
      if h_0 : n.val < 1 then 0
      else
        if h_2 : n.val - 1 < 32 then F (ix5 0 r h ⟨(n.val - 1) * 64 + k.val, by omega⟩ e)
        else 0
    else
      if h_2 : k.val - 64 < 64 then F (ix5 0 r h ⟨n.val * 64 + (k.val - 64), by omega⟩ e)
      else
        if h_0 : 2 + n.val < 1 then 0
        else
          if h_3 : 2 + n.val - 1 < 32 then F (ix5 0 r h ⟨(2 + n.val - 1) * 64 + (k.val - 64 - 64), by omega⟩ e)
          else 0) = (if hb : 64 ≤ 64 * n.val + k.val ∧ 64 * n.val + k.val < 2112 then f (ix2 ⟨(64*n.val+k.val-64)*4+r.val, by omega⟩ ⟨h.val*64+e.val, by omega⟩) else 0) := by
  simp only [hF]
  by_cases hb : 64 ≤ 64 * n.val + k.val ∧ 64 * n.val + k.val < 2112
  · refine Eq.trans ?_ (dif_pos hb).symm
    split_ifs <;> first | (exfalso; omega) | exact row_congr f _ _ _ (by omega)
  · refine Eq.trans ?_ (dif_neg hb).symm
    split_ifs <;> first | rfl | (exfalso; omega)
theorem headB_v29 (f : S8192x512.Idx → EReal)
    (hF : ∀ p : Fin 2048, w22 W (ix5 0 r h p e) = f (ix2 ⟨p.val*4+r.val, by omega⟩ ⟨h.val*64+e.val, by omega⟩)) : w29 (after headB W) (ix6 0 r h n k e) = (if hb : 64 ≤ 64 * n.val + k.val ∧ 64 * n.val + k.val < 2112 then f (ix2 ⟨(64*n.val+k.val-64)*4+r.val, by omega⟩ ⟨h.val*64+e.val, by omega⟩) else 0) := by
  refine Eq.trans ?_ (band_if' r h n e k f (w22 W) hF)
  unfold w29 headB
  after_reads_at
  after_reads_at
  after_reads_at
abbrev wc : S64x192.Idx → BitVec 32 := W (Proc.devRef .tc main_c)
abbrev wc0 : S64x192.Idx → BitVec 1 := W (Proc.devRef .tc main_c_0)
theorem headA_c : wc (after headA W) = fun i => lit0 (S64x192.rowMajor i) := by
  unfold wc headA
  after_reads_simp
  rfl
theorem headA_c0 : wc0 (after headA W) = constantI S64x192 1 0#1 := by
  unfold wc0 headA
  after_reads_simp
theorem c1_at (j : S32768x1.Idx) : ((after mid2 (after mid1 (after headB (after headA W)))) (Proc.devRef .tc main_c_1) : S32768x1.Idx → BitVec 32) j = lit1 (S32768x1.rowMajor j) := by
  unfold mid2 mid1 headB headA
  after_reads_at
theorem kq_kept : kq (after mid2 (after mid1 (after headB (after headA W)))) = kq W := by
  unfold kq mid2 mid1 headB headA
  after_reads_simp
theorem kk_kept : kk (after mid2 (after mid1 (after headB (after headA W)))) = kk W := by
  unfold kk mid2 mid1 headB headA
  after_reads_simp
theorem kv_kept : kv (after mid2 (after mid1 (after headB (after headA W)))) = kv W := by
  unfold kv mid2 mid1 headB headA
  after_reads_simp
theorem kdo_kept : kdo (after mid2 (after mid1 (after headB (after headA W)))) = kdo W := by
  unfold kdo mid2 mid1 headB headA
  after_reads_simp
theorem kdl_kept : kdl (after mid2 (after mid1 (after headB (after headA W)))) = kdl W := by
  unfold kdl mid2 mid1 headB headA
  after_reads_simp
theorem krb_kept : krb (after mid2 (after mid1 (after headB (after headA W)))) = krb W := by
  unfold krb mid2 mid1 headB headA
  after_reads_simp
theorem krb_keptA : krb (after headA W) = krb W := by
  unfold krb headA
  after_reads_simp
theorem run_append (l₁ l₂ : List (HloOp τ sig (Elt Ideal))) : after (l₁ ++ l₂) W = after l₂ (after l₁ W) := by
  induction l₁ generalizing W with
  | nil => rfl
  | cons op l ih => exact ih _
/-- The buffers at the launch, in five stretches. -/
theorem V_eq (m : (ℓ : Loc nD τ sig) → Buf (Elt Ideal) ℓ) (c : Dev nD) (b : Ref sig .tc) :
    V m c b = after tail (after mid2 (after mid1 (after headB (after headA (fun b => m (c, b)))))) b := by
  rw [← run_append, ← run_append, ← run_append, ← run_append]
  rfl
theorem mask_word :
      (IntOp.andi
        (IntOp.andi
          (IntOp.cmpi CmpIPredicate.sle
            (IntOp.absi (IntOp.subi (IntOp.subi (BitVec.ofNat 32 k.val) 64#32) (BitVec.ofNat 32 i.val))) 64#32)
          (IntOp.cmpi CmpIPredicate.sge
            (IntOp.addi (IntOp.muli (IntOp.subi (BitVec.ofNat 32 n.val) 1#32) 64#32) (BitVec.ofNat 32 k.val)) 0#32))
        (IntOp.cmpi CmpIPredicate.slt
          (IntOp.addi (IntOp.muli (IntOp.subi (BitVec.ofNat 32 n.val) 1#32) 64#32) (BitVec.ofNat 32 k.val)) 2048#32))
     = BitVec.ofBool (decide (i.val ≤ k.val ∧ k.val ≤ i.val + 128 ∧ 64 ≤ 64 * n.val + k.val ∧ 64 * n.val + k.val < 2112)) := by
  rw [near_word, ge_word, lt_word]
  by_cases h1 : i.val ≤ k.val <;> by_cases h2 : k.val ≤ i.val + 128 <;> by_cases h3 : 64 ≤ 64 * n.val + k.val <;> by_cases h4 : 64 * n.val + k.val < 2112 <;> simp only [h1, h2, h3, h4, and_self, and_true, true_and, and_false, false_and, decide_true, decide_false] <;> rfl
theorem sel_congr {p : BitVec 1} {a a' b b' c c' : EReal} (ha : a = a') (hb : b = b') (hc : c = c') : Scalar.select p (a + b) c = Scalar.select p (a' + b') c' := by
  rw [ha, hb, hc]
theorem kbias_at (C : S64x192.Idx → BitVec 32) : Host.gather gather_S32x8_S64x192x1_S64x192x8_2_0_n_n_0_2_18 (krb W)
          (broadcastInDim S64x192x1 ![0, 1] bcast_S64x192_S64x192x1_0_1
            (select (constantI S64x192 1 0#1)
              (addi C (broadcastInDim S64x192 ![] bcast_S_S64x192 (constantI S_ 32 32#32)))
              C))
          (ix3 i k h) = krb W (ix2 ⟨min (C (ix2 i k)).toInt.toNat 31, by omega⟩ h) := by
  refine (gather_at h i k _ _).trans ?_
  have : (broadcastInDim S64x192x1 ![0, 1] bcast_S64x192_S64x192x1_0_1
            (select (constantI S64x192 1 0#1)
              (addi C (broadcastInDim S64x192 ![] bcast_S_S64x192 (constantI S_ 32 32#32)))
              C) : S64x192x1.Idx → BitVec 32) (ix3 i k 0) = C (ix2 i k) := by
    pointwise
  apply congrArg (fun w => krb W (ix2 w h))
  apply Fin.ext
  dsimp only
  rw [this]
theorem headB_v73 (hc : wc0 W = constantI S64x192 1 0#1) : w73 (after headB W) (ix6 0 r h n i k) =
   Scalar.select (BitVec.ofBool (decide (i.val ≤ k.val ∧ k.val ≤ i.val + 128 ∧ 64 ≤ 64 * n.val + k.val ∧ 64 * n.val + k.val < 2112)))
     (∑ x : Fin 64, w9 W (ix6 0 r h n i x) * w19 W (ix6 0 r h n k x)
       + krb W (ix2 ⟨min (wc W (ix2 i k)).toInt.toNat 31, by omega⟩ h)) (⊥ : EReal) := by
  generalize hR : Scalar.select (BitVec.ofBool _) (_ + _) (⊥ : EReal) = R
  unfold w73 headB
  after_reads_at
  rw [mask_word]
  refine Eq.trans (sel_congr rfl ?_ ?_) hR
  · refine Eq.trans ?_ (kbias_at W h i k (wc W))
    rw [← hc]
  · show Ideal.ofBits .f32 0xFF800000#32 = ⊥
    simp [Ideal.ofBits, Ideal.ieee]
end Cert.KernelIdeal.Host
-- ==== Proof.HostB.lean ====
/- THE KERNEL'S HOST CODE, SECOND PART: from the logits to what the launch reads, at an index. -/
module
public import proofs.«01_k».proof.Proof.HostA
@[expose] public section
noncomputable section
namespace Cert.KernelIdeal.Host
open Idealize.ShloMosaic Idealize.ShloMosaic.TcCoe Idealize.SL.Sem Idealize.ShloMosaic.StableHlo
open Cert.KernelIdeal Cert.KernelIdeal.Gen
set_option maxRecDepth 16384
variable (W : Valuation τ sig (Elt Ideal))
variable (r : Fin 4) (h : Fin 8) (n : Fin 32) (i : Fin 64) (e : Fin 64) (k : Fin 192)
abbrev w78 : S1x4x8x32x64x192.Idx → EReal := W (Proc.devRef .tc main_v78)
abbrev w75 : S1x4x8x32x64x1.Idx → EReal := W (Proc.devRef .tc main_v75)
abbrev w85 : S1x4x8x32x64x1.Idx → EReal := W (Proc.devRef .tc main_v85)
abbrev w83 : S1x4x8x32x64x64.Idx → EReal := W (Proc.devRef .tc main_v83)
theorem inf_word : Ideal.ofBits .f32 0xFF800000#32 = ⊥ := by simp [Ideal.ofBits, Ideal.ieee]
theorem mid1_v75 : w75 (after mid1 W) (ix6 0 r h n i 0) = Finset.univ.fold max (⊥ : EReal) (fun k => w73 W (ix6 0 r h n i k)) := by
  unfold w75 mid1
  after_reads_at
  simp only [Cert.ReferenceIdeal.At.max5, inf_word]
theorem mid1_v78 : w78 (after mid1 W) (ix6 0 r h n i k) = Ideal.exp (w73 W (ix6 0 r h n i k) - Finset.univ.fold max (⊥ : EReal) (fun k => w73 W (ix6 0 r h n i k))) := by
  unfold w78 mid1
  after_reads_at
  simp only [Cert.ReferenceIdeal.At.max5, inf_word]
theorem mid1_v29 : w29 (after mid1 W) = w29 W := by
  unfold w29 mid1
  after_reads_simp
theorem mid2_v85 : w85 (after mid2 W) (ix6 0 r h n i 0) = w75 W (ix6 0 r h n i 0) + Ideal.log (∑ k, w78 W (ix6 0 r h n i k)) := by
  unfold w85 mid2
  after_reads_at
  simp only [Cert.ReferenceIdeal.At.sum5, zero_add]
theorem mid2_v83 : w83 (after mid2 W) (ix6 0 r h n i e) = Ideal.div (∑ k, w78 W (ix6 0 r h n i k) * w29 W (ix6 0 r h n k e)) (∑ k, w78 W (ix6 0 r h n i k)) := by
  unfold w83 mid2
  after_reads_at
  simp only [Cert.ReferenceIdeal.At.sum5, zero_add]
theorem ix6_congr {X : S1x4x8x32x64x1.Idx → EReal} {r r' : Fin 4} {h h' : Fin 8} {n n' : Fin 32} {i i' : Fin 64} (hr : r.val = r'.val) (hh : h.val = h'.val) (hn : n.val = n'.val)
   (hi : i.val = i'.val) : X (ix6 0 r h n i 0) = X (ix6 0 r' h' n' i' 0) := by
  rw [Fin.ext hr, Fin.ext hh, Fin.ext hn, Fin.ext hi]
theorem ix6_congr' {X : S1x4x8x32x64x64.Idx → EReal} {r r' : Fin 4} {h h' : Fin 8} {n n' : Fin 32} {i i' e : Fin 64} (hr : r.val = r'.val) (hh : h.val = h'.val) (hn : n.val = n'.val)
   (hi : i.val = i'.val) : X (ix6 0 r h n i e) = X (ix6 0 r' h' n' i' e) := by
  rw [Fin.ext hr, Fin.ext hh, Fin.ext hn, Fin.ext hi]
theorem ix3_congr {X : S1x8192x8.Idx → EReal} {x x' : Fin 8192} {y y' : Fin 8} (hx : x.val = x'.val) (hy : y.val = y'.val) :
    X (ix3 0 x y) = X (ix3 0 x' y') := by
  rw [Fin.ext hx, Fin.ext hy]
theorem sub_sum_congr {a a' : EReal} {f f' g g' : Fin 64 → EReal} (ha : a = a') (hf : ∀ x, f x = f' x) (hg : ∀ x, g x = g' x) :
    a - ∑ x, f x * g x = a' - ∑ x, f' x * g' x := by
  rw [ha, funext hf, funext hg]
theorem tail_v148 : (after tail W (Proc.devRef .tc main_v148) : S2048x2048.Idx → EReal) (ix2 ⟨64 * n.val + i.val, by omega⟩ ⟨512 * r.val + (64 * h.val + e.val), by omega⟩)
    = (W (Proc.devRef .tc main_v85) : S1x4x8x32x64x1.Idx → EReal) (ix6 0 r h n i 0) := by
  unfold tail
  after_reads_at
  apply ix6_congr <;> dsimp only <;> omega
theorem tail_v149 : (after tail W (Proc.devRef .tc main_v149) : S2048x2048.Idx → EReal) (ix2 ⟨64 * n.val + i.val, by omega⟩ ⟨512 * r.val + (64 * h.val + e.val), by omega⟩)
    = kdl W (ix3 0 ⟨(64*n.val+i.val)*4+r.val, by omega⟩ h) - ∑ x : Fin 64, kdo W (ix2 ⟨(64*n.val+i.val)*4+r.val, by omega⟩ ⟨h.val*64+x.val, by omega⟩) *
       (W (Proc.devRef .tc main_v83) : S1x4x8x32x64x64.Idx → EReal) (ix6 0 r h n i x) := by
  unfold tail
  after_reads_at
  refine sub_sum_congr (ix3_congr ?_ ?_) (fun x => ix2_congr ?_ ?_) (fun x => ix6_congr' ?_ ?_ ?_ ?_) <;> dsimp only <;> omega
theorem tail_v144 (L : Fin 2048) : (after tail W (Proc.devRef .tc main_v144) : S2048x2048.Idx → EReal) (ix2 L ⟨512 * r.val + (64 * h.val + e.val), by omega⟩)
    = kk W (ix2 ⟨L.val*4+r.val, by omega⟩ ⟨h.val*64+e.val, by omega⟩) := by
  unfold tail
  after_reads_at
  apply ix2_congr <;> dsimp only <;> omega
theorem tail_v145 (L : Fin 2048) : (after tail W (Proc.devRef .tc main_v145) : S2048x2048.Idx → EReal) (ix2 L ⟨512 * r.val + (64 * h.val + e.val), by omega⟩)
    = kv W (ix2 ⟨L.val*4+r.val, by omega⟩ ⟨h.val*64+e.val, by omega⟩) := by
  unfold tail
  after_reads_at
  apply ix2_congr <;> dsimp only <;> omega
theorem tail_v146 (L : Fin 2048) : (after tail W (Proc.devRef .tc main_v146) : S2048x2048.Idx → EReal) (ix2 L ⟨512 * r.val + (64 * h.val + e.val), by omega⟩)
    = kq W (ix2 ⟨L.val*4+r.val, by omega⟩ ⟨h.val*64+e.val, by omega⟩) := by
  unfold tail
  after_reads_at
  apply ix2_congr <;> dsimp only <;> omega
theorem tail_v147 (L : Fin 2048) : (after tail W (Proc.devRef .tc main_v147) : S2048x2048.Idx → EReal) (ix2 L ⟨512 * r.val + (64 * h.val + e.val), by omega⟩)
    = kdo W (ix2 ⟨L.val*4+r.val, by omega⟩ ⟨h.val*64+e.val, by omega⟩) := by
  unfold tail
  after_reads_at
  apply ix2_congr <;> dsimp only <;> omega
theorem near_word' : ∀ (g : Fin 256) (j : Fin 128),
          IntOp.cmpi CmpIPredicate.sle
            (IntOp.absi (IntOp.subi (BitVec.ofNat 32 j.val) (IntOp.subi (BitVec.ofNat 32 g.val) 64#32))) 64#32 = BitVec.ofBool (decide (j.val ≤ g.val ∧ g.val ≤ j.val + 128)) := by
  decide +kernel
theorem ge_word' : ∀ (g : Fin 256), IntOp.cmpi CmpIPredicate.sge (BitVec.ofNat 32 g.val) 64#32 = BitVec.ofBool (decide (64 ≤ g.val)) := by
  decide +kernel
theorem lt_word' : ∀ (g : Fin 256), IntOp.cmpi CmpIPredicate.slt (BitVec.ofNat 32 g.val) 192#32 = BitVec.ofBool (decide (g.val < 192)) := by
  decide +kernel
theorem sel_congr' {p p' : BitVec 1} {b b' c c' : EReal} (ha : p = p') (hb : b = b') (hc : c = c') : Scalar.select p b c = Scalar.select p' b' c' := by
  rw [ha, hb, hc]
theorem and_word (p q : Bool) : IntOp.andi (BitVec.ofBool p) (BitVec.ofBool q) = BitVec.ofBool (p && q) := by
  cases p <;> cases q <;> rfl
theorem tail_v143 (a : Fin 4) (g : Fin 256) (j : Fin 128) : (after tail W (Proc.devRef .tc main_v143) : S4x8x256x128.Idx → EReal) (ix4 a h g j) =
   Scalar.select (BitVec.ofBool (decide ((j.val ≤ g.val ∧ g.val ≤ j.val + 128) ∧ (a.val = 0 ∨ a.val = 3 → 64 ≤ g.val) ∧ (a.val = 2 ∨ a.val = 3 → g.val < 192))))
    (∑ x : Fin 32, (FloatOps.uitofp (F := Ideal) FTy.f32
            (IntOp.cmpi CmpIPredicate.eq ((W (Proc.tc.devRef main_c_1) : S32768x1.Idx → BitVec 32) (ix2 ⟨g.val * 128 + j.val, by omega⟩ 0))
              (BitVec.ofNat 32 x.val)) : EReal) * krb W (ix2 x h)) (⊥ : EReal) := by
  generalize hR : Scalar.select (BitVec.ofBool _) (Finset.sum _ _) (⊥ : EReal) = R
  unfold tail
  after_reads_at
  after_reads_at
  refine Eq.trans (sel_congr' ?_ rfl ?_) hR
  · rw [near_word' g j, ge_word' g, lt_word' g]
    simp only [and_word]
    have := a.isLt
    split_ifs <;> refine congrArg BitVec.ofBool (Bool.eq_iff_iff.2 ?_) <;> simp only [Bool.and_eq_true, decide_eq_true_eq] <;> omega
  · show Ideal.ofBits .f32 0xFF800000#32 = ⊥
    simp [Ideal.ofBits, Ideal.ieee]
end Cert.KernelIdeal.Host
-- ==== Proof.HostC.lean ====
/- THE KERNEL'S HOST CODE, THIRD PART: what the launch reads, in the reference's terms. -/
module
public import proofs.«01_k».proof.Proof.HostB
@[expose] public section
noncomputable section
namespace Cert.KernelIdeal.Host
open Idealize.ShloMosaic Idealize.ShloMosaic.TcCoe Idealize.SL.Sem Idealize.ShloMosaic.StableHlo
open Cert.KernelIdeal Cert.KernelIdeal.Gen
set_option maxRecDepth 16384
variable (W : Valuation τ sig (Elt Ideal))
variable (r : Fin 4) (h : Fin 8) (n : Fin 32) (i : Fin 64) (e : Fin 64) (k : Fin 192)

open Cert.ReferenceIdeal.At (aq ak av ado adl arb bL bM bP bV bDen bPV bDo bDl bQ v77_at v78_at v87_at v89_at v90_at v33_at v9_at v112_at v113_at mask_at kArr_at kArr)
theorem lit_eq : lit0 = Cert.ReferenceIdeal.lit0 := by
  unfold lit0 Cert.ReferenceIdeal.lit0
  rfl
theorem lit_at (i : Fin 64) (k : Fin 192) : lit0 (S64x192.rowMajor (ix2 i k)) = Cert.ReferenceIdeal.lit0 ⟨192 * i.val + k.val, by show _ < 12288; omega⟩ :=
  (congrFun lit_eq _).trans (congrArg Cert.ReferenceIdeal.lit0 (Fin.ext (Cert.ReferenceIdeal.At.rm_val i k)))
/-- The buffers at the launch, from the arguments. -/
abbrev fin : Valuation τ sig (Elt Ideal) := after tail (after mid2 (after mid1 (after headB (after headA W))))
variable (V0 : Valuation Cert.ReferenceIdeal.τ Cert.ReferenceIdeal.sig (Elt Ideal))
/-- The two programs' arguments are the same. -/
structure Same : Prop where
  q : kq W = aq V0
  k : kk W = ak V0
  v : kv W = av V0
  do_ : kdo W = ado V0
  dl : kdl W = adl V0
  rb : krb W = arb V0
variable {W V0} (S : Same W V0)
include S
theorem l_eq : w73 (after headB (after headA W)) (ix6 0 r h n i k) = bL V0 r h n i k := by
  rw [headB_v73 _ r h n i k (headA_c0 W), v77_at, mask_at]
  refine sel_congr (Finset.sum_congr rfl fun x _ => ?_) ?_ rfl
  · rw [headA_v9, headA_v19, v9_at, kArr_at, S.q, S.k]
  · rw [krb_keptA, S.rb]
    apply congrArg (fun w => arb V0 (ix2 w h))
    apply Fin.ext
    exact congrArg (fun w : BitVec 32 => min w.toInt.toNat 31) ((congrFun (headA_c W) (ix2 i k)).trans (lit_at i k))
theorem m_eq : w75 (after mid1 (after headB (after headA W))) (ix6 0 r h n i 0) = bM V0 r h n i := by
  rw [mid1_v75, v78_at]
  simp only [l_eq r h n i _ S]
theorem p_eq : w78 (after mid1 (after headB (after headA W))) (ix6 0 r h n i k) = bP V0 r h n i k := by
  rw [mid1_v78, v87_at, v78_at]
  simp only [l_eq r h n i _ S]
theorem v_eq : w29 (after mid1 (after headB (after headA W))) (ix6 0 r h n k e) = bV V0 r h n k e := by
  rw [mid1_v29, headB_v29 _ r h n e k (kv W) (fun p => headA_v22 W r h e p), v33_at, S.v]
theorem lse_at : (fin W (Proc.devRef .tc main_v148) : S2048x2048.Idx → EReal) (ix2 ⟨64 * n.val + i.val, by omega⟩ ⟨512 * r.val + (64 * h.val + e.val), by omega⟩)
    = bM V0 r h n i + Ideal.log (bDen V0 r h n i) := by
  refine (tail_v148 _ r h n i e).trans ((mid2_v85 _ r h n i).trans ?_)
  rw [m_eq r h n i S, v89_at]
  simp only [p_eq r h n i _ S]
theorem cp_at : (fin W (Proc.devRef .tc main_v149) : S2048x2048.Idx → EReal) (ix2 ⟨64 * n.val + i.val, by omega⟩ ⟨512 * r.val + (64 * h.val + e.val), by omega⟩)
    = bDl V0 r h n i - ∑ x, bDo V0 r h n i x * Ideal.div (bPV V0 r h n i x) (bDen V0 r h n i) := by
  refine (tail_v149 _ r h n i e).trans ?_
  rw [kdl_kept, kdo_kept, v113_at, S.dl, S.do_]
  refine sub_sum_congr rfl (fun x => ?_) (fun x => ?_)
  · rw [v112_at]
  · refine (mid2_v83 _ r h n i x).trans ?_
    rw [v90_at, v89_at]
    simp only [p_eq r h n i _ S, v_eq r h n _ _ S]
theorem k_at (L : Fin 2048) : (fin W (Proc.devRef .tc main_v144) : S2048x2048.Idx → EReal) (ix2 L ⟨512 * r.val + (64 * h.val + e.val), by omega⟩)
    = ak V0 (ix2 ⟨L.val*4+r.val, by omega⟩ ⟨h.val*64+e.val, by omega⟩) := by
  refine (tail_v144 _ r h e L).trans ?_
  rw [kk_kept, S.k]
theorem v_at (L : Fin 2048) : (fin W (Proc.devRef .tc main_v145) : S2048x2048.Idx → EReal) (ix2 L ⟨512 * r.val + (64 * h.val + e.val), by omega⟩)
    = av V0 (ix2 ⟨L.val*4+r.val, by omega⟩ ⟨h.val*64+e.val, by omega⟩) := by
  refine (tail_v145 _ r h e L).trans ?_
  rw [kv_kept, S.v]
theorem q_at (L : Fin 2048) : (fin W (Proc.devRef .tc main_v146) : S2048x2048.Idx → EReal) (ix2 L ⟨512 * r.val + (64 * h.val + e.val), by omega⟩)
    = aq V0 (ix2 ⟨L.val*4+r.val, by omega⟩ ⟨h.val*64+e.val, by omega⟩) := by
  refine (tail_v146 _ r h e L).trans ?_
  rw [kq_kept, S.q]
theorem do_at (L : Fin 2048) : (fin W (Proc.devRef .tc main_v147) : S2048x2048.Idx → EReal) (ix2 L ⟨512 * r.val + (64 * h.val + e.val), by omega⟩)
    = ado V0 (ix2 ⟨L.val*4+r.val, by omega⟩ ⟨h.val*64+e.val, by omega⟩) := by
  refine (tail_v147 _ r h e L).trans ?_
  rw [kdo_kept, S.do_]
end Cert.KernelIdeal.Host
-- ==== Proof.Row.lean ====
/- ONE QUERY: the softmax over its band, its gradient, and both ways of writing them, over the reals. -/
module
public import proofs.«01_k».proof.Proof.RefBase
@[expose] public section
noncomputable section
namespace Cert.Row
open Idealize.ShloMosaic

/-- A real sum, inside the extended reals. -/
theorem coe_sum {α : Type} (s : Finset α) (f : α → ℝ) : ∑ x ∈ s, (f x : EReal) = ((∑ x ∈ s, f x : ℝ) : EReal) := by
  classical
  induction s using Finset.induction_on with
  | empty => simp
  | insert a s ha ih => rw [Finset.sum_insert ha, Finset.sum_insert ha, ih, EReal.coe_add]

theorem div_real (x y : ℝ) (hy : y ≠ 0) : Ideal.div (x : EReal) (y : EReal) = ((x / y : ℝ) : EReal) := by
  rw [Ideal.div_coe hy, ← EReal.coe_mul]
  congr 1
  rw [mul_one_div]

variable {n : ℕ} (mk : Fin n → Prop) [DecidablePred mk] (l : Fin n → ℝ)

/-- The logits, masked. -/
def logit (k : Fin n) : EReal := if mk k then (l k : EReal) else ⊥

/-- The largest masked logit is one of them. -/
theorem max_real (hk : ∃ k, mk k) : ∃ k0, mk k0 ∧ (Finset.univ : Finset (Fin n)).fold max ⊥ (logit mk l) = (l k0 : EReal) := by
  obtain ⟨k1, h1⟩ := hk
  obtain ⟨k0, _, e0⟩ := Finset.exists_mem_eq_sup (Finset.univ : Finset (Fin n)) ⟨k1, Finset.mem_univ _⟩ (logit mk l)
  have hs : (Finset.univ : Finset (Fin n)).fold max ⊥ (logit mk l) = (Finset.univ : Finset (Fin n)).sup (logit mk l) := rfl
  have hle : logit mk l k1 ≤ logit mk l k0 := e0 ▸ Finset.le_sup (Finset.mem_univ k1)
  by_cases h0 : mk k0
  · refine ⟨k0, h0, ?_⟩
    rw [hs, e0, logit, if_pos h0]
  · exfalso
    rw [logit, logit, if_pos h1, if_neg h0, le_bot_iff] at hle
    exact EReal.coe_ne_bot _ hle

variable (m : ℝ) (w : Fin n → Fin 64 → ℝ) (o : Fin 64 → ℝ) (c : ℝ)

/-- The weights, their sum, the weighted values, the normalised weights, and the gradient of the logits. -/
def pr (k : Fin n) : ℝ := if mk k then Real.exp (l k - m) else 0
def dn : ℝ := ∑ k, pr mk l m k
def pv (x : Fin 64) : ℝ := ∑ k, pr mk l m k * w k x
def nw (k : Fin n) : ℝ := pr mk l m k / dn mk l m
def cq : ℝ := c - ∑ x, o x * (pv mk l m w x / dn mk l m)
def gr (k : Fin n) : ℝ := nw mk l m k * ((∑ x, o x * w k x) + cq mk l m w o c)

theorem dn_pos (hk : ∃ k, mk k) : 0 < dn mk l m := by
  obtain ⟨k1, h1⟩ := hk
  refine Finset.sum_pos' (fun k _ => ?_) ⟨k1, Finset.mem_univ _, ?_⟩
  · unfold pr
    split_ifs
    · exact (Real.exp_pos _).le
    · exact le_rfl
  · rw [pr, if_pos h1]
    exact Real.exp_pos _

/-- The weight of a key. -/
theorem exp_logit (k : Fin n) : Ideal.exp (logit mk l k - (m : EReal)) = (pr mk l m k : EReal) := by
  unfold logit pr
  split_ifs
  · rw [← EReal.coe_sub]
    rfl
  · rw [sub_eq_add_neg, EReal.bot_add]
    rfl

theorem sum_gr (hd : dn mk l m ≠ 0) : ∑ k, gr mk l m w o c k = c := by
  have h1 : ∑ k, nw mk l m k = 1 := by
    unfold nw
    rw [← Finset.sum_div]
    exact div_self hd
  have h2 : ∑ k, nw mk l m k * (∑ x, o x * w k x) = ∑ x, o x * (pv mk l m w x / dn mk l m) := by
    simp only [Finset.mul_sum]
    rw [Finset.sum_comm]
    refine Finset.sum_congr rfl fun x _ => ?_
    unfold pv nw
    rw [Finset.sum_div, Finset.mul_sum]
    refine Finset.sum_congr rfl fun k _ => ?_
    ring
  unfold gr
  simp only [mul_add]
  rw [Finset.sum_add_distrib, h2, ← Finset.sum_mul, h1]
  unfold cq
  ring

/-- The reference's gradient of a logit. -/
theorem ref_gr (hd : dn mk l m ≠ 0) (k : Fin n) :
    (∑ x, Ideal.div (o x : EReal) (dn mk l m : EReal) * (w k x : EReal)
      + (Ideal.div (c : EReal) (dn mk l m : EReal)
        + -∑ x, (o x : EReal) * Ideal.div 1 ((dn mk l m : EReal) * (dn mk l m : EReal)) * (pv mk l m w x : EReal))) * (pr mk l m k : EReal)
      = (gr mk l m w o c k : EReal) := by
  have e1 : Ideal.div 1 ((dn mk l m : EReal) * (dn mk l m : EReal)) = ((1 / (dn mk l m * dn mk l m) : ℝ) : EReal) := by
    rw [← EReal.coe_mul, ← EReal.coe_one]
    exact div_real _ _ (mul_ne_zero hd hd)
  rw [e1]
  simp only [div_real _ _ hd, ← EReal.coe_mul]
  rw [coe_sum, coe_sum, ← EReal.coe_neg, ← EReal.coe_add, ← EReal.coe_add, ← EReal.coe_mul]
  congr 1
  unfold gr nw cq
  have a1 : ∑ x, o x / dn mk l m * w k x = (∑ x, o x * w k x) / dn mk l m := by
    rw [Finset.sum_div]
    exact Finset.sum_congr rfl fun x _ => by ring
  have a2 : ∑ x, o x * (1 / (dn mk l m * dn mk l m)) * pv mk l m w x = (∑ x, o x * (pv mk l m w x / dn mk l m)) / dn mk l m := by
    rw [Finset.sum_div]
    refine Finset.sum_congr rfl fun x _ => ?_
    field_simp
  rw [a1, a2]
  ring

/-- The reference's gradient of a row's maximum is nothing. -/
theorem ref_ct (hd : dn mk l m ≠ 0) (E : Fin n → EReal) (y : EReal) (hy : y ≠ 0) (k : Fin n) :
    (gr mk l m w o c k : EReal) + Ideal.div ((c : EReal) + ∑ k, -(gr mk l m w o c k : EReal)) y * E k = (gr mk l m w o c k : EReal) := by
  have : (c : EReal) + ∑ k, -(gr mk l m w o c k : EReal) = 0 := by
    simp only [← EReal.coe_neg]
    rw [coe_sum, ← EReal.coe_add, Finset.sum_neg_distrib, sum_gr mk l m w o c hd, add_neg_cancel, EReal.coe_zero]
  rw [this, Ideal.div, if_neg hy, zero_mul, zero_mul, add_zero]

/-- The count of the keys at the maximum is not nothing. -/
theorem count_ne (L : Fin n → EReal) (M : EReal) (k0 : Fin n) (h0 : L k0 = M) :
    ∑ k, (FloatOps.uitofp (F := Ideal) FTy.f32 (BitVec.ofBool (decide (L k = M))) : EReal) ≠ 0 := by
  have hnn : ∀ k ∈ (Finset.univ : Finset (Fin n)), (0 : EReal) ≤ FloatOps.uitofp (F := Ideal) FTy.f32 (BitVec.ofBool (decide (L k = M))) := by
    intro k _
    show (0 : EReal) ≤ (((BitVec.ofBool (decide (L k = M))).toNat : ℝ) : EReal)
    exact EReal.coe_nonneg.2 (Nat.cast_nonneg _)
  have h1 : (1 : EReal) ≤ FloatOps.uitofp (F := Ideal) FTy.f32 (BitVec.ofBool (decide (L k0 = M))) := by
    show (1 : EReal) ≤ (((BitVec.ofBool (decide (L k0 = M))).toNat : ℝ) : EReal)
    rw [decide_eq_true h0]
    simp
  have := h1.trans (Finset.single_le_sum hnn (Finset.mem_univ k0))
  intro hz
  rw [hz] at this
  exact absurd this (by norm_num)

/-- The kernel's weight: the logit less the row's log-sum. -/
theorem ker_nw (hd : 0 < dn mk l m) (k : Fin n) (h : mk k) :
    Ideal.exp ((l k : EReal) - ((m : EReal) + Ideal.log (dn mk l m : EReal))) = (nw mk l m k : EReal) := by
  rw [show Ideal.log (dn mk l m : EReal) = ((Real.log (dn mk l m) : ℝ) : EReal) from (Ideal.log_coe _).trans (if_neg (not_le.2 hd)),
    ← EReal.coe_add, ← EReal.coe_sub]
  refine congrArg (fun z : ℝ => (z : EReal)) (?_ : Real.exp (l k - (m + Real.log (dn mk l m))) = _)
  rw [nw, pr, if_pos h, ← sub_sub, Real.exp_sub, Real.exp_log hd]

theorem ker_cq (hd : dn mk l m ≠ 0) :
    (c : EReal) - ∑ x, (o x : EReal) * Ideal.div (pv mk l m w x : EReal) (dn mk l m : EReal) = (cq mk l m w o c : EReal) := by
  simp only [div_real _ _ hd, ← EReal.coe_mul]
  rw [coe_sum, ← EReal.coe_sub]
  rfl

end Cert.Row
-- ==== Proof.TabA.lean ====
/- THE REFERENCE'S TABLE OF BUCKETS: along the band, an entry depends only on the distance of key and query. -/
module
public import proofs.«01_k».proof.Proof.RefBase
@[expose] public section
namespace Cert.ReferenceIdeal.At
open Idealize.ShloMosaic
set_option maxRecDepth 16384
set_option maxHeartbeats 4000000
/-- A row is the first row, shifted. -/
theorem band_ref : ∀ (i : Fin 64) (d : Fin 129), lit0 ⟨192 * i.val + (i.val + d.val), by show _ < 12288; omega⟩ = lit0 ⟨d.val, by show _ < 12288; omega⟩ := by
  decide +kernel
/-- A bucket is one of the 32 rows. -/
theorem bucket_lt : ∀ (d : Fin 129), (lit0 ⟨d.val, by show _ < 12288; omega⟩).toNat < 32 := by
  decide +kernel
end Cert.ReferenceIdeal.At
-- ==== Proof.RefRow.lean ====
/- THE REFERENCE'S ARRAYS OVER THE REALS: where the arguments are finite, every array of the gradient is, and each
   is the closed form of `Row`. -/
module
public import proofs.«01_k».proof.Proof.RefLogit
public import proofs.«01_k».proof.Proof.RefMask
public import proofs.«01_k».proof.Proof.Row
public import proofs.«01_k».proof.Proof.TabA
@[expose] public section
noncomputable section
namespace Cert.ReferenceIdeal.At
open Idealize.ShloMosaic Idealize.ShloMosaic.TcCoe Idealize.ShloMosaic.StableHlo Idealize.SL.Sem
open Cert.ReferenceIdeal Cert.Row
set_option maxRecDepth 16384

/-- The arguments as real arrays. -/
structure Reals (V0 : Valuation τ sig (Elt Ideal)) : Type where
  q : S8192x512.Idx → ℝ
  k : S8192x512.Idx → ℝ
  v : S8192x512.Idx → ℝ
  o : S8192x512.Idx → ℝ
  dl : S1x8192x8.Idx → ℝ
  rb : S32x8.Idx → ℝ
  hq : ∀ j, aq V0 j = (q j : EReal)
  hk : ∀ j, ak V0 j = (k j : EReal)
  hv : ∀ j, av V0 j = (v j : EReal)
  ho : ∀ j, ado V0 j = (o j : EReal)
  hdl : ∀ j, adl V0 j = (dl j : EReal)
  hrb : ∀ j, arb V0 j = (rb j : EReal)

/-- The row of the bias table for a distance `d - 64`. -/
def bk (d : ℕ) : Fin 32 := ⟨(lit0 ⟨d % 129, by show _ < 12288; omega⟩).toNat % 32, Nat.mod_lt _ (by omega)⟩

variable {V0 : Valuation τ sig (Elt Ideal)} (X : Reals V0)
variable (r : Fin 4) (h : Fin 8) (n : Fin 32) (i : Fin 64) (k : Fin 192) (e : Fin 64)

/-- An argument's entry at position `p` of residue `r`, lane `x` of head `h`. -/
abbrev pos (p : Fin 2048) (x : Fin 64) : S8192x512.Idx := ix2 ⟨p.val * 4 + r.val, by omega⟩ ⟨h.val * 64 + x.val, by omega⟩
abbrev qpos : Fin 2048 := ⟨64 * n.val + i.val, by omega⟩
/-- Which keys of its band a query sees. -/
abbrev sees (k : Fin 192) : Prop := i.val ≤ k.val ∧ k.val ≤ i.val + 128 ∧ 64 ≤ 64 * n.val + k.val ∧ 64 * n.val + k.val < 2112
/-- The band of a real array of keys: nothing beyond the ends. -/
def band (f : S8192x512.Idx → ℝ) (k : Fin 192) (x : Fin 64) : ℝ :=
  if hb : 64 ≤ 64 * n.val + k.val ∧ 64 * n.val + k.val < 2112 then f (pos r h ⟨64 * n.val + k.val - 64, by omega⟩ x) else 0
def lg (k : Fin 192) : ℝ := ∑ x, X.q (pos r h (qpos n i) x) * band r h n X.k k x + X.rb (ix2 (bk (k.val - i.val)) h)
def oo (x : Fin 64) : ℝ := X.o (pos r h (qpos n i) x)
def cc : ℝ := X.dl (ix3 0 ⟨(64 * n.val + i.val) * 4 + r.val, by omega⟩ h)
def mx : ℝ := (bM V0 r h n i).toReal

theorem select_if (p : Prop) [Decidable p] (a b : EReal) : Scalar.select (BitVec.ofBool (decide p)) a b = if p then a else b := by
  by_cases hp : p
  · rw [decide_eq_true hp, if_pos hp]
    rfl
  · rw [decide_eq_false hp, if_neg hp]
    rfl

theorem sees_some : ∃ k, sees n i k := ⟨⟨64 + i.val, by omega⟩, by dsimp only [sees]; omega⟩

theorem bucket_at (hk : sees n i k) (w : BitVec 32) (hw : w = lit0 ⟨k.val - i.val, by show _ < 12288; omega⟩) :
    (⟨min w.toInt.toNat 31, by omega⟩ : Fin 32) = bk (k.val - i.val) := by
  have hd : (k.val - i.val) % 129 = k.val - i.val := Nat.mod_eq_of_lt (by have := hk.2.1; omega)
  have h1 := bucket_lt ⟨k.val - i.val, by have := hk.2.1; omega⟩
  apply Fin.ext
  subst hw
  unfold bk
  dsimp only at h1 ⊢
  simp only [hd]
  generalize lit0 ⟨k.val - i.val, _⟩ = w at h1 ⊢
  have : w.toInt = (w.toNat : ℤ) := BitVec.toInt_eq_toNat_of_lt (by omega)
  rw [this, Int.toNat_natCast]
  omega

theorem lit_band (hk : sees n i k) : lit0 ⟨192 * i.val + k.val, by show _ < 12288; omega⟩ = lit0 ⟨k.val - i.val, by show _ < 12288; omega⟩ := by
  have h0 := hk.1
  have h1 := hk.2.1
  refine Eq.trans (congrArg lit0 (Fin.ext ?_)) (band_ref i ⟨k.val - i.val, by omega⟩)
  dsimp only
  omega

theorem bQ_eq : bQ V0 r h n i e = (X.q (pos r h (qpos n i) e) : EReal) :=
  (v9_at V0 r h n i e).trans (X.hq _)
theorem kArr_eq : kArr V0 (ix6 0 r h n k e) = (band r h n X.k k e : EReal) := by
  rw [kArr_at]
  unfold band
  split_ifs
  · exact X.hk _
  · exact EReal.coe_zero.symm
theorem bV_eq : bV V0 r h n k e = (band r h n X.v k e : EReal) := by
  rw [v33_at]
  unfold band
  split_ifs
  · exact X.hv _
  · exact EReal.coe_zero.symm
theorem bDo_eq : bDo V0 r h n i e = (oo X r h n i e : EReal) :=
  (v112_at V0 r h n i e).trans (X.ho _)
theorem bDl_eq : bDl V0 r h n i = (cc X r h n i : EReal) :=
  (v113_at V0 r h n i).trans (X.hdl _)
theorem bL_eq : bL V0 r h n i k = logit (sees n i) (lg X r h n i) k := by
  rw [v77_at, mask_at, select_if]
  unfold logit
  by_cases hk : sees n i k
  · rw [if_pos hk, if_pos hk]
    unfold lg
    rw [EReal.coe_add, ← coe_sum]
    refine congrArg₂ (· + ·) (Finset.sum_congr rfl fun x _ => ?_) ?_
    · rw [bQ_eq X, kArr_eq X, EReal.coe_mul]
    · rw [X.hrb, bucket_at n i k hk _ (lit_band n i k hk)]
  · rw [if_neg hk, if_neg hk]

abbrev pp := pr (sees n i) (lg X r h n i) (mx (V0 := V0) r h n i)
abbrev dd := dn (sees n i) (lg X r h n i) (mx (V0 := V0) r h n i)
abbrev vv := pv (sees n i) (lg X r h n i) (mx (V0 := V0) r h n i) (band r h n X.v)
abbrev ww := nw (sees n i) (lg X r h n i) (mx (V0 := V0) r h n i)
abbrev gg := gr (sees n i) (lg X r h n i) (mx (V0 := V0) r h n i) (band r h n X.v) (oo X r h n i) (cc X r h n i)

include X in
theorem max_eq : (∃ k0, bL V0 r h n i k0 = bM V0 r h n i) ∧ bM V0 r h n i = (mx (V0 := V0) r h n i : EReal) := by
  obtain ⟨k0, hs, e0⟩ := max_real (sees n i) (lg X r h n i) (sees_some n i)
  have hM : bM V0 r h n i = (lg X r h n i k0 : EReal) := by
    rw [v78_at, ← e0]
    refine congrArg (Finset.fold max ⊥ · Finset.univ) (funext fun k => bL_eq X r h n i k)
  refine ⟨⟨k0, ?_⟩, ?_⟩
  · rw [hM, bL_eq X, logit, if_pos hs]
  · unfold mx
    rw [hM, EReal.toReal_coe]
theorem dd_pos : 0 < dd X r h n i := dn_pos _ _ _ (sees_some n i)
theorem bP_eq : bP V0 r h n i k = (pp X r h n i k : EReal) := by
  rw [v87_at, (max_eq X r h n i).2, bL_eq X]
  exact exp_logit _ _ _ _
theorem bDen_eq : bDen V0 r h n i = (dd X r h n i : EReal) := by
  rw [v89_at]
  simp only [bP_eq X]
  exact coe_sum _ _
theorem bPV_eq : bPV V0 r h n i e = (vv X r h n i e : EReal) := by
  rw [v90_at]
  simp only [bP_eq X, bV_eq X, ← EReal.coe_mul]
  exact coe_sum _ _
theorem bDn_eq : bDn V0 r h n i e = ((oo X r h n i e / dd X r h n i : ℝ) : EReal) := by
  rw [v123_at, bDo_eq X, bDen_eq X, div_real _ _ (dd_pos X r h n i).ne']
theorem bG_eq : bG V0 r h n i k = (gg X r h n i k : EReal) := by
  rw [v131_at]
  simp only [v123_at, bDo_eq X, bDen_eq X, bV_eq X, bDl_eq X, bPV_eq X, bP_eq X]
  exact ref_gr _ _ _ _ _ _ (dd_pos X r h n i).ne' k

/-- The gradient of the values at a key of a block's band. -/
theorem bDV_eq : bDV V0 r h n k e = ∑ i : Fin 64, ((ww X r h n i k * oo X r h n i e : ℝ) : EReal) := by
  rw [v125_at]
  refine Finset.sum_congr rfl fun i _ => ?_
  rw [bDn_eq X, bP_eq X, ← EReal.coe_mul]
  congr 1
  unfold ww nw
  ring

theorem gg_off (hk : ¬ sees n i k) : gg X r h n i k = 0 := by
  unfold gg gr nw pr
  rw [if_neg hk, zero_div, zero_mul]
theorem ww_off (hk : ¬ sees n i k) : ww X r h n i k = 0 := by
  unfold ww nw pr
  rw [if_neg hk, zero_div]

/-- The gradient of the keys at a key of a block's band. -/
theorem bDK_eq : bDK V0 r h n k e = ∑ i : Fin 64, ((gg X r h n i k * X.q (pos r h (qpos n i) e) : ℝ) : EReal) := by
  rw [v143_at]
  refine Finset.sum_congr rfl fun i _ => ?_
  rw [mask_at, select_if]
  by_cases hk : sees n i k
  · obtain ⟨⟨k0, h0⟩, _⟩ := max_eq X r h n i
    rw [if_pos hk]
    simp only [bG_eq X, bDl_eq X, bQ_eq X, v82_at]
    rw [EReal.coe_mul]
    exact congrArg (· * _) (ref_ct _ _ _ _ _ _ (dd_pos X r h n i).ne'
      (fun k => FloatOps.uitofp (F := Ideal) .f32 (BitVec.ofBool (decide (bL V0 r h n i k = bM V0 r h n i)))) _
      (count_ne _ _ k0 h0) k)
  · rw [if_neg hk, gg_off X r h n i k hk, zero_mul, EReal.coe_zero]
end Cert.ReferenceIdeal.At
-- ==== Proof.Finite.lean ====
/- THE PRECONDITION: every element of every argument is finite, hence a real number. -/
module
public import proofs.«01_k».proof.Proof.HostC
public import proofs.«01_k».proof.Proof.RefRow
public import proofs.«01_k».proof.Pre_finite
@[expose] public section
noncomputable section
namespace Cert.Finite
open Idealize.ShloMosaic Idealize.ShloMosaic.TcCoe Idealize.SL.Sem
open Cert.Pre_finite

theorem facts : Cert.Pre_finite.Facts where
  bitsLt_bf16_f32 := by decide
  bcast_S_S8192x512 := by decide
  bcast_S_S1x8192x8 := by decide
  bcast_S_S32x8 := by decide

/-- A number whose absolute value is below infinity is real. -/
theorem real_of_lt (x : EReal) (hx : Ideal.cmp .olt (max x (-x)) (Ideal.ofBits .f32 0x7F800000#32) = 1#1) : x = (x.toReal : EReal) := by
  have ht : Ideal.ofBits .f32 0x7F800000#32 = ⊤ := by simp [Ideal.ofBits, Ideal.ieee]
  rw [ht] at hx
  induction x using EReal.rec with
  | bot => simp [Ideal.cmp] at hx
  | top => simp [Ideal.cmp] at hx
  | coe y => rw [EReal.toReal_coe]

variable [Cert.Pre_finite.Facts]
variable (x0 x1 x2 x3 : FVec Ideal S8192x512 .bf16) (x4 : FVec Ideal S1x8192x8 .f32) (x5 : FVec Ideal S32x8 .f32)
abbrev at0 (x : FVec Ideal S8192x512 .bf16) : S8192x512.Idx → EReal := x
theorem real0 (h : (Cert.Pre_finite.fn (F := Ideal) x0 x1 x2 x3 x4 x5).1 = fun _ => 1#1) (j : S8192x512.Idx) : at0 x0 j = ((at0 x0 j).toReal : EReal) :=
  real_of_lt _ (congrFun h j)
theorem real1 (h : (Cert.Pre_finite.fn (F := Ideal) x0 x1 x2 x3 x4 x5).2.1 = fun _ => 1#1) (j : S8192x512.Idx) : at0 x1 j = ((at0 x1 j).toReal : EReal) :=
  real_of_lt _ (congrFun h j)
theorem real2 (h : (Cert.Pre_finite.fn (F := Ideal) x0 x1 x2 x3 x4 x5).2.2.1 = fun _ => 1#1) (j : S8192x512.Idx) : at0 x2 j = ((at0 x2 j).toReal : EReal) :=
  real_of_lt _ (congrFun h j)
theorem real3 (h : (Cert.Pre_finite.fn (F := Ideal) x0 x1 x2 x3 x4 x5).2.2.2.1 = fun _ => 1#1) (j : S8192x512.Idx) : at0 x3 j = ((at0 x3 j).toReal : EReal) :=
  real_of_lt _ (congrFun h j)
abbrev at4 (x : FVec Ideal S1x8192x8 .f32) : S1x8192x8.Idx → EReal := x
abbrev at5 (x : FVec Ideal S32x8 .f32) : S32x8.Idx → EReal := x
theorem real4 (h : (Cert.Pre_finite.fn (F := Ideal) x0 x1 x2 x3 x4 x5).2.2.2.2.1 = fun _ => 1#1) (j : S1x8192x8.Idx) : at4 x4 j = ((at4 x4 j).toReal : EReal) :=
  real_of_lt _ (congrFun h j)
theorem real5 (h : (Cert.Pre_finite.fn (F := Ideal) x0 x1 x2 x3 x4 x5).2.2.2.2.2 = fun _ => 1#1) (j : S32x8.Idx) : at5 x5 j = ((at5 x5 j).toReal : EReal) :=
  real_of_lt _ (congrFun h j)
end Cert.Finite
-- ==== Proof.Ffn.lean ====
/- THE FEED-FORWARD LAYER'S ARITHMETIC, shared by the programs about it: the logistic function and a row of one
   matrix against a row of another. -/
module

public import Idealize.ShloMosaic.Lib.Pipeline.ValueKit

@[expose] public section

noncomputable section

namespace Cert.Ffn

open Idealize.ShloMosaic

/-- The logistic function as both programs compute it. -/
def logi (z : EReal) : EReal := Ideal.div 1 (1 + Ideal.exp (-z))

/-- Row `i` of `x` against row `j` of `w`, both of 1024 elements. -/
def rowDot (N W : ℕ) (x : (⟨2, ![N, 1024]⟩ : Shape).Idx → EReal) (w : (⟨2, ![W, 1024]⟩ : Shape).Idx → EReal)
    (i : Fin N) (j : Fin W) : EReal :=
  ∑ k : Fin 1024, x (ix2 i k) * w (ix2 j k)

/-- Column `i` of `a` against column `j` of `b`, over all 8192 rows. -/
def colDot (N W : ℕ) (a : (⟨2, ![8192, N]⟩ : Shape).Idx → EReal) (b : (⟨2, ![8192, W]⟩ : Shape).Idx → EReal)
    (i : Fin N) (j : Fin W) : EReal :=
  ∑ k : Fin 8192, a (ix2 k i) * b (ix2 k j)

/-- Rows `2048 q` to `2048 q + 2047` of column `i` of `a` against column `j` of `b`. -/
def colPart (N W : ℕ) (a : (⟨2, ![8192, N]⟩ : Shape).Idx → EReal) (b : (⟨2, ![8192, W]⟩ : Shape).Idx → EReal)
    (i : Fin N) (j : Fin W) (q : Fin 4) : EReal :=
  ∑ k : Fin 2048, a (ix2 ⟨q.val * 2048 + k.val, by omega⟩ i) * b (ix2 ⟨q.val * 2048 + k.val, by omega⟩ j)

/-- The four blocks of rows, added first to last, are all the rows. -/
theorem colPart_sum (N W : ℕ) (a : (⟨2, ![8192, N]⟩ : Shape).Idx → EReal) (b : (⟨2, ![8192, W]⟩ : Shape).Idx → EReal)
    (i : Fin N) (j : Fin W) :
    colPart N W a b i j 0 + colPart N W a b i j 1 + colPart N W a b i j 2 + colPart N W a b i j 3 = colDot N W a b i j := by
  have h := Fin.sum_mul_add_fin (M := EReal) (L := 8192) 4 2048 (fun k : Fin 8192 => a (ix2 k i) * b (ix2 k j)) (by norm_num)
  rw [Fin.sum_univ_four] at h
  exact h

/-- An index of a matrix by its two coordinates. -/
theorem ix_eta (N W : ℕ) (y : (⟨2, ![N, W]⟩ : Shape).Idx) : y = ix2 (n0 := N) (n1 := W) (y 0) (y 1) := by
  funext a; fin_cases a <;> rfl

/-- One half, as both programs write it. -/
def half : EReal := Ideal.ofBits .f32 0x3F000000#32

theorem half_eq : half = ((1 / 2 : ℝ) : EReal) := by
  unfold half
  simp [Ideal.ofBits, Ideal.ieee]
  rw [← EReal.coe_mul]
  norm_num

/-- A nonnegative real factor of a sum. -/
theorem mul_sum_real {ι : Type} (s : Finset ι) (f : ι → EReal) (c : ℝ) (hc : 0 ≤ c) :
    (c : EReal) * ∑ k ∈ s, f k = ∑ k ∈ s, (c : EReal) * f k := by
  classical
  induction s using Finset.induction_on with
  | empty => simp
  | insert a s ha ih =>
    rw [Finset.sum_insert ha, Finset.sum_insert ha, ← ih]
    exact EReal.left_distrib_of_nonneg_of_ne_top (EReal.coe_nonneg.2 hc) (EReal.coe_ne_top c) _ _

theorem half_mul_sum {ι : Type} (s : Finset ι) (f : ι → EReal) : half * ∑ k ∈ s, f k = ∑ k ∈ s, half * f k := by
  rw [half_eq]
  exact mul_sum_real s f _ (by norm_num)

/-- The logistic function of a real number is real. -/
theorem logi_real (z : ℝ) : logi (z : EReal) = ((1 / (1 + Real.exp (-z)) : ℝ) : EReal) := by
  have h : (1 + Real.exp (-z)) ≠ 0 := by positivity
  unfold logi
  rw [← EReal.coe_neg, Ideal.exp_coe, ← EReal.coe_one, ← EReal.coe_add, Ideal.div_coe h, ← EReal.coe_mul, one_mul]

/-- A sum of real numbers is real. -/
theorem sum_real {ι : Type} (s : Finset ι) (f : ι → EReal) (r : ι → ℝ) (h : ∀ k, f k = (r k : EReal)) :
    ∑ k ∈ s, f k = ((∑ k ∈ s, r k : ℝ) : EReal) := by
  classical
  induction s using Finset.induction_on with
  | empty => simp
  | insert a s ha ih => rw [Finset.sum_insert ha, Finset.sum_insert ha, EReal.coe_add, ih, h]

/-- The gate's gradient as the kernel forms it and as the product rule does. -/
theorem gate_grad (d g u : ℝ) :
    (d : EReal) * u * (logi g * (1 + g * (1 - logi g)))
      = (d : EReal) * u * logi g + (g : EReal) * (d * u) * (logi g * (1 - logi g)) := by
  rw [logi_real]
  norm_cast
  ring

end Cert.Ffn

end
-- ==== Proof.DwIn.lean ====
/- THE GRADIENT OF THE INPUT PROJECTION'S WEIGHT: the product over 8192 rows that the kernel adds up in four blocks of
   rows, element by element. -/
module

public import proofs.«01_k».proof.Proof.Gen.Kernel8Ideal.Value
public import proofs.«01_k».proof.Proof.Ffn
public import Idealize.ShloMosaic.Lib.Pipeline.ReadBack

@[expose] public section

set_option maxRecDepth 16384

noncomputable section

namespace Cert.Kernel8Ideal.Dw

open Idealize.ShloMosaic Idealize.ShloMosaic.TcCoe Idealize.SL.Sem
open Idealize.ShloMosaic.Pipeline (Dat)
open Cert.Kernel8Ideal Cert.Kernel8Ideal.Gen Cert.Ffn

theorem idx_a : ∀ t : Fin cfg0.N, win0_0.index t = ![t.val % 4, 0] :=
  (by decide +kernel : ∀ t : Fin grid0.N, win0_0.index t = ![t.val % 4, 0])
theorem idx_b : ∀ t : Fin cfg0.N, win0_1.index t = ![t.val % 4, t.val / 4] :=
  (by decide +kernel : ∀ t : Fin grid0.N, win0_1.index t = ![t.val % 4, t.val / 4])
theorem idx_o : ∀ t : Fin cfg0.N, win0_2.index t = ![0, t.val / 4] :=
  (by decide +kernel : ∀ t : Fin grid0.N, win0_2.index t = ![0, t.val / 4])

theorem blk_a (A : S8192x1024.Idx → EReal) (t : Fin cfg0.N) (j : Fin 2048) (l : Fin 1024) (h0) (h1) :
    ((cfg0.win 0).blk t).view.read (Elt Ideal) A (ix2 j l) = A (ix2 ⟨t.val % 4 * 2048 + j.val, h0⟩ ⟨l.val, h1⟩) := by
  blk_point [idx_a t]
theorem blk_b (A : S8192x3840.Idx → EReal) (t : Fin cfg0.N) (j : Fin 2048) (l : Fin 1280) (h0) (h1) :
    ((cfg0.win 1).blk t).view.read (Elt Ideal) A (ix2 j l) = A (ix2 ⟨t.val % 4 * 2048 + j.val, h0⟩ ⟨1280 * (t.val / 4) + l.val, h1⟩) := by
  blk_point [idx_b t]

/-- A block's product, element by element. -/
theorem part_at (x : FVec Ideal S2048x1024 .bf16) (y : FVec Ideal S2048x1280 .bf16) (i : Fin 1024) (j : Fin 1280) :
    k0_pay1 (F := Ideal) x y (ix2 i j) = ∑ k : Fin 2048, (x (ix2 k i) : EReal) * y (ix2 k j) := by
  pointwise [k0_pay1]

variable (m : (ℓ : Loc nD τ sig) → Buf (Elt Ideal) ℓ)

abbrev aL (c : Dev nD) : S8192x1024.Idx → EReal := m ((c.tc : Thread nD τ).loc main_arg0)
abbrev aR (c : Dev nD) : S8192x3840.Idx → EReal := m ((c.tc : Thread nD τ).loc main_arg1)

/-- A point's product, from the arrays. -/
theorem part_blk (c : Dev nD) (t : Fin cfg0.N) (i : Fin 1024) (j : Fin 1280) (q : Fin 4) (hq : t.val % 4 = q.val)
    (I : Fin 1024) (hI : I.val = i.val) (J : Fin 3840) (hJ : J.val = 1280 * (t.val / 4) + j.val) :
    k0_pay1 (F := Ideal) (iblk m c 0 t) (iblk m c 1 t) (ix2 i j) = colPart 1024 3840 (aL m c) (aR m c) I J q := by
  refine (part_at _ _ i j).trans ?_
  unfold colPart
  refine Finset.sum_congr rfl fun k _ => ?_
  have hI' : I = ⟨i.val, by omega⟩ := Fin.ext hI
  have hJ' : J = ⟨1280 * (t.val / 4) + j.val, by omega⟩ := Fin.ext hJ
  have hk : (⟨q.val * 2048 + k.val, by omega⟩ : Fin 8192) = ⟨t.val % 4 * 2048 + k.val, by omega⟩ := Fin.ext (by dsimp only; rw [hq])
  rw [hI', hJ', hk]
  exact congrArg₂ (· * ·) (blk_a (aL m c) t k i _ _) (blk_b (aR m c) t k j _ _)

/-- What the accumulator holds after point `n`. -/
abbrev accAt (c : Dev nD) (n : ℕ) (h : n < cfg0.N) : S1024x1280.Idx → EReal := (outsAt0 m c n h).2

theorem acc_A (c : Dev nD) (t : Fin cfg0.N) (h0 : t.val % 4 = 0) :
    accAt m c t.val t.isLt = k0_pay1 (F := Ideal) (iblk m c 0 t) (iblk m c 1 t) := by
  unfold accAt
  rw [outsAt0_A m c t h0 (by omega) (by omega)]
  frame_out
  unfold k0_pay2
  simp only [shapeCast_self]

theorem acc_B (c : Dev nD) (t : Fin cfg0.N) (h1 : 1 ≤ t.val % 4 ∧ t.val % 4 ≤ 2) :
    accAt m c t.val t.isLt = fun j => accAt m c (t.val - 1) (Nat.lt_of_le_of_lt (Nat.sub_le _ _) t.isLt) j
      + k0_pay1 (F := Ideal) (iblk m c 0 t) (iblk m c 1 t) j := by
  unfold accAt
  rw [outsAt0_B m c t (by omega) h1 (by omega)]
  frame_out
  unfold k0_pay3
  simp only [shapeCast_self, read_unread_whole]
  rfl

theorem out_C (c : Dev nD) (t : Fin cfg0.N) (h2 : t.val % 4 = 3) :
    (outsAt0 m c t.val t.isLt).1 = fun j => accAt m c (t.val - 1) (Nat.lt_of_le_of_lt (Nat.sub_le _ _) t.isLt) j
      + k0_pay1 (F := Ideal) (iblk m c 0 t) (iblk m c 1 t) j := by
  rw [outsAt0_C m c t (by omega) (by omega) h2]
  frame_out
  unfold k0_pay4
  simp only [read_unread_whole]
  rfl

/-- The accumulator after the third block of a run. -/
theorem acc_run (c : Dev nD) (t : Fin cfg0.N) (h : t.val % 4 = 3) (i : Fin 1024) (j : Fin 1280)
    (I : Fin 1024) (hI : I.val = i.val) (J : Fin 3840) (hJ : J.val = 1280 * (t.val / 4) + j.val) :
    accAt m c (t.val - 1) (Nat.lt_of_le_of_lt (Nat.sub_le _ _) t.isLt) (ix2 i j)
      = colPart 1024 3840 (aL m c) (aR m c) I J 0 + colPart 1024 3840 (aL m c) (aR m c) I J 1 + colPart 1024 3840 (aL m c) (aR m c) I J 2 := by
  have hN := t.isLt
  have e1 := congrFun (acc_B m c ⟨t.val - 1, by omega⟩ (by dsimp only; omega)) (ix2 i j)
  have e2 := congrFun (acc_B m c ⟨t.val - 1 - 1, by omega⟩ (by dsimp only; omega)) (ix2 i j)
  have e3 := congrFun (acc_A m c ⟨t.val - 1 - 1 - 1, by omega⟩ (by dsimp only; omega)) (ix2 i j)
  dsimp only at e1 e2 e3
  rw [e1, e2, e3]
  rw [part_blk m c ⟨t.val - 1, by omega⟩ i j 2 (by show (t.val - 1) % 4 = 2; omega) I hI J (by dsimp only; omega),
    part_blk m c ⟨t.val - 1 - 1, by omega⟩ i j 1 (by show (t.val - 1 - 1) % 4 = 1; omega) I hI J (by dsimp only; omega),
    part_blk m c ⟨t.val - 1 - 1 - 1, by omega⟩ i j 0 (by show (t.val - 1 - 1 - 1) % 4 = 0; omega) I hI J (by dsimp only; omega)]

/-- The point that writes a result's element, and the element's place in the point's block. -/
theorem emb_val (t : Fin cfg0.N) (y : S1024x1280.Idx) :
    ((((cfg0.win 2).blk t).view.emb y) 0).val = (y 0).val
      ∧ ((((cfg0.win 2).blk t).view.emb y) 1).val = 1280 * (t.val / 4) + (y 1).val := by
  refine ⟨?_, ?_⟩ <;> blk_simp [idx_o t] <;> try omega

/-- The input projection's gradient, element by element. -/
theorem dw_final (c : Dev nD) : (dats m 0 c).arrAt 2 cfg0.N = fun i : S1024x3840.Idx =>
    colDot 1024 3840 (aL m c) (aR m c) (i 0) (i 1) := by
  refine (dats m 0 c).arrAt_eq_of_covers 2 _ (by decide +kernel) fun t hf y => ?_
  obtain ⟨e0, e1⟩ := emb_val t y
  have h3 : t.val % 4 = 3 := (flush0_2 t).mp hf
  rw [cast_eq]
  generalize hz : (cfg0.win 2).xinj (cfg0.grid.coords t) y = z
  obtain rfl : z = ix2 (n0 := 1024) (n1 := 1280) (y 0) (y 1) := hz.symm.trans (ix_eta 1024 1280 y)
  rw [after0_2, out_C m c t h3]
  dsimp only
  rw [acc_run m c t h3 (y 0) (y 1) _ e0 _ e1, part_blk m c t (y 0) (y 1) 3 h3 _ e0 _ e1]
  exact colPart_sum 1024 3840 _ _ _ _

end Cert.Kernel8Ideal.Dw

end
-- ==== Proof.DwOut.lean ====
/- THE GRADIENT OF THE OUTPUT PROJECTION'S WEIGHT, one half of its rows: the product over 8192 rows that the kernel
   adds up in four blocks of rows, element by element. -/
module

public import proofs.«01_k».proof.Proof.Gen.Kernel11Ideal.Value
public import proofs.«01_k».proof.Proof.Ffn
public import Idealize.ShloMosaic.Lib.Pipeline.ReadBack

@[expose] public section

set_option maxRecDepth 16384

noncomputable section

namespace Cert.Kernel11Ideal.Dw

open Idealize.ShloMosaic Idealize.ShloMosaic.TcCoe Idealize.SL.Sem
open Idealize.ShloMosaic.Pipeline (Dat)
open Cert.Kernel11Ideal Cert.Kernel11Ideal.Gen Cert.Ffn

theorem idx_a : ∀ t : Fin cfg0.N, win0_0.index t = ![t.val % 4, 0] :=
  (by decide +kernel : ∀ t : Fin grid0.N, win0_0.index t = ![t.val % 4, 0])
theorem idx_b : ∀ t : Fin cfg0.N, win0_1.index t = ![t.val % 4, 0] :=
  (by decide +kernel : ∀ t : Fin grid0.N, win0_1.index t = ![t.val % 4, 0])
theorem idx_o : ∀ t : Fin cfg0.N, win0_2.index t = ![0, 0] :=
  (by decide +kernel : ∀ t : Fin grid0.N, win0_2.index t = ![0, 0])

theorem blk_a (A : S8192x512.Idx → EReal) (t : Fin cfg0.N) (j : Fin 2048) (l : Fin 512) (h0) (h1) :
    ((cfg0.win 0).blk t).view.read (Elt Ideal) A (ix2 j l) = A (ix2 ⟨t.val % 4 * 2048 + j.val, h0⟩ ⟨l.val, h1⟩) := by
  blk_point [idx_a t]
theorem blk_b (A : S8192x1024.Idx → EReal) (t : Fin cfg0.N) (j : Fin 2048) (l : Fin 1024) (h0) (h1) :
    ((cfg0.win 1).blk t).view.read (Elt Ideal) A (ix2 j l) = A (ix2 ⟨t.val % 4 * 2048 + j.val, h0⟩ ⟨l.val, h1⟩) := by
  blk_point [idx_b t]

/-- A block's product, element by element. -/
theorem part_at (x : FVec Ideal S2048x512 .bf16) (y : FVec Ideal S2048x1024 .f32) (i : Fin 512) (j : Fin 1024) :
    k0_pay1 (F := Ideal) x y (ix2 i j) = ∑ k : Fin 2048, (x (ix2 k i) : EReal) * y (ix2 k j) := by
  pointwise [k0_pay1]

variable (m : (ℓ : Loc nD τ sig) → Buf (Elt Ideal) ℓ)

abbrev aL (c : Dev nD) : S8192x512.Idx → EReal := m ((c.tc : Thread nD τ).loc main_arg0)
abbrev aR (c : Dev nD) : S8192x1024.Idx → EReal := m ((c.tc : Thread nD τ).loc main_arg1)

/-- A point's product, from the arrays. -/
theorem part_blk (c : Dev nD) (t : Fin cfg0.N) (i : Fin 512) (j : Fin 1024) (q : Fin 4) (hq : t.val % 4 = q.val)
    (I : Fin 512) (hI : I.val = i.val) (J : Fin 1024) (hJ : J.val = j.val) :
    k0_pay1 (F := Ideal) (iblk m c 0 t) (iblk m c 1 t) (ix2 i j) = colPart 512 1024 (aL m c) (aR m c) I J q := by
  refine (part_at _ _ i j).trans ?_
  unfold colPart
  refine Finset.sum_congr rfl fun k _ => ?_
  have hI' : I = ⟨i.val, by omega⟩ := Fin.ext hI
  have hJ' : J = ⟨j.val, by omega⟩ := Fin.ext hJ
  have hk : (⟨q.val * 2048 + k.val, by omega⟩ : Fin 8192) = ⟨t.val % 4 * 2048 + k.val, by omega⟩ := Fin.ext (by dsimp only; rw [hq])
  rw [hI', hJ', hk]
  exact congrArg₂ (· * ·) (blk_a (aL m c) t k i _ _) (blk_b (aR m c) t k j _ _)

/-- What the accumulator holds after point `n`. -/
abbrev accAt (c : Dev nD) (n : ℕ) (h : n < cfg0.N) : S512x1024.Idx → EReal := (outsAt0 m c n h).2

theorem acc_A (c : Dev nD) (t : Fin cfg0.N) (h0 : t.val % 4 = 0) :
    accAt m c t.val t.isLt = k0_pay1 (F := Ideal) (iblk m c 0 t) (iblk m c 1 t) := by
  unfold accAt
  rw [outsAt0_A m c t h0 (by omega) (by omega)]
  frame_out
  unfold k0_pay2
  simp only [shapeCast_self]

theorem acc_B (c : Dev nD) (t : Fin cfg0.N) (h1 : 1 ≤ t.val % 4 ∧ t.val % 4 ≤ 2) :
    accAt m c t.val t.isLt = fun j => accAt m c (t.val - 1) (Nat.lt_of_le_of_lt (Nat.sub_le _ _) t.isLt) j
      + k0_pay1 (F := Ideal) (iblk m c 0 t) (iblk m c 1 t) j := by
  unfold accAt
  rw [outsAt0_B m c t (by omega) h1 (by omega)]
  frame_out
  unfold k0_pay3
  simp only [shapeCast_self, read_unread_whole]
  rfl

theorem out_C (c : Dev nD) (t : Fin cfg0.N) (h2 : t.val % 4 = 3) :
    (outsAt0 m c t.val t.isLt).1 = fun j => accAt m c (t.val - 1) (Nat.lt_of_le_of_lt (Nat.sub_le _ _) t.isLt) j
      + k0_pay1 (F := Ideal) (iblk m c 0 t) (iblk m c 1 t) j := by
  rw [outsAt0_C m c t (by omega) (by omega) h2]
  frame_out
  unfold k0_pay4
  simp only [read_unread_whole]
  rfl

/-- The accumulator after the third block of a run. -/
theorem acc_run (c : Dev nD) (t : Fin cfg0.N) (h : t.val % 4 = 3) (i : Fin 512) (j : Fin 1024)
    (I : Fin 512) (hI : I.val = i.val) (J : Fin 1024) (hJ : J.val = j.val) :
    accAt m c (t.val - 1) (Nat.lt_of_le_of_lt (Nat.sub_le _ _) t.isLt) (ix2 i j)
      = colPart 512 1024 (aL m c) (aR m c) I J 0 + colPart 512 1024 (aL m c) (aR m c) I J 1 + colPart 512 1024 (aL m c) (aR m c) I J 2 := by
  have hN := t.isLt
  have e1 := congrFun (acc_B m c ⟨t.val - 1, by omega⟩ (by dsimp only; omega)) (ix2 i j)
  have e2 := congrFun (acc_B m c ⟨t.val - 1 - 1, by omega⟩ (by dsimp only; omega)) (ix2 i j)
  have e3 := congrFun (acc_A m c ⟨t.val - 1 - 1 - 1, by omega⟩ (by dsimp only; omega)) (ix2 i j)
  dsimp only at e1 e2 e3
  rw [e1, e2, e3]
  rw [part_blk m c ⟨t.val - 1, by omega⟩ i j 2 (by show (t.val - 1) % 4 = 2; omega) I hI J hJ,
    part_blk m c ⟨t.val - 1 - 1, by omega⟩ i j 1 (by show (t.val - 1 - 1) % 4 = 1; omega) I hI J hJ,
    part_blk m c ⟨t.val - 1 - 1 - 1, by omega⟩ i j 0 (by show (t.val - 1 - 1 - 1) % 4 = 0; omega) I hI J hJ]

/-- The point that writes a result's element, and the element's place in the point's block. -/
theorem emb_val (t : Fin cfg0.N) (y : S512x1024.Idx) :
    ((((cfg0.win 2).blk t).view.emb y) 0).val = (y 0).val
      ∧ ((((cfg0.win 2).blk t).view.emb y) 1).val = (y 1).val := by
  refine ⟨?_, ?_⟩ <;> blk_simp [idx_o t] <;> try omega

/-- The output projection's gradient, element by element. -/
theorem dw_final (c : Dev nD) : (dats m 0 c).arrAt 2 cfg0.N = fun i : S512x1024.Idx =>
    colDot 512 1024 (aL m c) (aR m c) (i 0) (i 1) := by
  refine (dats m 0 c).arrAt_eq_of_covers 2 _ (by decide +kernel) fun t hf y => ?_
  obtain ⟨e0, e1⟩ := emb_val t y
  have h3 : t.val % 4 = 3 := (flush0_2 t).mp hf
  rw [cast_eq]
  generalize hz : (cfg0.win 2).xinj (cfg0.grid.coords t) y = z
  obtain rfl : z = ix2 (n0 := 512) (n1 := 1024) (y 0) (y 1) := hz.symm.trans (ix_eta 512 1024 y)
  rw [after0_2, out_C m c t h3]
  dsimp only
  rw [acc_run m c t h3 (y 0) (y 1) _ e0 _ e1, part_blk m c t (y 0) (y 1) 3 h3 _ e0 _ e1]
  exact colPart_sum 512 1024 _ _ _ _

end Cert.Kernel11Ideal.Dw

end
-- ==== Proof.ProjIn.lean ====
/- THE INPUT PROJECTION: the product of the normed rows with the padded weight, element by element. -/
module

public import proofs.«01_k».proof.Proof.Gen.Kernel9Ideal.Value
public import proofs.«01_k».proof.Proof.Ffn

@[expose] public section

set_option maxRecDepth 16384

noncomputable section

namespace Cert.Kernel9Ideal.Proj

open Idealize.ShloMosaic Idealize.ShloMosaic.TcCoe Idealize.SL.Sem
open Idealize.ShloMosaic.Pipeline (Dat)
open Cert.Kernel9Ideal Cert.Kernel9Ideal.Gen Cert.Ffn

theorem idx_a : ∀ t : Fin cfg0.N, win0_0.index t = ![t.val, 0] :=
  (by decide +kernel : ∀ t : Fin grid0.N, win0_0.index t = ![t.val, 0])
theorem idx_b : ∀ t : Fin cfg0.N, win0_1.index t = ![0, 0] :=
  (by decide +kernel : ∀ t : Fin grid0.N, win0_1.index t = ![0, 0])
theorem idx_o : ∀ t : Fin cfg0.N, win0_2.index t = ![t.val, 0] :=
  (by decide +kernel : ∀ t : Fin grid0.N, win0_2.index t = ![t.val, 0])

theorem blk_a (A : S8192x1024.Idx → EReal) (t : Fin cfg0.N) (j : Fin 256) (l : Fin 1024) (h0) :
    ((cfg0.win 0).blk t).view.read (Elt Ideal) A (ix2 j l) = A (ix2 ⟨256 * t.val + j.val, h0⟩ l) := by
  blk_point [idx_a t]
theorem blk_b (A : S1024x3840.Idx → EReal) (t : Fin cfg0.N) (j : Fin 1024) (l : Fin 3840) :
    ((cfg0.win 1).blk t).view.read (Elt Ideal) A (ix2 j l) = A (ix2 j l) := by
  blk_point [idx_b t]

/-- A block's product, element by element. -/
theorem part_at (x : FVec Ideal S256x1024 .bf16) (y : FVec Ideal S1024x3840 .bf16) (i : Fin 256) (j : Fin 3840) :
    k0_pay1 (F := Ideal) x y (ix2 i j) = ∑ k : Fin 1024, (x (ix2 i k) : EReal) * y (ix2 k j) := by
  pointwise [k0_pay1]

variable (m : (ℓ : Loc nD τ sig) → Buf (Elt Ideal) ℓ)

abbrev aL (c : Dev nD) : S8192x1024.Idx → EReal := m ((c.tc : Thread nD τ).loc main_arg0)
abbrev aR (c : Dev nD) : S1024x3840.Idx → EReal := m ((c.tc : Thread nD τ).loc main_arg1)

/-- A row against a column of the two arrays. -/
def dotAt (c : Dev nD) (i : Fin 8192) (j : Fin 3840) : EReal := ∑ k : Fin 1024, aL m c (ix2 i k) * aR m c (ix2 k j)

/-- A point's product, from the arrays. -/
theorem part_blk (c : Dev nD) (t : Fin cfg0.N) (i : Fin 256) (j J : Fin 3840) (I : Fin 8192) (hI : I.val = 256 * t.val + i.val)
    (hJ : J.val = j.val) : k0_pay1 (F := Ideal) (iblk m c 0 t) (iblk m c 1 t) (ix2 i j) = dotAt m c I J := by
  refine (part_at _ _ i j).trans ?_
  unfold dotAt
  refine Finset.sum_congr rfl fun k _ => ?_
  have hI' : I = ⟨256 * t.val + i.val, by omega⟩ := Fin.ext hI
  have hJ' : J = j := Fin.ext hJ
  rw [hI', hJ']
  exact congrArg₂ (· * ·) (blk_a (aL m c) t i k _) (blk_b (aR m c) t k j)

/-- What a point leaves in the result's window. -/
theorem out_eq (c : Dev nD) (t : Fin cfg0.N) : outsAt0 m c t = k0_pay1 (F := Ideal) (iblk m c 0 t) (iblk m c 1 t) := by
  unfold outsAt0
  frame_out

/-- The point that writes a result's element, and the element's place in the point's block. -/
theorem emb_val (t : Fin cfg0.N) (y : S256x3840.Idx) :
    ((((cfg0.win 2).blk t).view.emb y) 0).val = 256 * t.val + (y 0).val
      ∧ ((((cfg0.win 2).blk t).view.emb y) 1).val = (y 1).val := by
  refine ⟨?_, ?_⟩ <;> blk_simp [idx_o t] <;> try omega

/-- The projection, element by element. -/
theorem final (c : Dev nD) : (dats m 0 c).arrAt 2 cfg0.N = fun i : S8192x3840.Idx =>
    dotAt m c (i 0) (i 1) := by
  refine (dats m 0 c).arrAt_eq_of_covers 2 _ (by decide +kernel) fun t hf y => ?_
  obtain ⟨e0, e1⟩ := emb_val t y
  rw [cast_eq]
  generalize hz : (cfg0.win 2).xinj (cfg0.grid.coords t) y = z
  obtain rfl : z = ix2 (n0 := 256) (n1 := 3840) (y 0) (y 1) := hz.symm.trans (ix_eta 256 3840 y)
  rw [after0_2, out_eq]
  exact part_blk m c t (y 0) (y 1) _ _ e0 e1

end Cert.Kernel9Ideal.Proj

end
-- ==== Proof.ProjBack.lean ====
/- THE GRADIENT OF THE OUTPUT PROJECTION'S INPUT, one half of its columns: the product with the transpose of the
   weight's rows, element by element. -/
module

public import proofs.«01_k».proof.Proof.Gen.Kernel10Ideal.Value
public import proofs.«01_k».proof.Proof.Ffn

@[expose] public section

set_option maxRecDepth 16384

noncomputable section

namespace Cert.Kernel10Ideal.Proj

open Idealize.ShloMosaic Idealize.ShloMosaic.TcCoe Idealize.SL.Sem
open Idealize.ShloMosaic.Pipeline (Dat)
open Cert.Kernel10Ideal Cert.Kernel10Ideal.Gen Cert.Ffn

theorem idx_a : ∀ t : Fin cfg0.N, win0_0.index t = ![t.val, 0] :=
  (by decide +kernel : ∀ t : Fin grid0.N, win0_0.index t = ![t.val, 0])
theorem idx_b : ∀ t : Fin cfg0.N, win0_1.index t = ![0, 0] :=
  (by decide +kernel : ∀ t : Fin grid0.N, win0_1.index t = ![0, 0])
theorem idx_o : ∀ t : Fin cfg0.N, win0_2.index t = ![t.val, 0] :=
  (by decide +kernel : ∀ t : Fin grid0.N, win0_2.index t = ![t.val, 0])

theorem blk_a (A : S8192x1024.Idx → EReal) (t : Fin cfg0.N) (j : Fin 512) (l : Fin 1024) (h0) :
    ((cfg0.win 0).blk t).view.read (Elt Ideal) A (ix2 j l) = A (ix2 ⟨512 * t.val + j.val, h0⟩ l) := by
  blk_point [idx_a t]
theorem blk_b (A : S512x1024.Idx → EReal) (t : Fin cfg0.N) (j : Fin 512) (l : Fin 1024) :
    ((cfg0.win 1).blk t).view.read (Elt Ideal) A (ix2 j l) = A (ix2 j l) := by
  blk_point [idx_b t]

/-- A block's product, element by element. -/
theorem part_at (x : FVec Ideal S512x1024 .f32) (y : FVec Ideal S512x1024 .bf16) (i : Fin 512) (j : Fin 512) :
    k0_pay1 (F := Ideal) x y (ix2 i j) = ∑ k : Fin 1024, (x (ix2 i k) : EReal) * y (ix2 j k) := by
  pointwise [k0_pay1]

variable (m : (ℓ : Loc nD τ sig) → Buf (Elt Ideal) ℓ)

abbrev aL (c : Dev nD) : S8192x1024.Idx → EReal := m ((c.tc : Thread nD τ).loc main_arg0)
abbrev aR (c : Dev nD) : S512x1024.Idx → EReal := m ((c.tc : Thread nD τ).loc main_arg1)

/-- A row against a column of the two arrays. -/
def dotAt (c : Dev nD) (i : Fin 8192) (j : Fin 512) : EReal := ∑ k : Fin 1024, aL m c (ix2 i k) * aR m c (ix2 j k)

/-- A point's product, from the arrays. -/
theorem part_blk (c : Dev nD) (t : Fin cfg0.N) (i : Fin 512) (j J : Fin 512) (I : Fin 8192) (hI : I.val = 512 * t.val + i.val)
    (hJ : J.val = j.val) : k0_pay1 (F := Ideal) (iblk m c 0 t) (iblk m c 1 t) (ix2 i j) = dotAt m c I J := by
  refine (part_at _ _ i j).trans ?_
  unfold dotAt
  refine Finset.sum_congr rfl fun k _ => ?_
  have hI' : I = ⟨512 * t.val + i.val, by omega⟩ := Fin.ext hI
  have hJ' : J = j := Fin.ext hJ
  rw [hI', hJ']
  exact congrArg₂ (· * ·) (blk_a (aL m c) t i k _) (blk_b (aR m c) t j k)

/-- What a point leaves in the result's window. -/
theorem out_eq (c : Dev nD) (t : Fin cfg0.N) : outsAt0 m c t = k0_pay1 (F := Ideal) (iblk m c 0 t) (iblk m c 1 t) := by
  unfold outsAt0
  frame_out

/-- The point that writes a result's element, and the element's place in the point's block. -/
theorem emb_val (t : Fin cfg0.N) (y : S512x512.Idx) :
    ((((cfg0.win 2).blk t).view.emb y) 0).val = 512 * t.val + (y 0).val
      ∧ ((((cfg0.win 2).blk t).view.emb y) 1).val = (y 1).val := by
  refine ⟨?_, ?_⟩ <;> blk_simp [idx_o t] <;> try omega

/-- The gradient, element by element. -/
theorem final (c : Dev nD) : (dats m 0 c).arrAt 2 cfg0.N = fun i : S8192x512.Idx =>
    dotAt m c (i 0) (i 1) := by
  refine (dats m 0 c).arrAt_eq_of_covers 2 _ (by decide +kernel) fun t hf y => ?_
  obtain ⟨e0, e1⟩ := emb_val t y
  rw [cast_eq]
  generalize hz : (cfg0.win 2).xinj (cfg0.grid.coords t) y = z
  obtain rfl : z = ix2 (n0 := 512) (n1 := 512) (y 0) (y 1) := hz.symm.trans (ix_eta 512 512 y)
  rw [after0_2, out_eq]
  exact part_blk m c t (y 0) (y 1) _ _ e0 e1

end Cert.Kernel10Ideal.Proj

end
-- ==== Proof.ProjEqual.lean ====
/- THE TWO PROJECTIONS: the references' products and gradients element by element, the kernels' equal to them, and the
   programs' frames. -/
module

public import proofs.«01_k».proof.Proof.DwIn
public import proofs.«01_k».proof.Proof.DwOut
public import proofs.«01_k».proof.Proof.ProjIn
public import proofs.«01_k».proof.Proof.ProjBack
public import proofs.«01_k».proof.Proof.Gen.Reference8Ideal.Run
public import proofs.«01_k».proof.Proof.Gen.Kernel8.Frame
public import proofs.«01_k».proof.Proof.Gen.Reference9Ideal.Run
public import proofs.«01_k».proof.Proof.Gen.Kernel9.Frame
public import proofs.«01_k».proof.Proof.Gen.Reference10Ideal.Run
public import proofs.«01_k».proof.Proof.Gen.Kernel10.Frame
public import proofs.«01_k».proof.Proof.Gen.Reference11Ideal.Run
public import proofs.«01_k».proof.Proof.Gen.Kernel11.Frame
public import proofs.«01_k».proof.Defs

@[expose] public section

set_option maxRecDepth 16384

noncomputable section

namespace Cert.Reference8Ideal.At

open Idealize.ShloMosaic Idealize.ShloMosaic.TcCoe Idealize.SL.Sem
open Cert.Reference8Ideal Cert.Reference8Ideal.Gen Cert.Ffn

theorem dw_at (n : FVec Ideal S8192x1024 .bf16) (d : FVec Ideal S8192x3840 .bf16) (i : Fin 1024) (j : Fin 3840) :
    transpose S1024x3840 [1, 0] (Host.dotGeneral dot_S8192x3840_S8192x1024_S3840x1024_0_0_1_1_n_n none (extf .f32 d bitsLt_bf16_f32)
        (extf .f32 n bitsLt_bf16_f32)) transposes_S3840x1024_S1024x3840_1_0 (ix2 i j)
      = colDot 1024 3840 n d i j := by
  refine Eq.trans (b := ∑ k : Fin 8192, (d (ix2 k j) : EReal) * n (ix2 k i)) ?_ (Finset.sum_congr rfl fun k _ => mul_comm _ _)
  pointwise

end Cert.Reference8Ideal.At

namespace Cert.Reference9Ideal.At

open Idealize.ShloMosaic Idealize.ShloMosaic.TcCoe Idealize.SL.Sem
open Cert.Reference9Ideal Cert.Reference9Ideal.Gen Cert.Ffn

theorem proj_at (n : FVec Ideal S8192x1024 .bf16) (w : FVec Ideal S1024x3840 .bf16) (i : Fin 8192) (j : Fin 3840) :
    Host.dotGeneral dot_S8192x1024_S1024x3840_S8192x3840_1_0_0_1_n_n none (extf .f32 n bitsLt_bf16_f32) (extf .f32 w bitsLt_bf16_f32) (ix2 i j)
      = ∑ k : Fin 1024, (n (ix2 i k) : EReal) * w (ix2 k j) := by
  pointwise

end Cert.Reference9Ideal.At

namespace Cert.Reference10Ideal.At

open Idealize.ShloMosaic Idealize.ShloMosaic.TcCoe Idealize.SL.Sem
open Cert.Reference10Ideal Cert.Reference10Ideal.Gen Cert.Ffn

theorem proj_at (d : FVec Ideal S8192x1024 .f32) (w : FVec Ideal S512x1024 .bf16) (i : Fin 8192) (j : Fin 512) :
    Host.dotGeneral dot_S8192x1024_S512x1024_S8192x512_1_1_0_0_n_n none d (extf .f32 w bitsLt_bf16_f32) (ix2 i j)
      = ∑ k : Fin 1024, (d (ix2 i k) : EReal) * w (ix2 j k) := by
  pointwise

end Cert.Reference10Ideal.At

namespace Cert.Reference11Ideal.At

open Idealize.ShloMosaic Idealize.ShloMosaic.TcCoe Idealize.SL.Sem
open Cert.Reference11Ideal Cert.Reference11Ideal.Gen Cert.Ffn

theorem dw_at (o : FVec Ideal S8192x512 .bf16) (d : FVec Ideal S8192x1024 .f32) (i : Fin 512) (j : Fin 1024) :
    truncf .bf16 (transpose S512x1024 [1, 0] (Host.dotGeneral dot_S8192x1024_S8192x512_S1024x512_0_0_1_1_n_n none d
        (extf .f32 o bitsLt_bf16_f32)) transposes_S1024x512_S512x1024_1_0) bitsLt_bf16_f32 (ix2 i j)
      = colDot 512 1024 o d i j := by
  refine Eq.trans (b := ∑ k : Fin 8192, (d (ix2 k j) : EReal) * o (ix2 k i)) ?_ (Finset.sum_congr rfl fun k _ => mul_comm _ _)
  pointwise

end Cert.Reference11Ideal.At

namespace Cert.Proof

open Idealize.ShloMosaic Idealize.ShloMosaic.TcCoe Idealize.SL.Sem Cert.Ffn

theorem frame_kernel8 : Cert.quiescent_Kernel8 (hKernel8 := Cert.Kernel8.Gen.facts) :=
  fun m ρ _ => Cert.Kernel8.Gen.frame m ρ

theorem frame_kernel8Ideal : Cert.quiescent_Kernel8Ideal (hKernel8Ideal := Cert.Kernel8Ideal.Gen.facts) :=
  fun m ρ _ => Cert.Kernel8Ideal.Gen.frame m ρ

theorem frame_reference8Ideal :
    Cert.quiescent_Reference8Ideal (hReference8Ideal := Cert.Reference8Ideal.Gen.facts) := by
  intro m ρ _
  exact (θ_run Cert.Reference8Ideal.defs _ _).mono (fun r h => ⟨fun c => (h c).2,
      Idealize.ShloMosaic.sem_eq_zero_of_no_sems (by decide) r.2⟩)
    (Cert.Reference8Ideal.Value.run (F := Ideal) m ρ)

/-- The gradient of the input projection's weight: from equal arguments, both programs end with equal results. -/
theorem algebraic8 : Cert.algebraic_Kernel8Ideal_Reference8Ideal (hKernel8Ideal := Cert.Kernel8Ideal.Gen.facts)
    (hReference8Ideal := Cert.Reference8Ideal.Gen.facts) := by
  intro m g m' g' _ hargs
  refine ⟨fun c => (Cert.Kernel8Ideal.Gen.dats m 0 c).arrAt 2 Cert.Kernel8Ideal.cfg0.N, Cert.Kernel8Ideal.Value.run_blocks (F := Ideal) m g, ?_⟩
  refine (θ_run Cert.Reference8Ideal.defs _ _).mono (fun r h c => ⟨?_, (h c).2⟩) (Cert.Reference8Ideal.Value.run (F := Ideal) m' g')
  refine ((h c).1).trans (Eq.trans ?_ (Cert.Kernel8Ideal.Dw.dw_final m c).symm)
  rw [(hargs c).1, (hargs c).2]
  funext i
  rw [ix_eta 1024 3840 i]
  exact Cert.Reference8Ideal.At.dw_at _ _ _ _

theorem frame_kernel9 : Cert.quiescent_Kernel9 (hKernel9 := Cert.Kernel9.Gen.facts) :=
  fun m ρ _ => Cert.Kernel9.Gen.frame m ρ

theorem frame_kernel9Ideal : Cert.quiescent_Kernel9Ideal (hKernel9Ideal := Cert.Kernel9Ideal.Gen.facts) :=
  fun m ρ _ => Cert.Kernel9Ideal.Gen.frame m ρ

theorem frame_reference9Ideal :
    Cert.quiescent_Reference9Ideal (hReference9Ideal := Cert.Reference9Ideal.Gen.facts) := by
  intro m ρ _
  exact (θ_run Cert.Reference9Ideal.defs _ _).mono (fun r h => ⟨fun c => (h c).2,
      Idealize.ShloMosaic.sem_eq_zero_of_no_sems (by decide) r.2⟩)
    (Cert.Reference9Ideal.Value.run (F := Ideal) m ρ)

/-- The input projection: from equal arguments, both programs end with equal results. -/
theorem algebraic9 : Cert.algebraic_Kernel9Ideal_Reference9Ideal (hKernel9Ideal := Cert.Kernel9Ideal.Gen.facts)
    (hReference9Ideal := Cert.Reference9Ideal.Gen.facts) := by
  intro m g m' g' _ hargs
  refine ⟨fun c => (Cert.Kernel9Ideal.Gen.dats m 0 c).arrAt 2 Cert.Kernel9Ideal.cfg0.N, Cert.Kernel9Ideal.Value.run_blocks (F := Ideal) m g, ?_⟩
  refine (θ_run Cert.Reference9Ideal.defs _ _).mono (fun r h c => ⟨?_, (h c).2⟩) (Cert.Reference9Ideal.Value.run (F := Ideal) m' g')
  refine ((h c).1).trans (Eq.trans ?_ (Cert.Kernel9Ideal.Proj.final m c).symm)
  rw [(hargs c).1, (hargs c).2]
  funext i
  rw [ix_eta 8192 3840 i]
  exact Cert.Reference9Ideal.At.proj_at _ _ _ _

theorem frame_kernel10 : Cert.quiescent_Kernel10 (hKernel10 := Cert.Kernel10.Gen.facts) :=
  fun m ρ _ => Cert.Kernel10.Gen.frame m ρ

theorem frame_kernel10Ideal : Cert.quiescent_Kernel10Ideal (hKernel10Ideal := Cert.Kernel10Ideal.Gen.facts) :=
  fun m ρ _ => Cert.Kernel10Ideal.Gen.frame m ρ

theorem frame_reference10Ideal :
    Cert.quiescent_Reference10Ideal (hReference10Ideal := Cert.Reference10Ideal.Gen.facts) := by
  intro m ρ _
  exact (θ_run Cert.Reference10Ideal.defs _ _).mono (fun r h => ⟨fun c => (h c).2,
      Idealize.ShloMosaic.sem_eq_zero_of_no_sems (by decide) r.2⟩)
    (Cert.Reference10Ideal.Value.run (F := Ideal) m ρ)

/-- The gradient of the output projection's input: from equal arguments, both programs end with equal results. -/
theorem algebraic10 : Cert.algebraic_Kernel10Ideal_Reference10Ideal (hKernel10Ideal := Cert.Kernel10Ideal.Gen.facts)
    (hReference10Ideal := Cert.Reference10Ideal.Gen.facts) := by
  intro m g m' g' _ hargs
  refine ⟨fun c => (Cert.Kernel10Ideal.Gen.dats m 0 c).arrAt 2 Cert.Kernel10Ideal.cfg0.N, Cert.Kernel10Ideal.Value.run_blocks (F := Ideal) m g, ?_⟩
  refine (θ_run Cert.Reference10Ideal.defs _ _).mono (fun r h c => ⟨?_, (h c).2⟩) (Cert.Reference10Ideal.Value.run (F := Ideal) m' g')
  refine ((h c).1).trans (Eq.trans ?_ (Cert.Kernel10Ideal.Proj.final m c).symm)
  rw [(hargs c).1, (hargs c).2]
  funext i
  rw [ix_eta 8192 512 i]
  exact Cert.Reference10Ideal.At.proj_at _ _ _ _

theorem frame_kernel11 : Cert.quiescent_Kernel11 (hKernel11 := Cert.Kernel11.Gen.facts) :=
  fun m ρ _ => Cert.Kernel11.Gen.frame m ρ

theorem frame_kernel11Ideal : Cert.quiescent_Kernel11Ideal (hKernel11Ideal := Cert.Kernel11Ideal.Gen.facts) :=
  fun m ρ _ => Cert.Kernel11Ideal.Gen.frame m ρ

theorem frame_reference11Ideal :
    Cert.quiescent_Reference11Ideal (hReference11Ideal := Cert.Reference11Ideal.Gen.facts) := by
  intro m ρ _
  exact (θ_run Cert.Reference11Ideal.defs _ _).mono (fun r h => ⟨fun c => (h c).2,
      Idealize.ShloMosaic.sem_eq_zero_of_no_sems (by decide) r.2⟩)
    (Cert.Reference11Ideal.Value.run (F := Ideal) m ρ)

/-- The gradient of the output projection's weight: from equal arguments, both programs end with equal results. -/
theorem algebraic11 : Cert.algebraic_Kernel11Ideal_Reference11Ideal (hKernel11Ideal := Cert.Kernel11Ideal.Gen.facts)
    (hReference11Ideal := Cert.Reference11Ideal.Gen.facts) := by
  intro m g m' g' _ hargs
  refine ⟨fun c => (Cert.Kernel11Ideal.Gen.dats m 0 c).arrAt 2 Cert.Kernel11Ideal.cfg0.N, Cert.Kernel11Ideal.Value.run_blocks (F := Ideal) m g, ?_⟩
  refine (θ_run Cert.Reference11Ideal.defs _ _).mono (fun r h c => ⟨?_, (h c).2⟩) (Cert.Reference11Ideal.Value.run (F := Ideal) m' g')
  refine ((h c).1).trans (Eq.trans ?_ (Cert.Kernel11Ideal.Dw.dw_final m c).symm)
  rw [(hargs c).1, (hargs c).2]
  funext i
  rw [ix_eta 512 1024 i]
  exact Cert.Reference11Ideal.At.dw_at _ _ _ _

end Cert.Proof

end
-- ==== Proof.Norm.lean ====
/- THE NORM OF A ROW: the reciprocal root of a row's mean square, as both programs compute it. -/
module

public import proofs.«01_k».proof.Proof.Ffn

@[expose] public section

noncomputable section

namespace Cert.Norm

open Idealize.ShloMosaic Idealize.ShloMosaic.TcCoe Idealize.SL.Sem

/-- A row's mean square with the small constant added. -/
def meanSq (f : Fin 1024 → EReal) : EReal :=
  Ideal.div (∑ k : Fin 1024, f k * f k) (Ideal.ofBits .f32 0x44800000#32) + Ideal.ofBits .f32 0x358637BD#32

/-- The reciprocal root of a row's mean square. -/
def recip (f : Fin 1024 → EReal) : EReal := Ideal.rsqrt (meanSq f)

/-- The coefficient of a row's input in its gradient, as the reference computes it. -/
def coef (P w x : Fin 1024 → EReal) : EReal :=
  ∑ _u : Fin 1, Ideal.div ((∑ k : Fin 1024, x k * (P k * w k)) * (Ideal.ofBits .f32 0xBF000000#32 * Ideal.div (recip x) (meanSq x)))
    (Ideal.ofBits .f32 0x44800000#32)

/-- The gradient of a row's element, as the reference computes it. -/
def refBack (P w x : Fin 1024 → EReal) (y : EReal) (j : Fin 1024) : EReal :=
  y + (P j * w j * recip x + x j * coef P w x + coef P w x * x j)

/-- The gradient of a row's element, as the kernel computes it from the row's reciprocal root. -/
def kerBack (P w x : Fin 1024 → EReal) (r y : EReal) (j : Fin 1024) : EReal :=
  y + r * (P j * w j - x j * r * Ideal.div (∑ k : Fin 1024, P k * w k * (x k * r)) (Ideal.ofBits .f32 0x44800000#32))

/-- The row's length. -/
theorem len_eq : Ideal.ofBits .f32 0x44800000#32 = ((1024 : ℝ) : EReal) := by
  simp [Ideal.ofBits, Ideal.ieee, -EReal.coe_mul]
  norm_num

/-- The factor of the reciprocal root's derivative. -/
theorem neg_half_eq : Ideal.ofBits .f32 0xBF000000#32 = ((-(1 / 2) : ℝ) : EReal) := by
  simp [Ideal.ofBits, Ideal.ieee, -EReal.coe_mul]
  norm_num

/-- The small constant is a positive real number. -/
theorem eps_eq : ∃ e : ℝ, 0 < e ∧ Ideal.ofBits .f32 0x358637BD#32 = (e : EReal) := by
  refine ⟨_, ?_, by simp [Ideal.ofBits, Ideal.ieee, -EReal.coe_mul]; rfl⟩
  norm_num

/-- A factor that is a nonnegative real number goes into a sum. -/
theorem mul_sum_real {K : ℕ} (f : Fin K → EReal) (q : ℝ) (hq : 0 ≤ q) : ∑ k, f k * (q : EReal) = (∑ k, f k) * (q : EReal) := by
  have h : ∀ s : Finset (Fin K), ∑ k ∈ s, f k * (q : EReal) = (∑ k ∈ s, f k) * (q : EReal) := by
    intro s
    induction s using Finset.induction_on with
    | empty => simp
    | insert a s ha ih =>
      rw [Finset.sum_insert ha, Finset.sum_insert ha, ih,
        EReal.right_distrib_of_nonneg_of_ne_top (EReal.coe_nonneg.mpr hq) (EReal.coe_ne_top q)]
  exact h Finset.univ

/-- A square is not negative. -/
theorem sq_nonneg (x : EReal) : 0 ≤ x * x := by
  rcases le_total 0 x with h | h
  · exact mul_nonneg h h
  · exact EReal.mul_nonneg_iff.mpr (Or.inr ⟨h, h⟩)

/-- A row's mean square is a positive real number, or infinite. -/
theorem meanSq_cases (x : Fin 1024 → EReal) : meanSq x = ⊤ ∨ ∃ v : ℝ, 0 < v ∧ meanSq x = (v : EReal) := by
  obtain ⟨e, he, h⟩ := eps_eq
  have hs : 0 ≤ ∑ k, x k * x k := Finset.sum_nonneg fun k _ => sq_nonneg (x k)
  have hm : meanSq x = (∑ k, x k * x k) * ((1 / 1024 : ℝ) : EReal) + (e : EReal) := by
    unfold meanSq
    rw [h, len_eq, Ideal.div_coe (by norm_num)]
  rw [hm]
  generalize ∑ k, x k * x k = s at hs
  induction s with
  | bot => exact absurd hs (by simp)
  | top =>
    left
    rw [EReal.top_mul_coe_of_pos (by norm_num), EReal.top_add_coe]
  | coe s =>
    right
    have hs' : 0 ≤ s := EReal.coe_nonneg.mp hs
    exact ⟨s * (1 / 1024) + e, by positivity, by rw [EReal.coe_add, EReal.coe_mul]⟩

/-- Twice a product with a real factor. -/
theorem twice (z : EReal) (a : ℝ) : z * (a : EReal) + z * (a : EReal) = z * ((2 * a : ℝ) : EReal) := by
  rw [EReal.coe_mul, mul_left_comm, show ((2 : ℝ) : EReal) = 1 + 1 from by rw [← EReal.coe_one, ← EReal.coe_add]; norm_num,
    EReal.right_distrib_of_nonneg zero_le_one zero_le_one, one_mul]

/-- The two ways to a row's gradient agree, whatever the row's values. -/
theorem back_eq (P w x : Fin 1024 → EReal) (y : EReal) (j : Fin 1024) : refBack P w x y j = kerBack P w x (recip x) y j := by
  unfold refBack kerBack
  refine congrArg (y + ·) ?_
  rcases meanSq_cases x with hm | ⟨v, hv, hm⟩
  · have hr : recip x = 0 := by unfold recip; rw [hm]; rfl
    have hd : Ideal.div 0 ⊤ = 0 := by unfold Ideal.div; simp
    have hc : coef P w x = 0 := by
      unfold coef
      rw [Fin.sum_univ_one, hm, hr, hd, mul_zero, mul_zero, len_eq, Ideal.div_coe (by norm_num), zero_mul]
    rw [hc, hr, mul_zero, mul_zero, zero_mul, zero_mul, add_zero, add_zero]
  · obtain ⟨q, hq0, hr, hq⟩ : ∃ q : ℝ, 0 ≤ q ∧ recip x = (q : EReal) ∧ q * q = 1 / v := by
      refine ⟨(Real.sqrt v)⁻¹, by positivity, ?_, ?_⟩
      · unfold recip
        rw [hm, Ideal.rsqrt_coe, if_neg (not_lt.mpr hv.le), if_neg hv.ne']
      · rw [← mul_inv, Real.mul_self_sqrt hv.le, one_div]
    have hs : ∑ k, P k * w k * (x k * (q : EReal)) = (∑ k, x k * (P k * w k)) * (q : EReal) := by
      rw [← mul_sum_real _ q hq0]
      exact Finset.sum_congr rfl fun k _ => by rw [← mul_assoc, mul_comm (P k * w k) (x k)]
    have hc : coef P w x = (∑ k, x k * (P k * w k)) * ((-(1 / 2) * (q * (1 / v)) * (1 / 1024) : ℝ) : EReal) := by
      unfold coef
      rw [Fin.sum_univ_one, hm, hr, len_eq, neg_half_eq, Ideal.div_coe (by norm_num), Ideal.div_coe hv.ne']
      simp only [EReal.coe_mul, mul_assoc]
    rw [hc, hr, hs, len_eq, Ideal.div_coe (by norm_num)]
    generalize ∑ k, x k * (P k * w k) = S
    have hq' : q * (1 / v) = q * (q * q) := by rw [hq]
    rw [hq', mul_comm (S * _) (x j), ← mul_assoc (x j) S, add_assoc, twice, sub_eq_add_neg,
      EReal.left_distrib_of_nonneg_of_ne_top (EReal.coe_nonneg.mpr hq0) (EReal.coe_ne_top q)]
    refine congrArg₂ (· + ·) (mul_comm _ _) ?_
    rw [show (2 * (-(1 / 2) * (q * (q * q)) * (1 / 1024)) : ℝ) = -(q * q * q * (1 / 1024)) from by ring, EReal.coe_neg, mul_neg, mul_neg]
    refine congrArg (fun z : EReal => -z) ?_
    simp only [EReal.coe_mul]
    ac_rfl

theorem kerBack_congr {P P' w w' x x' : Fin 1024 → EReal} {r r' y y' : EReal} (hP : ∀ k, P k = P' k) (hw : ∀ k, w k = w' k)
    (hx : ∀ k, x k = x' k) (hr : r = r') (hy : y = y') (j : Fin 1024) : kerBack P w x r y j = kerBack P' w' x' r' y' j := by
  rw [show P = P' from funext hP, show w = w' from funext hw, show x = x' from funext hx, hr, hy]

/-- The sum of the terms of the first `n` rows. -/
def rowsTo (T : Fin 8192 → EReal) (n : ℕ) : EReal := ∑ i ∈ Finset.range n, if h : i < 8192 then T ⟨i, h⟩ else 0

theorem rowsTo_zero (T : Fin 8192 → EReal) : rowsTo T 0 = 0 := rfl

theorem rowsTo_all (T : Fin 8192 → EReal) : rowsTo T 8192 = ∑ i : Fin 8192, T i := by
  unfold rowsTo
  rw [Finset.sum_range]
  exact Finset.sum_congr rfl fun i _ => dif_pos i.isLt

/-- A block of rows more. -/
theorem rowsTo_add (T : Fin 8192 → EReal) (n : ℕ) (f : Fin 512 → EReal)
    (hf : ∀ i : Fin 512, ∃ h : 512 * n + i.val < 8192, f i = T ⟨512 * n + i.val, h⟩) :
    rowsTo T (512 * n + 512) = rowsTo T (512 * n) + ∑ i : Fin 512, f i := by
  unfold rowsTo
  rw [Finset.sum_range_add]
  refine congrArg _ ?_
  rw [Finset.sum_range]
  refine Finset.sum_congr rfl fun i _ => ?_
  obtain ⟨h, e⟩ := hf i
  rw [dif_pos h, e]

end Cert.Norm

end
-- ==== Proof.FwdOut.lean ====
/- THE OUTPUT PROJECTION WITH THE NORM: the two halves' products added to the block's input, the reciprocal root of
   each row's mean square, and the normed rows, element by element. -/
module

public import proofs.«01_k».proof.Proof.Gen.Kernel12Ideal.Value
public import proofs.«01_k».proof.Proof.Norm

@[expose] public section

set_option maxRecDepth 16384

noncomputable section

namespace Cert.Kernel12Ideal.Fwd

open Idealize.ShloMosaic Idealize.ShloMosaic.TcCoe Idealize.SL.Sem
open Idealize.ShloMosaic.Pipeline (Dat)
open Cert.Kernel12Ideal Cert.Kernel12Ideal.Gen Cert.Ffn Cert.Norm

theorem idx_a : ∀ t : Fin cfg0.N, win0_0.index t = ![t.val, 0] :=
  (by decide +kernel : ∀ t : Fin grid0.N, win0_0.index t = ![t.val, 0])
theorem idx_b : ∀ t : Fin cfg0.N, win0_1.index t = ![0, 0] :=
  (by decide +kernel : ∀ t : Fin grid0.N, win0_1.index t = ![0, 0])
theorem idx_c : ∀ t : Fin cfg0.N, win0_2.index t = ![t.val, 0] :=
  (by decide +kernel : ∀ t : Fin grid0.N, win0_2.index t = ![t.val, 0])
theorem idx_d : ∀ t : Fin cfg0.N, win0_3.index t = ![0, 0] :=
  (by decide +kernel : ∀ t : Fin grid0.N, win0_3.index t = ![0, 0])
theorem idx_x : ∀ t : Fin cfg0.N, win0_4.index t = ![t.val, 0] :=
  (by decide +kernel : ∀ t : Fin grid0.N, win0_4.index t = ![t.val, 0])
theorem idx_w : ∀ t : Fin cfg0.N, win0_5.index t = ![0, 0] :=
  (by decide +kernel : ∀ t : Fin grid0.N, win0_5.index t = ![0, 0])
theorem idx_y : ∀ t : Fin cfg0.N, win0_6.index t = ![t.val, 0] :=
  (by decide +kernel : ∀ t : Fin grid0.N, win0_6.index t = ![t.val, 0])
theorem idx_n : ∀ t : Fin cfg0.N, win0_7.index t = ![t.val, 0] :=
  (by decide +kernel : ∀ t : Fin grid0.N, win0_7.index t = ![t.val, 0])
theorem idx_r : ∀ t : Fin cfg0.N, win0_8.index t = ![t.val, 0] :=
  (by decide +kernel : ∀ t : Fin grid0.N, win0_8.index t = ![t.val, 0])

theorem blk_a (A : S8192x512.Idx → EReal) (t : Fin cfg0.N) (j : Fin 512) (l : Fin 512) (h0) :
    ((cfg0.win 0).blk t).view.read (Elt Ideal) A (ix2 j l) = A (ix2 ⟨512 * t.val + j.val, h0⟩ l) := by
  blk_point [idx_a t]
theorem blk_b (A : S512x1024.Idx → EReal) (t : Fin cfg0.N) (j : Fin 512) (l : Fin 1024) :
    ((cfg0.win 1).blk t).view.read (Elt Ideal) A (ix2 j l) = A (ix2 j l) := by
  blk_point [idx_b t]
theorem blk_c (A : S8192x512.Idx → EReal) (t : Fin cfg0.N) (j : Fin 512) (l : Fin 512) (h0) :
    ((cfg0.win 2).blk t).view.read (Elt Ideal) A (ix2 j l) = A (ix2 ⟨512 * t.val + j.val, h0⟩ l) := by
  blk_point [idx_c t]
theorem blk_d (A : S512x1024.Idx → EReal) (t : Fin cfg0.N) (j : Fin 512) (l : Fin 1024) :
    ((cfg0.win 3).blk t).view.read (Elt Ideal) A (ix2 j l) = A (ix2 j l) := by
  blk_point [idx_d t]
theorem blk_x (A : S8192x1024.Idx → EReal) (t : Fin cfg0.N) (j : Fin 512) (l : Fin 1024) (h0) :
    ((cfg0.win 4).blk t).view.read (Elt Ideal) A (ix2 j l) = A (ix2 ⟨512 * t.val + j.val, h0⟩ l) := by
  blk_point [idx_x t]
theorem blk_w (A : S1x1024.Idx → EReal) (t : Fin cfg0.N) (j : Fin 1) (l : Fin 1024) :
    ((cfg0.win 5).blk t).view.read (Elt Ideal) A (ix2 j l) = A (ix2 j l) := by
  blk_point [idx_w t]

variable (a : FVec Ideal S512x512 .bf16) (b : FVec Ideal S512x1024 .bf16) (c : FVec Ideal S512x512 .bf16) (d : FVec Ideal S512x1024 .bf16)
  (x : FVec Ideal S512x1024 .f32) (w : FVec Ideal S1x1024 .f32)

/-- A block's sum, element by element. -/
theorem y_at (i : Fin 512) (j : Fin 1024) : k0_pay1 (F := Ideal) a b c d x (ix2 i j)
    = (x (ix2 i j) : EReal) + ((∑ k : Fin 512, (a (ix2 i k) : EReal) * b (ix2 k j)) + (∑ k : Fin 512, (c (ix2 i k) : EReal) * d (ix2 k j))) := by
  pointwise [k0_pay1]

/-- A block's reciprocal roots, from the block's sums. -/
theorem r_at (i : Fin 512) (j : Fin 1) : k0_pay2 (F := Ideal) a b c d x (ix2 i j)
    = recip (fun k => k0_pay1 (F := Ideal) a b c d x (ix2 i k)) := by
  unfold recip meanSq
  pointwise [k0_pay2]

/-- A block's normed rows, from its sums and roots. -/
theorem n_at (i : Fin 512) (j : Fin 1024) : k0_pay3 (F := Ideal) a b c d x w (ix2 i j)
    = (k0_pay1 (F := Ideal) a b c d x (ix2 i j) : EReal) * k0_pay2 (F := Ideal) a b c d x (ix2 i (0 : Fin 1)) * w (ix2 (0 : Fin 1) j) := by
  pointwise [k0_pay3]

variable (m : (ℓ : Loc nD τ sig) → Buf (Elt Ideal) ℓ)

abbrev mA (c : Dev nD) : S8192x512.Idx → EReal := m ((c.tc : Thread nD τ).loc main_arg0)
abbrev mB (c : Dev nD) : S512x1024.Idx → EReal := m ((c.tc : Thread nD τ).loc main_arg2)
abbrev mC (c : Dev nD) : S8192x512.Idx → EReal := m ((c.tc : Thread nD τ).loc main_arg1)
abbrev mD (c : Dev nD) : S512x1024.Idx → EReal := m ((c.tc : Thread nD τ).loc main_arg3)
abbrev mX (c : Dev nD) : S8192x1024.Idx → EReal := m ((c.tc : Thread nD τ).loc main_arg4)
abbrev mW (c : Dev nD) : S1x1024.Idx → EReal := m ((c.tc : Thread nD τ).loc main_arg5)

/-- A row against a column of a pair of arrays. -/
def dotA (c : Dev nD) (i : Fin 8192) (j : Fin 1024) : EReal := ∑ k : Fin 512, mA m c (ix2 i k) * mB m c (ix2 k j)

/-- A row against a column of a pair of arrays. -/
def dotC (c : Dev nD) (i : Fin 8192) (j : Fin 1024) : EReal := ∑ k : Fin 512, mC m c (ix2 i k) * mD m c (ix2 k j)

/-- The rows before the norm. -/
def sumAt (c : Dev nD) (i : Fin 8192) (j : Fin 1024) : EReal := mX m c (ix2 i j) + (dotA m c i j + dotC m c i j)

/-- The reciprocal root of a row's mean square. -/
def recAt (c : Dev nD) (i : Fin 8192) : EReal := recip (fun k => sumAt m c i k)

/-- The normed rows. -/
def normAt (c : Dev nD) (i : Fin 8192) (j : Fin 1024) : EReal := sumAt m c i j * recAt m c i * mW m c (ix2 (0 : Fin 1) j)

theorem y_blk (c : Dev nD) (t : Fin cfg0.N) (i : Fin 512) (j J : Fin 1024) (I : Fin 8192) (hI : I.val = 512 * t.val + i.val)
    (hJ : J.val = j.val) : k0_pay1 (F := Ideal) (iblk m c 0 t) (iblk m c 1 t) (iblk m c 2 t) (iblk m c 3 t) (iblk m c 4 t) (ix2 i j) = sumAt m c I J := by
    have hI' : I = ⟨512 * t.val + i.val, by omega⟩ := Fin.ext hI
    obtain rfl : j = J := (Fin.ext hJ).symm
    refine (y_at _ _ _ _ _ i j).trans ?_
    unfold sumAt
    refine congrArg₂ (· + ·) (by rw [hI']; exact blk_x (mX m c) t i j _) (congrArg₂ (· + ·) ?_ ?_)
    · unfold dotA
      exact Finset.sum_congr rfl fun k _ => congrArg₂ (· * ·) (by rw [hI']; exact blk_a (mA m c) t i k _) (blk_b (mB m c) t k j)
    · unfold dotC
      exact Finset.sum_congr rfl fun k _ => congrArg₂ (· * ·) (by rw [hI']; exact blk_c (mC m c) t i k _) (blk_d (mD m c) t k j)

theorem r_blk (c : Dev nD) (t : Fin cfg0.N) (i : Fin 512) (j : Fin 1) (I : Fin 8192) (hI : I.val = 512 * t.val + i.val) :
    k0_pay2 (F := Ideal) (iblk m c 0 t) (iblk m c 1 t) (iblk m c 2 t) (iblk m c 3 t) (iblk m c 4 t) (ix2 i j) = recAt m c I :=
  (r_at _ _ _ _ _ i j).trans (congrArg recip (funext fun k => y_blk m c t i k k I hI rfl))

theorem n_blk (c : Dev nD) (t : Fin cfg0.N) (i : Fin 512) (j J : Fin 1024) (I : Fin 8192) (hI : I.val = 512 * t.val + i.val)
    (hJ : J.val = j.val) : k0_pay3 (F := Ideal) (iblk m c 0 t) (iblk m c 1 t) (iblk m c 2 t) (iblk m c 3 t) (iblk m c 4 t) (iblk m c 5 t) (ix2 i j) = normAt m c I J := by
  obtain rfl : j = J := (Fin.ext hJ).symm
  refine (n_at _ _ _ _ _ _ i j).trans ?_
  unfold normAt
  exact congrArg₂ (· * ·) (congrArg₂ (· * ·) (y_blk m c t i j j I hI rfl) (r_blk m c t i 0 I hI)) (blk_w (mW m c) t 0 j)

/-- What a point leaves in the three windows. -/
theorem out_y (c : Dev nD) (t : Fin cfg0.N) : (outsAt0 m c t).1 = k0_pay1 (F := Ideal) (iblk m c 0 t) (iblk m c 1 t) (iblk m c 2 t) (iblk m c 3 t) (iblk m c 4 t) := by
  unfold outsAt0
  frame_out
theorem out_n (c : Dev nD) (t : Fin cfg0.N) : (outsAt0 m c t).2.1 = k0_pay3 (F := Ideal) (iblk m c 0 t) (iblk m c 1 t) (iblk m c 2 t) (iblk m c 3 t) (iblk m c 4 t) (iblk m c 5 t) := by
  unfold outsAt0
  frame_out
theorem out_r (c : Dev nD) (t : Fin cfg0.N) : (outsAt0 m c t).2.2 = k0_pay2 (F := Ideal) (iblk m c 0 t) (iblk m c 1 t) (iblk m c 2 t) (iblk m c 3 t) (iblk m c 4 t) := by
  unfold outsAt0
  frame_out

/-- The point that writes an element, and the element's place in the point's block. -/
theorem emb_y (t : Fin cfg0.N) (y : S512x1024.Idx) :
    ((((cfg0.win 6).blk t).view.emb y) 0).val = 512 * t.val + (y 0).val
      ∧ ((((cfg0.win 6).blk t).view.emb y) 1).val = (y 1).val := by
  refine ⟨?_, ?_⟩ <;> blk_simp [idx_y t] <;> try omega

/-- The sums, element by element. -/
theorem final_y (c : Dev nD) : (dats m 0 c).arrAt 6 cfg0.N = fun i : S8192x1024.Idx => sumAt m c (i 0) (i 1) := by
  refine (dats m 0 c).arrAt_eq_of_covers 6 _ (by decide +kernel) fun t hf y => ?_
  obtain ⟨e0, e1⟩ := emb_y t y
  rw [cast_eq]
  generalize hz : (cfg0.win 6).xinj (cfg0.grid.coords t) y = z
  obtain rfl : z = ix2 (n0 := 512) (n1 := 1024) (y 0) (y 1) := hz.symm.trans (ix_eta 512 1024 y)
  rw [after0_6, out_y]
  exact y_blk m c t (y 0) (y 1) _ _ e0 e1

/-- The point that writes an element, and the element's place in the point's block. -/
theorem emb_n (t : Fin cfg0.N) (y : S512x1024.Idx) :
    ((((cfg0.win 7).blk t).view.emb y) 0).val = 512 * t.val + (y 0).val
      ∧ ((((cfg0.win 7).blk t).view.emb y) 1).val = (y 1).val := by
  refine ⟨?_, ?_⟩ <;> blk_simp [idx_n t] <;> try omega

/-- The normed rows, element by element. -/
theorem final_n (c : Dev nD) : (dats m 0 c).arrAt 7 cfg0.N = fun i : S8192x1024.Idx => normAt m c (i 0) (i 1) := by
  refine (dats m 0 c).arrAt_eq_of_covers 7 _ (by decide +kernel) fun t hf y => ?_
  obtain ⟨e0, e1⟩ := emb_n t y
  rw [cast_eq]
  generalize hz : (cfg0.win 7).xinj (cfg0.grid.coords t) y = z
  obtain rfl : z = ix2 (n0 := 512) (n1 := 1024) (y 0) (y 1) := hz.symm.trans (ix_eta 512 1024 y)
  rw [after0_7, out_n]
  exact n_blk m c t (y 0) (y 1) _ _ e0 e1

/-- The point that writes an element, and the element's place in the point's block. -/
theorem emb_r (t : Fin cfg0.N) (y : S512x1.Idx) :
    ((((cfg0.win 8).blk t).view.emb y) 0).val = 512 * t.val + (y 0).val
      ∧ ((((cfg0.win 8).blk t).view.emb y) 1).val = (y 1).val := by
  refine ⟨?_, ?_⟩ <;> blk_simp [idx_r t] <;> try omega

/-- The reciprocal roots, element by element. -/
theorem final_r (c : Dev nD) : (dats m 0 c).arrAt 8 cfg0.N = fun i : S8192x1.Idx => recAt m c (i 0) := by
  refine (dats m 0 c).arrAt_eq_of_covers 8 _ (by decide +kernel) fun t hf y => ?_
  obtain ⟨e0, e1⟩ := emb_r t y
  rw [cast_eq]
  generalize hz : (cfg0.win 8).xinj (cfg0.grid.coords t) y = z
  obtain rfl : z = ix2 (n0 := 512) (n1 := 1) (y 0) (y 1) := hz.symm.trans (ix_eta 512 1 y)
  rw [after0_8, out_r]
  exact r_blk m c t (y 0) (y 1) _ e0

end Cert.Kernel12Ideal.Fwd

end
-- ==== Proof.FwdDown.lean ====
/- THE DOWN PROJECTION WITH THE NORM: half of the product added to the layer's input, the reciprocal root of each row's
   mean square, and the normed rows, element by element. -/
module

public import proofs.«01_k».proof.Proof.Gen.Kernel13Ideal.Value
public import proofs.«01_k».proof.Proof.Norm

@[expose] public section

set_option maxRecDepth 16384

noncomputable section

namespace Cert.Kernel13Ideal.Fwd

open Idealize.ShloMosaic Idealize.ShloMosaic.TcCoe Idealize.SL.Sem
open Idealize.ShloMosaic.Pipeline (Dat)
open Cert.Kernel13Ideal Cert.Kernel13Ideal.Gen Cert.Ffn Cert.Norm

theorem idx_a : ∀ t : Fin cfg0.N, win0_0.index t = ![t.val, 0] :=
  (by decide +kernel : ∀ t : Fin grid0.N, win0_0.index t = ![t.val, 0])
theorem idx_b : ∀ t : Fin cfg0.N, win0_1.index t = ![0, 0] :=
  (by decide +kernel : ∀ t : Fin grid0.N, win0_1.index t = ![0, 0])
theorem idx_x : ∀ t : Fin cfg0.N, win0_2.index t = ![t.val, 0] :=
  (by decide +kernel : ∀ t : Fin grid0.N, win0_2.index t = ![t.val, 0])
theorem idx_w : ∀ t : Fin cfg0.N, win0_3.index t = ![0, 0] :=
  (by decide +kernel : ∀ t : Fin grid0.N, win0_3.index t = ![0, 0])
theorem idx_y : ∀ t : Fin cfg0.N, win0_4.index t = ![t.val, 0] :=
  (by decide +kernel : ∀ t : Fin grid0.N, win0_4.index t = ![t.val, 0])
theorem idx_n : ∀ t : Fin cfg0.N, win0_5.index t = ![t.val, 0] :=
  (by decide +kernel : ∀ t : Fin grid0.N, win0_5.index t = ![t.val, 0])
theorem idx_r : ∀ t : Fin cfg0.N, win0_6.index t = ![t.val, 0] :=
  (by decide +kernel : ∀ t : Fin grid0.N, win0_6.index t = ![t.val, 0])

theorem blk_a (A : S8192x2816.Idx → EReal) (t : Fin cfg0.N) (j : Fin 512) (l : Fin 2816) (h0) :
    ((cfg0.win 0).blk t).view.read (Elt Ideal) A (ix2 j l) = A (ix2 ⟨512 * t.val + j.val, h0⟩ l) := by
  blk_point [idx_a t]
theorem blk_b (A : S2816x1024.Idx → EReal) (t : Fin cfg0.N) (j : Fin 2816) (l : Fin 1024) :
    ((cfg0.win 1).blk t).view.read (Elt Ideal) A (ix2 j l) = A (ix2 j l) := by
  blk_point [idx_b t]
theorem blk_x (A : S8192x1024.Idx → EReal) (t : Fin cfg0.N) (j : Fin 512) (l : Fin 1024) (h0) :
    ((cfg0.win 2).blk t).view.read (Elt Ideal) A (ix2 j l) = A (ix2 ⟨512 * t.val + j.val, h0⟩ l) := by
  blk_point [idx_x t]
theorem blk_w (A : S1x1024.Idx → EReal) (t : Fin cfg0.N) (j : Fin 1) (l : Fin 1024) :
    ((cfg0.win 3).blk t).view.read (Elt Ideal) A (ix2 j l) = A (ix2 j l) := by
  blk_point [idx_w t]

variable (a : FVec Ideal S512x2816 .bf16) (b : FVec Ideal S2816x1024 .bf16)
  (x : FVec Ideal S512x1024 .f32) (w : FVec Ideal S1x1024 .f32)

/-- A block's sum, element by element. -/
theorem y_at (i : Fin 512) (j : Fin 1024) : k0_pay1 (F := Ideal) a b x (ix2 i j)
    = (x (ix2 i j) : EReal) + (∑ k : Fin 2816, (a (ix2 i k) : EReal) * b (ix2 k j)) * half := by
  unfold half
  pointwise [k0_pay1]

/-- A block's reciprocal roots, from the block's sums. -/
theorem r_at (i : Fin 512) (j : Fin 1) : k0_pay2 (F := Ideal) a b x (ix2 i j)
    = recip (fun k => k0_pay1 (F := Ideal) a b x (ix2 i k)) := by
  unfold recip meanSq
  pointwise [k0_pay2]

/-- A block's normed rows, from its sums and roots. -/
theorem n_at (i : Fin 512) (j : Fin 1024) : k0_pay3 (F := Ideal) a b x w (ix2 i j)
    = (k0_pay1 (F := Ideal) a b x (ix2 i j) : EReal) * k0_pay2 (F := Ideal) a b x (ix2 i (0 : Fin 1)) * w (ix2 (0 : Fin 1) j) := by
  pointwise [k0_pay3]

variable (m : (ℓ : Loc nD τ sig) → Buf (Elt Ideal) ℓ)

abbrev mA (c : Dev nD) : S8192x2816.Idx → EReal := m ((c.tc : Thread nD τ).loc main_arg0)
abbrev mB (c : Dev nD) : S2816x1024.Idx → EReal := m ((c.tc : Thread nD τ).loc main_arg1)
abbrev mX (c : Dev nD) : S8192x1024.Idx → EReal := m ((c.tc : Thread nD τ).loc main_arg2)
abbrev mW (c : Dev nD) : S1x1024.Idx → EReal := m ((c.tc : Thread nD τ).loc main_arg3)

/-- A row against a column of the two arrays. -/
def dotA (c : Dev nD) (i : Fin 8192) (j : Fin 1024) : EReal := ∑ k : Fin 2816, mA m c (ix2 i k) * mB m c (ix2 k j)

/-- The rows before the norm. -/
def sumAt (c : Dev nD) (i : Fin 8192) (j : Fin 1024) : EReal := mX m c (ix2 i j) + dotA m c i j * half

/-- The reciprocal root of a row's mean square. -/
def recAt (c : Dev nD) (i : Fin 8192) : EReal := recip (fun k => sumAt m c i k)

/-- The normed rows. -/
def normAt (c : Dev nD) (i : Fin 8192) (j : Fin 1024) : EReal := sumAt m c i j * recAt m c i * mW m c (ix2 (0 : Fin 1) j)

theorem y_blk (c : Dev nD) (t : Fin cfg0.N) (i : Fin 512) (j J : Fin 1024) (I : Fin 8192) (hI : I.val = 512 * t.val + i.val)
    (hJ : J.val = j.val) : k0_pay1 (F := Ideal) (iblk m c 0 t) (iblk m c 1 t) (iblk m c 2 t) (ix2 i j) = sumAt m c I J := by
    have hI' : I = ⟨512 * t.val + i.val, by omega⟩ := Fin.ext hI
    obtain rfl : j = J := (Fin.ext hJ).symm
    refine (y_at _ _ _ i j).trans ?_
    unfold sumAt
    refine congrArg₂ (· + ·) (by rw [hI']; exact blk_x (mX m c) t i j _) (congrArg (· * half) ?_)
    · unfold dotA
      exact Finset.sum_congr rfl fun k _ => congrArg₂ (· * ·) (by rw [hI']; exact blk_a (mA m c) t i k _) (blk_b (mB m c) t k j)

theorem r_blk (c : Dev nD) (t : Fin cfg0.N) (i : Fin 512) (j : Fin 1) (I : Fin 8192) (hI : I.val = 512 * t.val + i.val) :
    k0_pay2 (F := Ideal) (iblk m c 0 t) (iblk m c 1 t) (iblk m c 2 t) (ix2 i j) = recAt m c I :=
  (r_at _ _ _ i j).trans (congrArg recip (funext fun k => y_blk m c t i k k I hI rfl))

theorem n_blk (c : Dev nD) (t : Fin cfg0.N) (i : Fin 512) (j J : Fin 1024) (I : Fin 8192) (hI : I.val = 512 * t.val + i.val)
    (hJ : J.val = j.val) : k0_pay3 (F := Ideal) (iblk m c 0 t) (iblk m c 1 t) (iblk m c 2 t) (iblk m c 3 t) (ix2 i j) = normAt m c I J := by
  obtain rfl : j = J := (Fin.ext hJ).symm
  refine (n_at _ _ _ _ i j).trans ?_
  unfold normAt
  exact congrArg₂ (· * ·) (congrArg₂ (· * ·) (y_blk m c t i j j I hI rfl) (r_blk m c t i 0 I hI)) (blk_w (mW m c) t 0 j)

/-- What a point leaves in the three windows. -/
theorem out_y (c : Dev nD) (t : Fin cfg0.N) : (outsAt0 m c t).1 = k0_pay1 (F := Ideal) (iblk m c 0 t) (iblk m c 1 t) (iblk m c 2 t) := by
  unfold outsAt0
  frame_out
theorem out_n (c : Dev nD) (t : Fin cfg0.N) : (outsAt0 m c t).2.1 = k0_pay3 (F := Ideal) (iblk m c 0 t) (iblk m c 1 t) (iblk m c 2 t) (iblk m c 3 t) := by
  unfold outsAt0
  frame_out
theorem out_r (c : Dev nD) (t : Fin cfg0.N) : (outsAt0 m c t).2.2 = k0_pay2 (F := Ideal) (iblk m c 0 t) (iblk m c 1 t) (iblk m c 2 t) := by
  unfold outsAt0
  frame_out

/-- The point that writes an element, and the element's place in the point's block. -/
theorem emb_y (t : Fin cfg0.N) (y : S512x1024.Idx) :
    ((((cfg0.win 4).blk t).view.emb y) 0).val = 512 * t.val + (y 0).val
      ∧ ((((cfg0.win 4).blk t).view.emb y) 1).val = (y 1).val := by
  refine ⟨?_, ?_⟩ <;> blk_simp [idx_y t] <;> try omega

/-- The sums, element by element. -/
theorem final_y (c : Dev nD) : (dats m 0 c).arrAt 4 cfg0.N = fun i : S8192x1024.Idx => sumAt m c (i 0) (i 1) := by
  refine (dats m 0 c).arrAt_eq_of_covers 4 _ (by decide +kernel) fun t hf y => ?_
  obtain ⟨e0, e1⟩ := emb_y t y
  rw [cast_eq]
  generalize hz : (cfg0.win 4).xinj (cfg0.grid.coords t) y = z
  obtain rfl : z = ix2 (n0 := 512) (n1 := 1024) (y 0) (y 1) := hz.symm.trans (ix_eta 512 1024 y)
  rw [after0_4, out_y]
  exact y_blk m c t (y 0) (y 1) _ _ e0 e1

/-- The point that writes an element, and the element's place in the point's block. -/
theorem emb_n (t : Fin cfg0.N) (y : S512x1024.Idx) :
    ((((cfg0.win 5).blk t).view.emb y) 0).val = 512 * t.val + (y 0).val
      ∧ ((((cfg0.win 5).blk t).view.emb y) 1).val = (y 1).val := by
  refine ⟨?_, ?_⟩ <;> blk_simp [idx_n t] <;> try omega

/-- The normed rows, element by element. -/
theorem final_n (c : Dev nD) : (dats m 0 c).arrAt 5 cfg0.N = fun i : S8192x1024.Idx => normAt m c (i 0) (i 1) := by
  refine (dats m 0 c).arrAt_eq_of_covers 5 _ (by decide +kernel) fun t hf y => ?_
  obtain ⟨e0, e1⟩ := emb_n t y
  rw [cast_eq]
  generalize hz : (cfg0.win 5).xinj (cfg0.grid.coords t) y = z
  obtain rfl : z = ix2 (n0 := 512) (n1 := 1024) (y 0) (y 1) := hz.symm.trans (ix_eta 512 1024 y)
  rw [after0_5, out_n]
  exact n_blk m c t (y 0) (y 1) _ _ e0 e1

/-- The point that writes an element, and the element's place in the point's block. -/
theorem emb_r (t : Fin cfg0.N) (y : S512x1.Idx) :
    ((((cfg0.win 6).blk t).view.emb y) 0).val = 512 * t.val + (y 0).val
      ∧ ((((cfg0.win 6).blk t).view.emb y) 1).val = (y 1).val := by
  refine ⟨?_, ?_⟩ <;> blk_simp [idx_r t] <;> try omega

/-- The reciprocal roots, element by element. -/
theorem final_r (c : Dev nD) : (dats m 0 c).arrAt 6 cfg0.N = fun i : S8192x1.Idx => recAt m c (i 0) := by
  refine (dats m 0 c).arrAt_eq_of_covers 6 _ (by decide +kernel) fun t hf y => ?_
  obtain ⟨e0, e1⟩ := emb_r t y
  rw [cast_eq]
  generalize hz : (cfg0.win 6).xinj (cfg0.grid.coords t) y = z
  obtain rfl : z = ix2 (n0 := 512) (n1 := 1) (y 0) (y 1) := hz.symm.trans (ix_eta 512 1 y)
  rw [after0_6, out_r]
  exact r_blk m c t (y 0) (y 1) _ e0

end Cert.Kernel13Ideal.Fwd

end
-- ==== Proof.FwdEqual.lean ====
/- THE FORWARD CALLS WITH A NORM: the references' sums, normed rows and reciprocal roots element by element, the kernels'
   equal to them, and the programs' frames. -/
module

public import proofs.«01_k».proof.Proof.FwdOut
public import proofs.«01_k».proof.Proof.FwdDown
public import proofs.«01_k».proof.Proof.Gen.Reference12Ideal.Run
public import proofs.«01_k».proof.Proof.Gen.Kernel12.Frame
public import proofs.«01_k».proof.Proof.Gen.Reference13Ideal.Run
public import proofs.«01_k».proof.Proof.Gen.Kernel13.Frame
public import proofs.«01_k».proof.Defs

@[expose] public section

set_option maxRecDepth 16384

noncomputable section

namespace Cert.Reference12Ideal.At

open Idealize.ShloMosaic Idealize.ShloMosaic.TcCoe Idealize.SL.Sem
open Cert.Reference12Ideal Cert.Reference12Ideal.Gen Cert.Ffn Cert.Norm

variable (a b : FVec Ideal S8192x512 .bf16) (c d : FVec Ideal S512x1024 .bf16) (x y : FVec Ideal S8192x1024 .f32) (w : FVec Ideal S1x1024 .f32)

/-- The reference's rows before the norm. -/
abbrev sumArr : FVec Ideal S8192x1024 .f32 :=
  addf x (addf (Host.dotGeneral dot_S8192x512_S512x1024_S8192x1024_1_0_0_1_n_n none (extf .f32 a bitsLt_bf16_f32) (extf .f32 c bitsLt_bf16_f32))
    (Host.dotGeneral dot_S8192x512_S512x1024_S8192x1024_1_0_0_1_n_n none (extf .f32 b bitsLt_bf16_f32) (extf .f32 d bitsLt_bf16_f32)))

theorem sum_at (i : Fin 8192) (j : Fin 1024) : sumArr a b c d x (ix2 i j)
    = (x (ix2 i j) : EReal) + ((∑ k : Fin 512, (a (ix2 i k) : EReal) * c (ix2 k j)) + ∑ k : Fin 512, (b (ix2 i k) : EReal) * d (ix2 k j)) := by
  pointwise

/-- The reciprocal roots of a matrix' rows. -/
abbrev rArr : FVec Ideal S8192x1 .f32 :=
  Host.rsqrt (addf (Host.divf (broadcastInDim S8192x1 ![0] bcast_S8192_S8192x1_0 (Host.reduceAdd (mulf y y) (constant S_ .f32 0x00000000#32)
    reducesTo_S8192x1024_S8192_d1 h_S_)) (broadcastInDim S8192x1 ![] bcast_S_S8192x1 (constant S_ .f32 0x44800000#32)))
    (broadcastInDim S8192x1 ![] bcast_S_S8192x1 (constant S_ .f32 0x358637BD#32)))

/-- The normed rows of a matrix. -/
abbrev nArr : FVec Ideal S8192x1024 .bf16 :=
  truncf .bf16 (mulf (mulf y (broadcastInDim S8192x1024 ![0, 1] bcast_S8192x1_S8192x1024_0_1 (rArr y)))
    (broadcastInDim S8192x1024 ![0, 1] bcast_S1x1024_S8192x1024_0_1 w)) bitsLt_bf16_f32

theorem r_at (i : Fin 8192) (j : Fin 1) : rArr y (ix2 i j) = recip (fun k => y (ix2 i k)) := by
  unfold recip meanSq
  pointwise

theorem n_at (i : Fin 8192) (j : Fin 1024) : nArr y w (ix2 i j)
    = (y (ix2 i j) : EReal) * recip (fun k => y (ix2 i k)) * w (ix2 (0 : Fin 1) j) := by
  unfold recip meanSq
  pointwise

end Cert.Reference12Ideal.At

namespace Cert.Reference13Ideal.At

open Idealize.ShloMosaic Idealize.ShloMosaic.TcCoe Idealize.SL.Sem
open Cert.Reference13Ideal Cert.Reference13Ideal.Gen Cert.Ffn Cert.Norm

variable (a : FVec Ideal S8192x2816 .bf16) (c : FVec Ideal S2816x1024 .bf16) (x y : FVec Ideal S8192x1024 .f32) (w : FVec Ideal S1x1024 .f32)

/-- The reference's rows before the norm. -/
abbrev sumArr : FVec Ideal S8192x1024 .f32 :=
  addf x (mulf (broadcastInDim S8192x1024 ![] bcast_S_S8192x1024 (constant S_ .f32 0x3F000000#32))
    (Host.dotGeneral dot_S8192x2816_S2816x1024_S8192x1024_1_0_0_1_n_n none (extf .f32 a bitsLt_bf16_f32) (extf .f32 c bitsLt_bf16_f32)))

theorem sum_at (i : Fin 8192) (j : Fin 1024) : sumArr a c x (ix2 i j)
    = (x (ix2 i j) : EReal) + (∑ k : Fin 2816, (a (ix2 i k) : EReal) * c (ix2 k j)) * half := by
  rw [mul_comm _ half]
  unfold half
  pointwise

/-- The reciprocal roots of a matrix' rows. -/
abbrev rArr : FVec Ideal S8192x1 .f32 :=
  Host.rsqrt (addf (Host.divf (broadcastInDim S8192x1 ![0] bcast_S8192_S8192x1_0 (Host.reduceAdd (mulf y y) (constant S_ .f32 0x00000000#32)
    reducesTo_S8192x1024_S8192_d1 h_S_)) (broadcastInDim S8192x1 ![] bcast_S_S8192x1 (constant S_ .f32 0x44800000#32)))
    (broadcastInDim S8192x1 ![] bcast_S_S8192x1 (constant S_ .f32 0x358637BD#32)))

/-- The normed rows of a matrix. -/
abbrev nArr : FVec Ideal S8192x1024 .bf16 :=
  truncf .bf16 (mulf (mulf y (broadcastInDim S8192x1024 ![0, 1] bcast_S8192x1_S8192x1024_0_1 (rArr y)))
    (broadcastInDim S8192x1024 ![0, 1] bcast_S1x1024_S8192x1024_0_1 w)) bitsLt_bf16_f32

theorem r_at (i : Fin 8192) (j : Fin 1) : rArr y (ix2 i j) = recip (fun k => y (ix2 i k)) := by
  unfold recip meanSq
  pointwise

theorem n_at (i : Fin 8192) (j : Fin 1024) : nArr y w (ix2 i j)
    = (y (ix2 i j) : EReal) * recip (fun k => y (ix2 i k)) * w (ix2 (0 : Fin 1) j) := by
  unfold recip meanSq
  pointwise

end Cert.Reference13Ideal.At

namespace Cert.Proof

open Idealize.ShloMosaic Idealize.ShloMosaic.TcCoe Idealize.SL.Sem Cert.Ffn Cert.Norm

theorem frame_kernel12 : Cert.quiescent_Kernel12 (hKernel12 := Cert.Kernel12.Gen.facts) :=
  fun m ρ _ => Cert.Kernel12.Gen.frame m ρ

theorem frame_kernel12Ideal : Cert.quiescent_Kernel12Ideal (hKernel12Ideal := Cert.Kernel12Ideal.Gen.facts) :=
  fun m ρ _ => Cert.Kernel12Ideal.Gen.frame m ρ

theorem frame_reference12Ideal :
    Cert.quiescent_Reference12Ideal (hReference12Ideal := Cert.Reference12Ideal.Gen.facts) := by
  intro m ρ _
  exact (θ_run Cert.Reference12Ideal.defs _ _).mono (fun r h => ⟨fun c => (h c).2.2.2,
      Idealize.ShloMosaic.sem_eq_zero_of_no_sems (by decide) r.2⟩)
    (Cert.Reference12Ideal.Value.run (F := Ideal) m ρ)

/-- The output projection with the norm: from equal arguments, both programs end with equal results. -/
theorem algebraic12 : Cert.algebraic_Kernel12Ideal_Reference12Ideal (hKernel12Ideal := Cert.Kernel12Ideal.Gen.facts)
    (hReference12Ideal := Cert.Reference12Ideal.Gen.facts) := by
  intro m g m' g' _ hargs
  have hsum : ∀ (c : Dev Cert.Kernel12Ideal.nD) (i : Fin 8192) (j : Fin 1024),
      Cert.Reference12Ideal.At.sumArr (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (ix2 i j) = Cert.Kernel12Ideal.Fwd.sumAt m c i j := fun c i j => Cert.Reference12Ideal.At.sum_at _ _ _ _ _ i j
  refine ⟨fun c => (Cert.Kernel12Ideal.Gen.dats m 0 c).arrAt 6 Cert.Kernel12Ideal.cfg0.N, fun c => (Cert.Kernel12Ideal.Gen.dats m 0 c).arrAt 7 Cert.Kernel12Ideal.cfg0.N,
    fun c => (Cert.Kernel12Ideal.Gen.dats m 0 c).arrAt 8 Cert.Kernel12Ideal.cfg0.N, Cert.Kernel12Ideal.Value.run_blocks (F := Ideal) m g, ?_⟩
  refine (θ_run Cert.Reference12Ideal.defs _ _).mono (fun r h c => ⟨?_, ?_, ?_, (h c).2.2.2⟩) (Cert.Reference12Ideal.Value.run (F := Ideal) m' g')
  · refine ((h c).1).trans (Eq.trans ?_ (Cert.Kernel12Ideal.Fwd.final_y m c).symm)
    rw [(hargs c).1, (hargs c).2.1, (hargs c).2.2.1, (hargs c).2.2.2.1, (hargs c).2.2.2.2.1]
    funext i
    rw [ix_eta 8192 1024 i]
    exact hsum c _ _
  · refine ((h c).2.1).trans (Eq.trans ?_ (Cert.Kernel12Ideal.Fwd.final_n m c).symm)
    rw [(hargs c).1, (hargs c).2.1, (hargs c).2.2.1, (hargs c).2.2.2.1, (hargs c).2.2.2.2.1, (hargs c).2.2.2.2.2]
    funext i
    rw [ix_eta 8192 1024 i]
    refine (Cert.Reference12Ideal.At.n_at _ _ (i 0) (i 1)).trans ?_
    exact congrArg₂ (fun a f => a * recip f * Cert.Kernel12Ideal.Fwd.mW m c (ix2 (0 : Fin 1) (i 1))) (hsum c _ _) (funext fun k => hsum c _ k)
  · refine ((h c).2.2.1).trans (Eq.trans ?_ (Cert.Kernel12Ideal.Fwd.final_r m c).symm)
    rw [(hargs c).1, (hargs c).2.1, (hargs c).2.2.1, (hargs c).2.2.2.1, (hargs c).2.2.2.2.1]
    funext i
    rw [ix_eta 8192 1 i]
    refine (Cert.Reference12Ideal.At.r_at _ (i 0) (i 1)).trans ?_
    exact congrArg recip (funext fun k => hsum c _ k)

theorem frame_kernel13 : Cert.quiescent_Kernel13 (hKernel13 := Cert.Kernel13.Gen.facts) :=
  fun m ρ _ => Cert.Kernel13.Gen.frame m ρ

theorem frame_kernel13Ideal : Cert.quiescent_Kernel13Ideal (hKernel13Ideal := Cert.Kernel13Ideal.Gen.facts) :=
  fun m ρ _ => Cert.Kernel13Ideal.Gen.frame m ρ

theorem frame_reference13Ideal :
    Cert.quiescent_Reference13Ideal (hReference13Ideal := Cert.Reference13Ideal.Gen.facts) := by
  intro m ρ _
  exact (θ_run Cert.Reference13Ideal.defs _ _).mono (fun r h => ⟨fun c => (h c).2.2.2,
      Idealize.ShloMosaic.sem_eq_zero_of_no_sems (by decide) r.2⟩)
    (Cert.Reference13Ideal.Value.run (F := Ideal) m ρ)

/-- The down projection with the norm: from equal arguments, both programs end with equal results. -/
theorem algebraic13 : Cert.algebraic_Kernel13Ideal_Reference13Ideal (hKernel13Ideal := Cert.Kernel13Ideal.Gen.facts)
    (hReference13Ideal := Cert.Reference13Ideal.Gen.facts) := by
  intro m g m' g' _ hargs
  have hsum : ∀ (c : Dev Cert.Kernel13Ideal.nD) (i : Fin 8192) (j : Fin 1024),
      Cert.Reference13Ideal.At.sumArr (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (ix2 i j) = Cert.Kernel13Ideal.Fwd.sumAt m c i j := fun c i j => Cert.Reference13Ideal.At.sum_at _ _ _ i j
  refine ⟨fun c => (Cert.Kernel13Ideal.Gen.dats m 0 c).arrAt 4 Cert.Kernel13Ideal.cfg0.N, fun c => (Cert.Kernel13Ideal.Gen.dats m 0 c).arrAt 5 Cert.Kernel13Ideal.cfg0.N,
    fun c => (Cert.Kernel13Ideal.Gen.dats m 0 c).arrAt 6 Cert.Kernel13Ideal.cfg0.N, Cert.Kernel13Ideal.Value.run_blocks (F := Ideal) m g, ?_⟩
  refine (θ_run Cert.Reference13Ideal.defs _ _).mono (fun r h c => ⟨?_, ?_, ?_, (h c).2.2.2⟩) (Cert.Reference13Ideal.Value.run (F := Ideal) m' g')
  · refine ((h c).1).trans (Eq.trans ?_ (Cert.Kernel13Ideal.Fwd.final_y m c).symm)
    rw [(hargs c).1, (hargs c).2.1, (hargs c).2.2.1]
    funext i
    rw [ix_eta 8192 1024 i]
    exact hsum c _ _
  · refine ((h c).2.1).trans (Eq.trans ?_ (Cert.Kernel13Ideal.Fwd.final_n m c).symm)
    rw [(hargs c).1, (hargs c).2.1, (hargs c).2.2.1, (hargs c).2.2.2]
    funext i
    rw [ix_eta 8192 1024 i]
    refine (Cert.Reference13Ideal.At.n_at _ _ (i 0) (i 1)).trans ?_
    exact congrArg₂ (fun a f => a * recip f * Cert.Kernel13Ideal.Fwd.mW m c (ix2 (0 : Fin 1) (i 1))) (hsum c _ _) (funext fun k => hsum c _ k)
  · refine ((h c).2.2.1).trans (Eq.trans ?_ (Cert.Kernel13Ideal.Fwd.final_r m c).symm)
    rw [(hargs c).1, (hargs c).2.1, (hargs c).2.2.1]
    funext i
    rw [ix_eta 8192 1 i]
    refine (Cert.Reference13Ideal.At.r_at _ (i 0) (i 1)).trans ?_
    exact congrArg recip (funext fun k => hsum c _ k)

end Cert.Proof

end
-- ==== Proof.DnGate.lean ====
/- THE GRADIENT OF THE FEED-FORWARD LAYER'S INPUT: the gradient of the normed rows from the gate's and the up product's
   gradients, taken back through the norm to the rows, and the gain's gradient added up over the blocks of rows. -/
module

public import proofs.«01_k».proof.Proof.Gen.Kernel6Ideal.Value
public import proofs.«01_k».proof.Proof.Norm
public import Idealize.ShloMosaic.Lib.Pipeline.ReadBack

@[expose] public section

set_option maxRecDepth 16384

noncomputable section

namespace Cert.Kernel6Ideal.Dn

open Idealize.ShloMosaic Idealize.ShloMosaic.TcCoe Idealize.SL.Sem
open Idealize.ShloMosaic.Pipeline (Dat)
open Cert.Kernel6Ideal Cert.Kernel6Ideal.Gen Cert.Ffn Cert.Norm

theorem idx_a : ∀ t : Fin cfg0.N, win0_0.index t = ![t.val, 0] :=
  (by decide +kernel : ∀ t : Fin grid0.N, win0_0.index t = ![t.val, 0])
theorem idx_b : ∀ t : Fin cfg0.N, win0_1.index t = ![0, 0] :=
  (by decide +kernel : ∀ t : Fin grid0.N, win0_1.index t = ![0, 0])
theorem idx_c : ∀ t : Fin cfg0.N, win0_2.index t = ![t.val, 0] :=
  (by decide +kernel : ∀ t : Fin grid0.N, win0_2.index t = ![t.val, 0])
theorem idx_d : ∀ t : Fin cfg0.N, win0_3.index t = ![0, 0] :=
  (by decide +kernel : ∀ t : Fin grid0.N, win0_3.index t = ![0, 0])
theorem idx_x : ∀ t : Fin cfg0.N, win0_4.index t = ![t.val, 0] :=
  (by decide +kernel : ∀ t : Fin grid0.N, win0_4.index t = ![t.val, 0])
theorem idx_r : ∀ t : Fin cfg0.N, win0_5.index t = ![t.val, 0] :=
  (by decide +kernel : ∀ t : Fin grid0.N, win0_5.index t = ![t.val, 0])
theorem idx_w : ∀ t : Fin cfg0.N, win0_6.index t = ![0, 0] :=
  (by decide +kernel : ∀ t : Fin grid0.N, win0_6.index t = ![0, 0])
theorem idx_y : ∀ t : Fin cfg0.N, win0_7.index t = ![t.val, 0] :=
  (by decide +kernel : ∀ t : Fin grid0.N, win0_7.index t = ![t.val, 0])
theorem idx_o : ∀ t : Fin cfg0.N, win0_8.index t = ![t.val, 0] :=
  (by decide +kernel : ∀ t : Fin grid0.N, win0_8.index t = ![t.val, 0])
theorem idx_g : ∀ t : Fin cfg0.N, win0_9.index t = ![0, 0] :=
  (by decide +kernel : ∀ t : Fin grid0.N, win0_9.index t = ![0, 0])

theorem blk_a (A : S8192x2816.Idx → EReal) (t : Fin cfg0.N) (j : Fin 512) (l : Fin 2816) (h0) :
    ((cfg0.win 0).blk t).view.read (Elt Ideal) A (ix2 j l) = A (ix2 ⟨512 * t.val + j.val, h0⟩ l) := by
  blk_point [idx_a t]
theorem blk_b (A : S2816x1024.Idx → EReal) (t : Fin cfg0.N) (j : Fin 2816) (l : Fin 1024) :
    ((cfg0.win 1).blk t).view.read (Elt Ideal) A (ix2 j l) = A (ix2 j l) := by
  blk_point [idx_b t]
theorem blk_c (A : S8192x2816.Idx → EReal) (t : Fin cfg0.N) (j : Fin 512) (l : Fin 2816) (h0) :
    ((cfg0.win 2).blk t).view.read (Elt Ideal) A (ix2 j l) = A (ix2 ⟨512 * t.val + j.val, h0⟩ l) := by
  blk_point [idx_c t]
theorem blk_d (A : S2816x1024.Idx → EReal) (t : Fin cfg0.N) (j : Fin 2816) (l : Fin 1024) :
    ((cfg0.win 3).blk t).view.read (Elt Ideal) A (ix2 j l) = A (ix2 j l) := by
  blk_point [idx_d t]
theorem blk_x (A : S8192x1024.Idx → EReal) (t : Fin cfg0.N) (j : Fin 512) (l : Fin 1024) (h0) :
    ((cfg0.win 4).blk t).view.read (Elt Ideal) A (ix2 j l) = A (ix2 ⟨512 * t.val + j.val, h0⟩ l) := by
  blk_point [idx_x t]
theorem blk_r (A : S8192x1.Idx → EReal) (t : Fin cfg0.N) (j : Fin 512) (l : Fin 1) (h0) :
    ((cfg0.win 5).blk t).view.read (Elt Ideal) A (ix2 j l) = A (ix2 ⟨512 * t.val + j.val, h0⟩ l) := by
  blk_point [idx_r t]
theorem blk_w (A : S1x1024.Idx → EReal) (t : Fin cfg0.N) (j : Fin 1) (l : Fin 1024) :
    ((cfg0.win 6).blk t).view.read (Elt Ideal) A (ix2 j l) = A (ix2 j l) := by
  blk_point [idx_w t]
theorem blk_y (A : S8192x1024.Idx → EReal) (t : Fin cfg0.N) (j : Fin 512) (l : Fin 1024) (h0) :
    ((cfg0.win 7).blk t).view.read (Elt Ideal) A (ix2 j l) = A (ix2 ⟨512 * t.val + j.val, h0⟩ l) := by
  blk_point [idx_y t]

variable (a : FVec Ideal S512x2816 .bf16) (b : FVec Ideal S2816x1024 .bf16) (c : FVec Ideal S512x2816 .bf16) (d : FVec Ideal S2816x1024 .bf16)
  (r : FVec Ideal S512x1 .f32) (x y : FVec Ideal S512x1024 .f32) (w s : FVec Ideal S1x1024 .f32)

/-- A block's gradient of the normed rows, element by element. -/
theorem prod_at (i : Fin 512) (j : Fin 1024) : k0_pay2 (F := Ideal) a b c d (ix2 i j) = (∑ k : Fin 2816, (a (ix2 i k) : EReal) * b (ix2 k j)) + (∑ k : Fin 2816, (c (ix2 i k) : EReal) * d (ix2 k j)) := by
  pointwise [k0_pay2]

/-- A block's part of the gain's gradient, added to what was there. -/
theorem dn_at (z : Fin 1) (j : Fin 1024) : k0_pay5 (F := Ideal) a b c d r x s (ix2 z j)
    = (s (ix2 z j) : EReal) + ∑ i : Fin 512, (k0_pay2 (F := Ideal) a b c d (ix2 i j) : EReal) * (x (ix2 i j) * r (ix2 i (0 : Fin 1))) := by
  pointwise [k0_pay5, k0_pay4, k0_pay3]

theorem zero_at (z : Fin 1) (j : Fin 1024) : k0_pay1 (F := Ideal) (ix2 z j) = (0 : EReal) := by
  pointwise [k0_pay1]

/-- A block's gradient of the rows, element by element. -/
theorem dx_at (i : Fin 512) (j : Fin 1024) : k0_pay6 (F := Ideal) a b c d r x w y (ix2 i j)
    = kerBack (fun k => k0_pay2 (F := Ideal) a b c d (ix2 i k)) (fun k => w (ix2 (0 : Fin 1) k)) (fun k => x (ix2 i k)) (r (ix2 i (0 : Fin 1))) (y (ix2 i j)) j := by
  unfold kerBack
  pointwise [k0_pay6, k0_pay4, k0_pay3]

variable (m : (ℓ : Loc nD τ sig) → Buf (Elt Ideal) ℓ)

abbrev mA (c : Dev nD) : S8192x2816.Idx → EReal := m ((c.tc : Thread nD τ).loc main_arg0)
abbrev mB (c : Dev nD) : S2816x1024.Idx → EReal := m ((c.tc : Thread nD τ).loc main_arg1)
abbrev mC (c : Dev nD) : S8192x2816.Idx → EReal := m ((c.tc : Thread nD τ).loc main_arg2)
abbrev mD (c : Dev nD) : S2816x1024.Idx → EReal := m ((c.tc : Thread nD τ).loc main_arg3)
abbrev mX (c : Dev nD) : S8192x1024.Idx → EReal := m ((c.tc : Thread nD τ).loc main_arg4)
abbrev mW (c : Dev nD) : S1x1024.Idx → EReal := m ((c.tc : Thread nD τ).loc main_arg5)
abbrev mY (c : Dev nD) : S8192x1024.Idx → EReal := m ((c.tc : Thread nD τ).loc main_arg6)

/-- The reciprocal roots the kernel is given, computed before the call. -/
abbrev mR (c : Dev nD) : S8192x1.Idx → EReal := V m c main_v7

/-- The array of reciprocal roots of a matrix' rows. -/
abbrev rootArr (x : FVec Ideal S8192x1024 .f32) : FVec Ideal S8192x1 .f32 :=
  Host.rsqrt (addf (Host.divf (broadcastInDim S8192x1 ![0] bcast_S8192_S8192x1_0 (Host.reduceAdd (mulf x x) (constant S_ .f32 0x00000000#32)
    reducesTo_S8192x1024_S8192_d1 h_S_)) (broadcastInDim S8192x1 ![] bcast_S_S8192x1 (constant S_ .f32 0x44800000#32)))
    (broadcastInDim S8192x1 ![] bcast_S_S8192x1 (constant S_ .f32 0x358637BD#32)))

theorem root_at (x : FVec Ideal S8192x1024 .f32) (i : Fin 8192) (j : Fin 1) : rootArr x (ix2 i j) = recip (fun k => x (ix2 i k)) := by
  unfold recip meanSq
  pointwise

theorem V_root (c : Dev nD) : V m c main_v7 = rootArr (m ((c.tc : Thread nD τ).loc main_arg4)) := by
  show StableHlo.after hostOps0 (fun b => m (c, b)) (Proc.devRef .tc main_v7) = _
  after_results_simp

/-- The reciprocal root of a row. -/
def recAt (c : Dev nD) (i : Fin 8192) : EReal := recip (fun k => mX m c (ix2 i k))

theorem mR_at (c : Dev nD) (i : Fin 8192) (j : Fin 1) : mR m c (ix2 i j) = recAt m c i :=
  (congrFun (V_root m c) (ix2 i j)).trans (root_at _ i j)

/-- A row against a column of a pair of arrays. -/
def dotA (c : Dev nD) (i : Fin 8192) (j : Fin 1024) : EReal := ∑ k : Fin 2816, mA m c (ix2 i k) * mB m c (ix2 k j)

/-- A row against a column of a pair of arrays. -/
def dotC (c : Dev nD) (i : Fin 8192) (j : Fin 1024) : EReal := ∑ k : Fin 2816, mC m c (ix2 i k) * mD m c (ix2 k j)

/-- The gradient of the normed rows, element by element. -/
def prodAt (c : Dev nD) (i : Fin 8192) (j : Fin 1024) : EReal := dotA m c i j + dotC m c i j

/-- A row's term of the gain's gradient. -/
def gainAt (c : Dev nD) (j : Fin 1024) (i : Fin 8192) : EReal := prodAt m c i j * (mX m c (ix2 i j) * recAt m c i)

theorem prod_blk (c : Dev nD) (t : Fin cfg0.N) (i : Fin 512) (j : Fin 1024) (I : Fin 8192) (hI : I.val = 512 * t.val + i.val) :
    k0_pay2 (F := Ideal) (iblk m c 0 t) (iblk m c 1 t) (iblk m c 2 t) (iblk m c 3 t) (ix2 i j) = prodAt m c I j := by
  have hI' : I = ⟨512 * t.val + i.val, by omega⟩ := Fin.ext hI
  refine (prod_at _ _ _ _ i j).trans ?_
  unfold prodAt
  refine congrArg₂ (· + ·) ?_ ?_
  · unfold dotA
    exact Finset.sum_congr rfl fun k _ => congrArg₂ (· * ·) (by rw [hI']; exact blk_a (mA m c) t i k _) (blk_b (mB m c) t k j)
  · unfold dotC
    exact Finset.sum_congr rfl fun k _ => congrArg₂ (· * ·) (by rw [hI']; exact blk_c (mC m c) t i k _) (blk_d (mD m c) t k j)

theorem x_blk (c : Dev nD) (t : Fin cfg0.N) (i : Fin 512) (j : Fin 1024) (I : Fin 8192) (hI : I.val = 512 * t.val + i.val) :
    iblk m c 4 t (ix2 i j) = mX m c (ix2 I j) := by
  have hI' : I = ⟨512 * t.val + i.val, by omega⟩ := Fin.ext hI
  rw [hI']
  exact blk_x (mX m c) t i j _

theorem y_blk (c : Dev nD) (t : Fin cfg0.N) (i : Fin 512) (j : Fin 1024) (I : Fin 8192) (hI : I.val = 512 * t.val + i.val) :
    iblk m c 7 t (ix2 i j) = mY m c (ix2 I j) := by
  have hI' : I = ⟨512 * t.val + i.val, by omega⟩ := Fin.ext hI
  rw [hI']
  exact blk_y (mY m c) t i j _

theorem r_blk (c : Dev nD) (t : Fin cfg0.N) (i : Fin 512) (I : Fin 8192) (hI : I.val = 512 * t.val + i.val) :
    iblk m c 5 t (ix2 i (0 : Fin 1)) = recAt m c I := by
  have hI' : I = ⟨512 * t.val + i.val, by omega⟩ := Fin.ext hI
  rw [hI']
  exact (blk_r (mR m c) t i 0 _).trans (mR_at m c _ 0)

/-- A point's gradient of its rows, from the arrays. -/
theorem dx_blk (c : Dev nD) (t : Fin cfg0.N) (i : Fin 512) (j J : Fin 1024) (I : Fin 8192) (hI : I.val = 512 * t.val + i.val)
    (hJ : J.val = j.val) : k0_pay6 (F := Ideal) (iblk m c 0 t) (iblk m c 1 t) (iblk m c 2 t) (iblk m c 3 t) (iblk m c 5 t) (iblk m c 4 t) (iblk m c 6 t) (iblk m c 7 t) (ix2 i j)
      = kerBack (fun k => prodAt m c I k) (fun k => mW m c (ix2 (0 : Fin 1) k)) (fun k => mX m c (ix2 I k)) (recAt m c I) (mY m c (ix2 I J)) J := by
  obtain rfl : j = J := (Fin.ext hJ).symm
  refine (dx_at _ _ _ _ _ _ _ _ i j).trans ?_
  exact kerBack_congr (fun k => prod_blk m c t i k I hI) (fun k => blk_w (mW m c) t 0 k) (fun k => x_blk m c t i k I hI)
    (r_blk m c t i I hI) (y_blk m c t i j I hI) j

/-- What a point adds to the gain's gradient. -/
theorem dn_blk (c : Dev nD) (t : Fin cfg0.N) (z : Fin 1) (j : Fin 1024) (s : FVec Ideal S1x1024 .f32)
    (hs : s (ix2 z j) = rowsTo (gainAt m c j) (512 * t.val)) :
    k0_pay5 (F := Ideal) (iblk m c 0 t) (iblk m c 1 t) (iblk m c 2 t) (iblk m c 3 t) (iblk m c 5 t) (iblk m c 4 t) s (ix2 z j) = rowsTo (gainAt m c j) (512 * t.val + 512) := by
  refine (dn_at _ _ _ _ _ _ _ z j).trans ?_
  have ht : t.val < 16 := t.isLt
  rw [rowsTo_add (gainAt m c j) t.val (fun i => gainAt m c j ⟨512 * t.val + i.val, by omega⟩) (fun i => ⟨by omega, rfl⟩)]
  refine congrArg₂ (· + ·) hs ?_
  exact Finset.sum_congr rfl fun i _ => congrArg₂ (· * ·) (prod_blk m c t i j ⟨512 * t.val + i.val, by omega⟩ rfl)
    (congrArg₂ (· * ·) (x_blk m c t i j ⟨512 * t.val + i.val, by omega⟩ rfl) (r_blk m c t i ⟨512 * t.val + i.val, by omega⟩ rfl))

/-- What the gain's window holds after point `n`. -/
abbrev gAt (c : Dev nD) (n : ℕ) (h : n < cfg0.N) : S1x1024.Idx → EReal := (outsAt0 m c n h).2

theorem out_x (c : Dev nD) (t : Fin cfg0.N) :
    (outsAt0 m c t.val t.isLt).1 = k0_pay6 (F := Ideal) (iblk m c 0 t) (iblk m c 1 t) (iblk m c 2 t) (iblk m c 3 t) (iblk m c 5 t) (iblk m c 4 t) (iblk m c 6 t) (iblk m c 7 t) := by
  by_cases h0 : t.val % 16 = 0
  · rw [outsAt0_A m c t h0]
    frame_out
  · rw [outsAt0_B m c t h0]
    frame_out

theorem g_A (c : Dev nD) (t : Fin cfg0.N) (h0 : t.val % 16 = 0) :
    gAt m c t.val t.isLt = k0_pay5 (F := Ideal) (iblk m c 0 t) (iblk m c 1 t) (iblk m c 2 t) (iblk m c 3 t) (iblk m c 5 t) (iblk m c 4 t) (k0_pay1 (F := Ideal)) := by
  unfold gAt
  rw [outsAt0_A m c t h0]
  frame_out

theorem g_B (c : Dev nD) (t : Fin cfg0.N) (h0 : ¬t.val % 16 = 0) :
    gAt m c t.val t.isLt = k0_pay5 (F := Ideal) (iblk m c 0 t) (iblk m c 1 t) (iblk m c 2 t) (iblk m c 3 t) (iblk m c 5 t) (iblk m c 4 t) (gAt m c (t.val - 1) (Nat.lt_of_le_of_lt (Nat.sub_le _ _) t.isLt)) := by
  unfold gAt
  rw [outsAt0_B m c t h0]
  frame_out

/-- After point `n` the gain's window holds the sum over the rows so far. -/
theorem g_at (c : Dev nD) (z : Fin 1) (j : Fin 1024) : ∀ (n : ℕ) (h : n < cfg0.N), gAt m c n h (ix2 z j) = rowsTo (gainAt m c j) (512 * n + 512)
  | 0, h => (congrFun (g_A m c ⟨0, h⟩ rfl) (ix2 z j)).trans (dn_blk m c ⟨0, h⟩ z j _ (zero_at z j))
  | n + 1, h => by
    have hn : n + 1 < 16 := h
    refine (congrFun (g_B m c ⟨n + 1, h⟩ (by show ¬(n + 1) % 16 = 0; omega)) (ix2 z j)).trans (dn_blk m c ⟨n + 1, h⟩ z j _ ?_)
    exact g_at c z j n (Nat.lt_of_succ_lt h)

/-- The point that writes an element, and the element's place in the point's block. -/
theorem emb_o (t : Fin cfg0.N) (y : S512x1024.Idx) :
    ((((cfg0.win 8).blk t).view.emb y) 0).val = 512 * t.val + (y 0).val
      ∧ ((((cfg0.win 8).blk t).view.emb y) 1).val = (y 1).val := by
  refine ⟨?_, ?_⟩ <;> blk_simp [idx_o t] <;> try omega

theorem emb_g (t : Fin cfg0.N) (y : S1x1024.Idx) : ((((cfg0.win 9).blk t).view.emb y) 1).val = (y 1).val := by
  blk_simp [idx_g t] <;> try omega

/-- The gradient of the rows, element by element. -/
theorem final_x (c : Dev nD) : (dats m 0 c).arrAt 8 cfg0.N = fun i : S8192x1024.Idx =>
    kerBack (fun k => prodAt m c (i 0) k) (fun k => mW m c (ix2 (0 : Fin 1) k)) (fun k => mX m c (ix2 (i 0) k)) (recAt m c (i 0))
      (mY m c (ix2 (i 0) (i 1))) (i 1) := by
  refine (dats m 0 c).arrAt_eq_of_covers 8 _ (by decide +kernel) fun t hf y => ?_
  obtain ⟨e0, e1⟩ := emb_o t y
  rw [cast_eq]
  generalize hz : (cfg0.win 8).xinj (cfg0.grid.coords t) y = z
  obtain rfl : z = ix2 (n0 := 512) (n1 := 1024) (y 0) (y 1) := hz.symm.trans (ix_eta 512 1024 y)
  rw [after0_8, out_x]
  exact dx_blk m c t (y 0) (y 1) _ _ e0 e1

/-- The gradient of the gain, element by element. -/
theorem final_g (c : Dev nD) : (dats m 0 c).arrAt 9 cfg0.N = fun i : S1x1024.Idx => ∑ k : Fin 8192, gainAt m c (i 1) k := by
  refine (dats m 0 c).arrAt_eq_of_covers 9 _ (by decide +kernel) fun t hf y => ?_
  have e1 := emb_g t y
  have h15 : t.val = 15 := by
    have h := (flush0_9 t).mp hf
    have ht : t.val < 16 := t.isLt
    omega
  rw [cast_eq]
  generalize hz : (cfg0.win 9).xinj (cfg0.grid.coords t) y = z
  obtain rfl : z = ix2 (n0 := 1) (n1 := 1024) (y 0) (y 1) := hz.symm.trans (ix_eta 1 1024 y)
  rw [after0_9]
  have hJ : (((cfg0.win 9).blk t).view.emb y) 1 = y 1 := Fin.ext e1
  refine (g_at m c (y 0) (y 1) t.val t.isLt).trans ?_
  rw [h15]
  refine (rowsTo_all _).trans ?_
  exact congrArg (fun j => ∑ k : Fin 8192, gainAt m c j k) hJ.symm

end Cert.Kernel6Ideal.Dn

end
-- ==== Proof.DnIn.lean ====
/- THE GRADIENT OF THE ATTENTION BLOCK'S INPUT: the gradient of the normed rows from the projection's gradient, taken
   back through the norm to the rows, and the gain's gradient added up over the blocks of rows. -/
module

public import proofs.«01_k».proof.Proof.Gen.Kernel7Ideal.Value
public import proofs.«01_k».proof.Proof.Norm
public import Idealize.ShloMosaic.Lib.Pipeline.ReadBack

@[expose] public section

set_option maxRecDepth 16384

noncomputable section

namespace Cert.Kernel7Ideal.Dn

open Idealize.ShloMosaic Idealize.ShloMosaic.TcCoe Idealize.SL.Sem
open Idealize.ShloMosaic.Pipeline (Dat)
open Cert.Kernel7Ideal Cert.Kernel7Ideal.Gen Cert.Ffn Cert.Norm

theorem idx_a : ∀ t : Fin cfg0.N, win0_0.index t = ![t.val, 0] :=
  (by decide +kernel : ∀ t : Fin grid0.N, win0_0.index t = ![t.val, 0])
theorem idx_b : ∀ t : Fin cfg0.N, win0_1.index t = ![0, 0] :=
  (by decide +kernel : ∀ t : Fin grid0.N, win0_1.index t = ![0, 0])
theorem idx_x : ∀ t : Fin cfg0.N, win0_2.index t = ![t.val, 0] :=
  (by decide +kernel : ∀ t : Fin grid0.N, win0_2.index t = ![t.val, 0])
theorem idx_r : ∀ t : Fin cfg0.N, win0_3.index t = ![t.val, 0] :=
  (by decide +kernel : ∀ t : Fin grid0.N, win0_3.index t = ![t.val, 0])
theorem idx_w : ∀ t : Fin cfg0.N, win0_4.index t = ![0, 0] :=
  (by decide +kernel : ∀ t : Fin grid0.N, win0_4.index t = ![0, 0])
theorem idx_y : ∀ t : Fin cfg0.N, win0_5.index t = ![t.val, 0] :=
  (by decide +kernel : ∀ t : Fin grid0.N, win0_5.index t = ![t.val, 0])
theorem idx_o : ∀ t : Fin cfg0.N, win0_6.index t = ![t.val, 0] :=
  (by decide +kernel : ∀ t : Fin grid0.N, win0_6.index t = ![t.val, 0])
theorem idx_g : ∀ t : Fin cfg0.N, win0_7.index t = ![0, 0] :=
  (by decide +kernel : ∀ t : Fin grid0.N, win0_7.index t = ![0, 0])

theorem blk_a (A : S8192x3840.Idx → EReal) (t : Fin cfg0.N) (j : Fin 512) (l : Fin 3840) (h0) :
    ((cfg0.win 0).blk t).view.read (Elt Ideal) A (ix2 j l) = A (ix2 ⟨512 * t.val + j.val, h0⟩ l) := by
  blk_point [idx_a t]
theorem blk_b (A : S1024x3840.Idx → EReal) (t : Fin cfg0.N) (j : Fin 1024) (l : Fin 3840) :
    ((cfg0.win 1).blk t).view.read (Elt Ideal) A (ix2 j l) = A (ix2 j l) := by
  blk_point [idx_b t]
theorem blk_x (A : S8192x1024.Idx → EReal) (t : Fin cfg0.N) (j : Fin 512) (l : Fin 1024) (h0) :
    ((cfg0.win 2).blk t).view.read (Elt Ideal) A (ix2 j l) = A (ix2 ⟨512 * t.val + j.val, h0⟩ l) := by
  blk_point [idx_x t]
theorem blk_r (A : S8192x1.Idx → EReal) (t : Fin cfg0.N) (j : Fin 512) (l : Fin 1) (h0) :
    ((cfg0.win 3).blk t).view.read (Elt Ideal) A (ix2 j l) = A (ix2 ⟨512 * t.val + j.val, h0⟩ l) := by
  blk_point [idx_r t]
theorem blk_w (A : S1x1024.Idx → EReal) (t : Fin cfg0.N) (j : Fin 1) (l : Fin 1024) :
    ((cfg0.win 4).blk t).view.read (Elt Ideal) A (ix2 j l) = A (ix2 j l) := by
  blk_point [idx_w t]
theorem blk_y (A : S8192x1024.Idx → EReal) (t : Fin cfg0.N) (j : Fin 512) (l : Fin 1024) (h0) :
    ((cfg0.win 5).blk t).view.read (Elt Ideal) A (ix2 j l) = A (ix2 ⟨512 * t.val + j.val, h0⟩ l) := by
  blk_point [idx_y t]

variable (a : FVec Ideal S512x3840 .bf16) (b : FVec Ideal S1024x3840 .bf16)
  (r : FVec Ideal S512x1 .f32) (x y : FVec Ideal S512x1024 .f32) (w s : FVec Ideal S1x1024 .f32)

/-- A block's gradient of the normed rows, element by element. -/
theorem prod_at (i : Fin 512) (j : Fin 1024) : k0_pay2 (F := Ideal) a b (ix2 i j) = (∑ k : Fin 3840, (a (ix2 i k) : EReal) * b (ix2 j k)) := by
  pointwise [k0_pay2]

/-- A block's part of the gain's gradient, added to what was there. -/
theorem dn_at (z : Fin 1) (j : Fin 1024) : k0_pay5 (F := Ideal) a b r x s (ix2 z j)
    = (s (ix2 z j) : EReal) + ∑ i : Fin 512, (k0_pay2 (F := Ideal) a b (ix2 i j) : EReal) * (x (ix2 i j) * r (ix2 i (0 : Fin 1))) := by
  pointwise [k0_pay5, k0_pay4, k0_pay3]

theorem zero_at (z : Fin 1) (j : Fin 1024) : k0_pay1 (F := Ideal) (ix2 z j) = (0 : EReal) := by
  pointwise [k0_pay1]

/-- A block's gradient of the rows, element by element. -/
theorem dx_at (i : Fin 512) (j : Fin 1024) : k0_pay6 (F := Ideal) a b r x w y (ix2 i j)
    = kerBack (fun k => k0_pay2 (F := Ideal) a b (ix2 i k)) (fun k => w (ix2 (0 : Fin 1) k)) (fun k => x (ix2 i k)) (r (ix2 i (0 : Fin 1))) (y (ix2 i j)) j := by
  unfold kerBack
  pointwise [k0_pay6, k0_pay4, k0_pay3]

variable (m : (ℓ : Loc nD τ sig) → Buf (Elt Ideal) ℓ)

abbrev mA (c : Dev nD) : S8192x3840.Idx → EReal := m ((c.tc : Thread nD τ).loc main_arg0)
abbrev mB (c : Dev nD) : S1024x3840.Idx → EReal := m ((c.tc : Thread nD τ).loc main_arg1)
abbrev mX (c : Dev nD) : S8192x1024.Idx → EReal := m ((c.tc : Thread nD τ).loc main_arg2)
abbrev mW (c : Dev nD) : S1x1024.Idx → EReal := m ((c.tc : Thread nD τ).loc main_arg3)
abbrev mY (c : Dev nD) : S8192x1024.Idx → EReal := m ((c.tc : Thread nD τ).loc main_arg4)

/-- The reciprocal roots the kernel is given, computed before the call. -/
abbrev mR (c : Dev nD) : S8192x1.Idx → EReal := V m c main_v7

/-- The array of reciprocal roots of a matrix' rows. -/
abbrev rootArr (x : FVec Ideal S8192x1024 .f32) : FVec Ideal S8192x1 .f32 :=
  Host.rsqrt (addf (Host.divf (broadcastInDim S8192x1 ![0] bcast_S8192_S8192x1_0 (Host.reduceAdd (mulf x x) (constant S_ .f32 0x00000000#32)
    reducesTo_S8192x1024_S8192_d1 h_S_)) (broadcastInDim S8192x1 ![] bcast_S_S8192x1 (constant S_ .f32 0x44800000#32)))
    (broadcastInDim S8192x1 ![] bcast_S_S8192x1 (constant S_ .f32 0x358637BD#32)))

theorem root_at (x : FVec Ideal S8192x1024 .f32) (i : Fin 8192) (j : Fin 1) : rootArr x (ix2 i j) = recip (fun k => x (ix2 i k)) := by
  unfold recip meanSq
  pointwise

theorem V_root (c : Dev nD) : V m c main_v7 = rootArr (m ((c.tc : Thread nD τ).loc main_arg2)) := by
  show StableHlo.after hostOps0 (fun b => m (c, b)) (Proc.devRef .tc main_v7) = _
  after_results_simp

/-- The reciprocal root of a row. -/
def recAt (c : Dev nD) (i : Fin 8192) : EReal := recip (fun k => mX m c (ix2 i k))

theorem mR_at (c : Dev nD) (i : Fin 8192) (j : Fin 1) : mR m c (ix2 i j) = recAt m c i :=
  (congrFun (V_root m c) (ix2 i j)).trans (root_at _ i j)

/-- A row against a column of the two arrays. -/
def dotA (c : Dev nD) (i : Fin 8192) (j : Fin 1024) : EReal := ∑ k : Fin 3840, mA m c (ix2 i k) * mB m c (ix2 j k)

/-- The gradient of the normed rows, element by element. -/
def prodAt (c : Dev nD) (i : Fin 8192) (j : Fin 1024) : EReal := dotA m c i j

/-- A row's term of the gain's gradient. -/
def gainAt (c : Dev nD) (j : Fin 1024) (i : Fin 8192) : EReal := prodAt m c i j * (mX m c (ix2 i j) * recAt m c i)

theorem prod_blk (c : Dev nD) (t : Fin cfg0.N) (i : Fin 512) (j : Fin 1024) (I : Fin 8192) (hI : I.val = 512 * t.val + i.val) :
    k0_pay2 (F := Ideal) (iblk m c 0 t) (iblk m c 1 t) (ix2 i j) = prodAt m c I j := by
  have hI' : I = ⟨512 * t.val + i.val, by omega⟩ := Fin.ext hI
  refine (prod_at _ _ i j).trans ?_
  unfold prodAt

  unfold dotA
  exact Finset.sum_congr rfl fun k _ => congrArg₂ (· * ·) (by rw [hI']; exact blk_a (mA m c) t i k _) (blk_b (mB m c) t j k)

theorem x_blk (c : Dev nD) (t : Fin cfg0.N) (i : Fin 512) (j : Fin 1024) (I : Fin 8192) (hI : I.val = 512 * t.val + i.val) :
    iblk m c 2 t (ix2 i j) = mX m c (ix2 I j) := by
  have hI' : I = ⟨512 * t.val + i.val, by omega⟩ := Fin.ext hI
  rw [hI']
  exact blk_x (mX m c) t i j _

theorem y_blk (c : Dev nD) (t : Fin cfg0.N) (i : Fin 512) (j : Fin 1024) (I : Fin 8192) (hI : I.val = 512 * t.val + i.val) :
    iblk m c 5 t (ix2 i j) = mY m c (ix2 I j) := by
  have hI' : I = ⟨512 * t.val + i.val, by omega⟩ := Fin.ext hI
  rw [hI']
  exact blk_y (mY m c) t i j _

theorem r_blk (c : Dev nD) (t : Fin cfg0.N) (i : Fin 512) (I : Fin 8192) (hI : I.val = 512 * t.val + i.val) :
    iblk m c 3 t (ix2 i (0 : Fin 1)) = recAt m c I := by
  have hI' : I = ⟨512 * t.val + i.val, by omega⟩ := Fin.ext hI
  rw [hI']
  exact (blk_r (mR m c) t i 0 _).trans (mR_at m c _ 0)

/-- A point's gradient of its rows, from the arrays. -/
theorem dx_blk (c : Dev nD) (t : Fin cfg0.N) (i : Fin 512) (j J : Fin 1024) (I : Fin 8192) (hI : I.val = 512 * t.val + i.val)
    (hJ : J.val = j.val) : k0_pay6 (F := Ideal) (iblk m c 0 t) (iblk m c 1 t) (iblk m c 3 t) (iblk m c 2 t) (iblk m c 4 t) (iblk m c 5 t) (ix2 i j)
      = kerBack (fun k => prodAt m c I k) (fun k => mW m c (ix2 (0 : Fin 1) k)) (fun k => mX m c (ix2 I k)) (recAt m c I) (mY m c (ix2 I J)) J := by
  obtain rfl : j = J := (Fin.ext hJ).symm
  refine (dx_at _ _ _ _ _ _ i j).trans ?_
  exact kerBack_congr (fun k => prod_blk m c t i k I hI) (fun k => blk_w (mW m c) t 0 k) (fun k => x_blk m c t i k I hI)
    (r_blk m c t i I hI) (y_blk m c t i j I hI) j

/-- What a point adds to the gain's gradient. -/
theorem dn_blk (c : Dev nD) (t : Fin cfg0.N) (z : Fin 1) (j : Fin 1024) (s : FVec Ideal S1x1024 .f32)
    (hs : s (ix2 z j) = rowsTo (gainAt m c j) (512 * t.val)) :
    k0_pay5 (F := Ideal) (iblk m c 0 t) (iblk m c 1 t) (iblk m c 3 t) (iblk m c 2 t) s (ix2 z j) = rowsTo (gainAt m c j) (512 * t.val + 512) := by
  refine (dn_at _ _ _ _ _ z j).trans ?_
  have ht : t.val < 16 := t.isLt
  rw [rowsTo_add (gainAt m c j) t.val (fun i => gainAt m c j ⟨512 * t.val + i.val, by omega⟩) (fun i => ⟨by omega, rfl⟩)]
  refine congrArg₂ (· + ·) hs ?_
  exact Finset.sum_congr rfl fun i _ => congrArg₂ (· * ·) (prod_blk m c t i j ⟨512 * t.val + i.val, by omega⟩ rfl)
    (congrArg₂ (· * ·) (x_blk m c t i j ⟨512 * t.val + i.val, by omega⟩ rfl) (r_blk m c t i ⟨512 * t.val + i.val, by omega⟩ rfl))

/-- What the gain's window holds after point `n`. -/
abbrev gAt (c : Dev nD) (n : ℕ) (h : n < cfg0.N) : S1x1024.Idx → EReal := (outsAt0 m c n h).2

theorem out_x (c : Dev nD) (t : Fin cfg0.N) :
    (outsAt0 m c t.val t.isLt).1 = k0_pay6 (F := Ideal) (iblk m c 0 t) (iblk m c 1 t) (iblk m c 3 t) (iblk m c 2 t) (iblk m c 4 t) (iblk m c 5 t) := by
  by_cases h0 : t.val % 16 = 0
  · rw [outsAt0_A m c t h0]
    frame_out
  · rw [outsAt0_B m c t h0]
    frame_out

theorem g_A (c : Dev nD) (t : Fin cfg0.N) (h0 : t.val % 16 = 0) :
    gAt m c t.val t.isLt = k0_pay5 (F := Ideal) (iblk m c 0 t) (iblk m c 1 t) (iblk m c 3 t) (iblk m c 2 t) (k0_pay1 (F := Ideal)) := by
  unfold gAt
  rw [outsAt0_A m c t h0]
  frame_out

theorem g_B (c : Dev nD) (t : Fin cfg0.N) (h0 : ¬t.val % 16 = 0) :
    gAt m c t.val t.isLt = k0_pay5 (F := Ideal) (iblk m c 0 t) (iblk m c 1 t) (iblk m c 3 t) (iblk m c 2 t) (gAt m c (t.val - 1) (Nat.lt_of_le_of_lt (Nat.sub_le _ _) t.isLt)) := by
  unfold gAt
  rw [outsAt0_B m c t h0]
  frame_out

/-- After point `n` the gain's window holds the sum over the rows so far. -/
theorem g_at (c : Dev nD) (z : Fin 1) (j : Fin 1024) : ∀ (n : ℕ) (h : n < cfg0.N), gAt m c n h (ix2 z j) = rowsTo (gainAt m c j) (512 * n + 512)
  | 0, h => (congrFun (g_A m c ⟨0, h⟩ rfl) (ix2 z j)).trans (dn_blk m c ⟨0, h⟩ z j _ (zero_at z j))
  | n + 1, h => by
    have hn : n + 1 < 16 := h
    refine (congrFun (g_B m c ⟨n + 1, h⟩ (by show ¬(n + 1) % 16 = 0; omega)) (ix2 z j)).trans (dn_blk m c ⟨n + 1, h⟩ z j _ ?_)
    exact g_at c z j n (Nat.lt_of_succ_lt h)

/-- The point that writes an element, and the element's place in the point's block. -/
theorem emb_o (t : Fin cfg0.N) (y : S512x1024.Idx) :
    ((((cfg0.win 6).blk t).view.emb y) 0).val = 512 * t.val + (y 0).val
      ∧ ((((cfg0.win 6).blk t).view.emb y) 1).val = (y 1).val := by
  refine ⟨?_, ?_⟩ <;> blk_simp [idx_o t] <;> try omega

theorem emb_g (t : Fin cfg0.N) (y : S1x1024.Idx) : ((((cfg0.win 7).blk t).view.emb y) 1).val = (y 1).val := by
  blk_simp [idx_g t] <;> try omega

/-- The gradient of the rows, element by element. -/
theorem final_x (c : Dev nD) : (dats m 0 c).arrAt 6 cfg0.N = fun i : S8192x1024.Idx =>
    kerBack (fun k => prodAt m c (i 0) k) (fun k => mW m c (ix2 (0 : Fin 1) k)) (fun k => mX m c (ix2 (i 0) k)) (recAt m c (i 0))
      (mY m c (ix2 (i 0) (i 1))) (i 1) := by
  refine (dats m 0 c).arrAt_eq_of_covers 6 _ (by decide +kernel) fun t hf y => ?_
  obtain ⟨e0, e1⟩ := emb_o t y
  rw [cast_eq]
  generalize hz : (cfg0.win 6).xinj (cfg0.grid.coords t) y = z
  obtain rfl : z = ix2 (n0 := 512) (n1 := 1024) (y 0) (y 1) := hz.symm.trans (ix_eta 512 1024 y)
  rw [after0_6, out_x]
  exact dx_blk m c t (y 0) (y 1) _ _ e0 e1

/-- The gradient of the gain, element by element. -/
theorem final_g (c : Dev nD) : (dats m 0 c).arrAt 7 cfg0.N = fun i : S1x1024.Idx => ∑ k : Fin 8192, gainAt m c (i 1) k := by
  refine (dats m 0 c).arrAt_eq_of_covers 7 _ (by decide +kernel) fun t hf y => ?_
  have e1 := emb_g t y
  have h15 : t.val = 15 := by
    have h := (flush0_7 t).mp hf
    have ht : t.val < 16 := t.isLt
    omega
  rw [cast_eq]
  generalize hz : (cfg0.win 7).xinj (cfg0.grid.coords t) y = z
  obtain rfl : z = ix2 (n0 := 1) (n1 := 1024) (y 0) (y 1) := hz.symm.trans (ix_eta 1 1024 y)
  rw [after0_7]
  have hJ : (((cfg0.win 7).blk t).view.emb y) 1 = y 1 := Fin.ext e1
  refine (g_at m c (y 0) (y 1) t.val t.isLt).trans ?_
  rw [h15]
  refine (rowsTo_all _).trans ?_
  exact congrArg (fun j => ∑ k : Fin 8192, gainAt m c j k) hJ.symm

end Cert.Kernel7Ideal.Dn

end
-- ==== Proof.DnEqual.lean ====
/- THE GRADIENTS TAKEN BACK THROUGH A NORM: the references' gradients of the rows and of the gain element by element, the
   kernels' equal to them, and the programs' frames. -/
module

public import proofs.«01_k».proof.Proof.DnGate
public import proofs.«01_k».proof.Proof.DnIn
public import proofs.«01_k».proof.Proof.Gen.Reference6Ideal.Run
public import proofs.«01_k».proof.Proof.Gen.Kernel6.Frame
public import proofs.«01_k».proof.Proof.Gen.Reference7Ideal.Run
public import proofs.«01_k».proof.Proof.Gen.Kernel7.Frame
public import proofs.«01_k».proof.Defs

@[expose] public section

set_option maxRecDepth 16384

noncomputable section

namespace Cert.Reference6Ideal.At

open Idealize.ShloMosaic Idealize.ShloMosaic.TcCoe Idealize.SL.Sem
open Cert.Reference6Ideal Cert.Reference6Ideal.Gen Cert.Ffn Cert.Norm

/-- The reference's gradient of the normed rows. -/
abbrev prodArr (dg : FVec Ideal S8192x2816 .bf16) (wg : FVec Ideal S2816x1024 .bf16) (du : FVec Ideal S8192x2816 .bf16) (wu : FVec Ideal S2816x1024 .bf16) :
    FVec Ideal S8192x1024 .f32 :=
  addf (Host.dotGeneral dot_S8192x2816_S1024x2816_S8192x1024_1_1_0_0_n_n none (extf .f32 du bitsLt_bf16_f32)
      (transpose S1024x2816 [1, 0] (extf .f32 wu bitsLt_bf16_f32) transposes_S2816x1024_S1024x2816_1_0))
    (Host.dotGeneral dot_S8192x2816_S1024x2816_S8192x1024_1_1_0_0_n_n none (extf .f32 dg bitsLt_bf16_f32)
      (transpose S1024x2816 [1, 0] (extf .f32 wg bitsLt_bf16_f32) transposes_S2816x1024_S1024x2816_1_0))

theorem prod_at (dg : FVec Ideal S8192x2816 .bf16) (wg : FVec Ideal S2816x1024 .bf16) (du : FVec Ideal S8192x2816 .bf16) (wu : FVec Ideal S2816x1024 .bf16)
    (i : Fin 8192) (j : Fin 1024) : prodArr dg wg du wu (ix2 i j)
      = (∑ k : Fin 2816, (dg (ix2 i k) : EReal) * wg (ix2 k j)) + ∑ k : Fin 2816, (du (ix2 i k) : EReal) * wu (ix2 k j) := by
  refine Eq.trans (b := (∑ k : Fin 2816, (du (ix2 i k) : EReal) * wu (ix2 k j)) + ∑ k : Fin 2816, (dg (ix2 i k) : EReal) * wg (ix2 k j)) ?_ (add_comm _ _)
  pointwise

section Back

variable (P x y : FVec Ideal S8192x1024 .f32) (w : FVec Ideal S1x1024 .f32)

/-- The rows' mean squares and their reciprocal roots. -/
abbrev msArr : FVec Ideal S8192x1 .f32 :=
  addf (Host.divf (broadcastInDim S8192x1 ![0] bcast_S8192_S8192x1_0 (Host.reduceAdd (mulf x x) (constant S_ .f32 0x00000000#32)
    reducesTo_S8192x1024_S8192_d1 h_S_)) (broadcastInDim S8192x1 ![] bcast_S_S8192x1 (constant S_ .f32 0x44800000#32)))
    (broadcastInDim S8192x1 ![] bcast_S_S8192x1 (constant S_ .f32 0x358637BD#32))
abbrev rArr : FVec Ideal S8192x1 .f32 := Host.rsqrt (msArr x)

/-- The coefficient of each row's input. -/
abbrev coefArr : FVec Ideal S8192 .f32 :=
  Host.reduceAdd (Host.divf (mulf (shapeCast _ (Host.reduceAdd (mulf x (mulf P (broadcastInDim S8192x1024 ![0, 1] bcast_S1x1024_S8192x1024_0_1 w)))
      (constant S_ .f32 0x00000000#32) reducesTo_S8192x1024_S8192_d1 h_S_) shapeCasts_S8192_S8192x1)
      (mulf (broadcastInDim S8192x1 ![] bcast_S_S8192x1 (constant S_ .f32 0xBF000000#32)) (Host.divf (rArr x) (msArr x))))
      (broadcastInDim S8192x1 ![] bcast_S_S8192x1 (constant S_ .f32 0x44800000#32)))
    (constant S_ .f32 0x00000000#32) reducesTo_S8192x1_S8192_d1 h_S_

/-- The gradient of the rows. -/
abbrev dxArr : FVec Ideal S8192x1024 .f32 :=
  addf y (addf (addf (mulf (mulf P (broadcastInDim S8192x1024 ![0, 1] bcast_S1x1024_S8192x1024_0_1 w))
      (broadcastInDim S8192x1024 ![0, 1] bcast_S8192x1_S8192x1024_0_1 (rArr x)))
    (mulf x (broadcastInDim S8192x1024 ![0] bcast_S8192_S8192x1024_0 (coefArr P x w))))
    (mulf (broadcastInDim S8192x1024 ![0] bcast_S8192_S8192x1024_0 (coefArr P x w)) x))

/-- The gradient of the gain. -/
abbrev dnArr : FVec Ideal S1x1024 .f32 :=
  shapeCast _ (Host.reduceAdd (mulf (mulf x (broadcastInDim S8192x1024 ![0, 1] bcast_S8192x1_S8192x1024_0_1 (rArr x))) P)
    (constant S_ .f32 0x00000000#32) reducesTo_S8192x1024_S1024_d0 h_S_) shapeCasts_S1024_S1x1024

theorem ms_at (i : Fin 8192) (j : Fin 1) : msArr x (ix2 i j) = meanSq (fun k => x (ix2 i k)) := by
  unfold meanSq
  pointwise

theorem r_at (i : Fin 8192) (j : Fin 1) : rArr x (ix2 i j) = recip (fun k => x (ix2 i k)) := by
  unfold recip meanSq
  pointwise

theorem coef_at (i : Fin 8192) : coefArr P x w (ix1 i)
    = coef (fun k => P (ix2 i k)) (fun k => w (ix2 (0 : Fin 1) k)) (fun k => x (ix2 i k)) := by
  unfold coef recip meanSq
  pointwise

theorem dn_at (j : Fin 1024) (z : Fin 1) : dnArr P x (ix2 z j)
    = ∑ i : Fin 8192, (P (ix2 i j) : EReal) * (x (ix2 i j) * recip (fun k => x (ix2 i k))) := by
  refine Eq.trans (b := ∑ i : Fin 8192, (x (ix2 i j) : EReal) * recip (fun k => x (ix2 i k)) * P (ix2 i j)) ?_
    (Finset.sum_congr rfl fun i _ => mul_comm _ _)
  unfold recip meanSq
  pointwise

theorem dx_at (i : Fin 8192) (j : Fin 1024) : dxArr P x y w (ix2 i j)
    = refBack (fun k => P (ix2 i k)) (fun k => w (ix2 (0 : Fin 1) k)) (fun k => x (ix2 i k)) (y (ix2 i j)) j := by
  unfold refBack coef recip meanSq
  pointwise

end Back

/-- The reference's gradient of the rows is this array. -/
theorem dx_eq (m : (ℓ : Loc nD τ sig) → Buf (Elt Ideal) ℓ) (c : Dev nD) :
    Cert.Reference6Ideal.Value.res_main_v45 (F := Ideal) m c = dxArr (prodArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg6)) (m ((c.tc : Thread nD τ).loc main_arg5)) := by
  unfold Cert.Reference6Ideal.Value.res_main_v45
  rfl

end Cert.Reference6Ideal.At

namespace Cert.Reference7Ideal.At

open Idealize.ShloMosaic Idealize.ShloMosaic.TcCoe Idealize.SL.Sem
open Cert.Reference7Ideal Cert.Reference7Ideal.Gen Cert.Ffn Cert.Norm

/-- The reference's gradient of the normed rows. -/
abbrev prodArr (d : FVec Ideal S8192x3840 .bf16) (w : FVec Ideal S1024x3840 .bf16) : FVec Ideal S8192x1024 .f32 :=
  Host.dotGeneral dot_S8192x3840_S1024x3840_S8192x1024_1_1_0_0_n_n none (extf .f32 d bitsLt_bf16_f32) (extf .f32 w bitsLt_bf16_f32)

theorem prod_at (d : FVec Ideal S8192x3840 .bf16) (w : FVec Ideal S1024x3840 .bf16) (i : Fin 8192) (j : Fin 1024) :
    prodArr d w (ix2 i j) = ∑ k : Fin 3840, (d (ix2 i k) : EReal) * w (ix2 j k) := by
  pointwise

section Back

variable (P x y : FVec Ideal S8192x1024 .f32) (w : FVec Ideal S1x1024 .f32)

/-- The rows' mean squares and their reciprocal roots. -/
abbrev msArr : FVec Ideal S8192x1 .f32 :=
  addf (Host.divf (broadcastInDim S8192x1 ![0] bcast_S8192_S8192x1_0 (Host.reduceAdd (mulf x x) (constant S_ .f32 0x00000000#32)
    reducesTo_S8192x1024_S8192_d1 h_S_)) (broadcastInDim S8192x1 ![] bcast_S_S8192x1 (constant S_ .f32 0x44800000#32)))
    (broadcastInDim S8192x1 ![] bcast_S_S8192x1 (constant S_ .f32 0x358637BD#32))
abbrev rArr : FVec Ideal S8192x1 .f32 := Host.rsqrt (msArr x)

/-- The coefficient of each row's input. -/
abbrev coefArr : FVec Ideal S8192 .f32 :=
  Host.reduceAdd (Host.divf (mulf (shapeCast _ (Host.reduceAdd (mulf x (mulf P (broadcastInDim S8192x1024 ![0, 1] bcast_S1x1024_S8192x1024_0_1 w)))
      (constant S_ .f32 0x00000000#32) reducesTo_S8192x1024_S8192_d1 h_S_) shapeCasts_S8192_S8192x1)
      (mulf (broadcastInDim S8192x1 ![] bcast_S_S8192x1 (constant S_ .f32 0xBF000000#32)) (Host.divf (rArr x) (msArr x))))
      (broadcastInDim S8192x1 ![] bcast_S_S8192x1 (constant S_ .f32 0x44800000#32)))
    (constant S_ .f32 0x00000000#32) reducesTo_S8192x1_S8192_d1 h_S_

/-- The gradient of the rows. -/
abbrev dxArr : FVec Ideal S8192x1024 .f32 :=
  addf y (addf (addf (mulf (mulf P (broadcastInDim S8192x1024 ![0, 1] bcast_S1x1024_S8192x1024_0_1 w))
      (broadcastInDim S8192x1024 ![0, 1] bcast_S8192x1_S8192x1024_0_1 (rArr x)))
    (mulf x (broadcastInDim S8192x1024 ![0] bcast_S8192_S8192x1024_0 (coefArr P x w))))
    (mulf (broadcastInDim S8192x1024 ![0] bcast_S8192_S8192x1024_0 (coefArr P x w)) x))

/-- The gradient of the gain. -/
abbrev dnArr : FVec Ideal S1x1024 .f32 :=
  shapeCast _ (Host.reduceAdd (mulf (mulf x (broadcastInDim S8192x1024 ![0, 1] bcast_S8192x1_S8192x1024_0_1 (rArr x))) P)
    (constant S_ .f32 0x00000000#32) reducesTo_S8192x1024_S1024_d0 h_S_) shapeCasts_S1024_S1x1024

theorem ms_at (i : Fin 8192) (j : Fin 1) : msArr x (ix2 i j) = meanSq (fun k => x (ix2 i k)) := by
  unfold meanSq
  pointwise

theorem r_at (i : Fin 8192) (j : Fin 1) : rArr x (ix2 i j) = recip (fun k => x (ix2 i k)) := by
  unfold recip meanSq
  pointwise

theorem coef_at (i : Fin 8192) : coefArr P x w (ix1 i)
    = coef (fun k => P (ix2 i k)) (fun k => w (ix2 (0 : Fin 1) k)) (fun k => x (ix2 i k)) := by
  unfold coef recip meanSq
  pointwise

theorem dn_at (j : Fin 1024) (z : Fin 1) : dnArr P x (ix2 z j)
    = ∑ i : Fin 8192, (P (ix2 i j) : EReal) * (x (ix2 i j) * recip (fun k => x (ix2 i k))) := by
  refine Eq.trans (b := ∑ i : Fin 8192, (x (ix2 i j) : EReal) * recip (fun k => x (ix2 i k)) * P (ix2 i j)) ?_
    (Finset.sum_congr rfl fun i _ => mul_comm _ _)
  unfold recip meanSq
  pointwise

theorem dx_at (i : Fin 8192) (j : Fin 1024) : dxArr P x y w (ix2 i j)
    = refBack (fun k => P (ix2 i k)) (fun k => w (ix2 (0 : Fin 1) k)) (fun k => x (ix2 i k)) (y (ix2 i j)) j := by
  unfold refBack coef recip meanSq
  pointwise

end Back

/-- The reference's gradient of the rows is this array. -/
theorem dx_eq (m : (ℓ : Loc nD τ sig) → Buf (Elt Ideal) ℓ) (c : Dev nD) :
    Cert.Reference7Ideal.Value.res_main_v38 (F := Ideal) m c = dxArr (prodArr (m ((c.tc : Thread nD τ).loc main_arg0)) (m ((c.tc : Thread nD τ).loc main_arg1))) (m ((c.tc : Thread nD τ).loc main_arg2)) (m ((c.tc : Thread nD τ).loc main_arg4)) (m ((c.tc : Thread nD τ).loc main_arg3)) := by
  unfold Cert.Reference7Ideal.Value.res_main_v38
  rfl

end Cert.Reference7Ideal.At

namespace Cert.Proof

open Idealize.ShloMosaic Idealize.ShloMosaic.TcCoe Idealize.SL.Sem Cert.Ffn Cert.Norm

theorem sum_eq (f g : Fin 8192 → EReal) (h : ∀ k, f k = g k) : ∑ k, f k = ∑ k, g k := Finset.sum_congr rfl fun k _ => h k

theorem refBack_congr {P P' : Fin 1024 → EReal} (hP : ∀ k, P k = P' k) (w x : Fin 1024 → EReal) (y : EReal) (j : Fin 1024) :
    refBack P w x y j = refBack P' w x y j := by
  rw [show P = P' from funext hP]

theorem frame_kernel6 : Cert.quiescent_Kernel6 (hKernel6 := Cert.Kernel6.Gen.facts) :=
  fun m ρ _ => Cert.Kernel6.Gen.frame m ρ

theorem frame_kernel6Ideal : Cert.quiescent_Kernel6Ideal (hKernel6Ideal := Cert.Kernel6Ideal.Gen.facts) :=
  fun m ρ _ => Cert.Kernel6Ideal.Gen.frame m ρ

theorem frame_reference6Ideal :
    Cert.quiescent_Reference6Ideal (hReference6Ideal := Cert.Reference6Ideal.Gen.facts) := by
  intro m ρ _
  exact (θ_run Cert.Reference6Ideal.defs _ _).mono (fun r h => ⟨fun c => (h c).2.2,
      Idealize.ShloMosaic.sem_eq_zero_of_no_sems (by decide) r.2⟩)
    (Cert.Reference6Ideal.Value.run (F := Ideal) m ρ)

/-- The gradient of the feed-forward layer's input: from equal arguments both programs end with equal gradients. -/
theorem algebraic6 : Cert.algebraic_Kernel6Ideal_Reference6Ideal (hKernel6Ideal := Cert.Kernel6Ideal.Gen.facts)
    (hReference6Ideal := Cert.Reference6Ideal.Gen.facts) := by
  intro m g m' g' _ hargs
  have hprod : ∀ (c : Dev Cert.Kernel6Ideal.nD) (i : Fin 8192) (j : Fin 1024),
      Cert.Reference6Ideal.At.prodArr (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (ix2 i j) = Cert.Kernel6Ideal.Dn.prodAt m c i j := fun c i j => Cert.Reference6Ideal.At.prod_at _ _ _ _ i j
  refine ⟨fun c => (Cert.Kernel6Ideal.Gen.dats m 0 c).arrAt 8 Cert.Kernel6Ideal.cfg0.N, fun c => (Cert.Kernel6Ideal.Gen.dats m 0 c).arrAt 9 Cert.Kernel6Ideal.cfg0.N,
    Cert.Kernel6Ideal.Value.run_blocks (F := Ideal) m g, ?_⟩
  refine (θ_run Cert.Reference6Ideal.defs _ _).mono (fun r h c => ⟨?_, ?_, (h c).2.2⟩) (Cert.Reference6Ideal.Value.run (F := Ideal) m' g')
  · refine ((h c).1.trans (Cert.Reference6Ideal.At.dx_eq m' c)).trans (Eq.trans ?_ (Cert.Kernel6Ideal.Dn.final_x m c).symm)
    rw [(hargs c).1, (hargs c).2.1, (hargs c).2.2.1, (hargs c).2.2.2.1, (hargs c).2.2.2.2.1, (hargs c).2.2.2.2.2.1, (hargs c).2.2.2.2.2.2]
    funext i
    rw [ix_eta 8192 1024 i]
    refine (Cert.Reference6Ideal.At.dx_at _ _ _ _ (i 0) (i 1)).trans ?_
    refine (refBack_congr (fun k => hprod c (i 0) k) _ _ _ _).trans ?_
    exact back_eq _ _ _ _ _
  · refine ((h c).2.1).trans (Eq.trans ?_ (Cert.Kernel6Ideal.Dn.final_g m c).symm)
    rw [(hargs c).1, (hargs c).2.1, (hargs c).2.2.1, (hargs c).2.2.2.1, (hargs c).2.2.2.2.1]
    funext i
    rw [ix_eta 1 1024 i]
    refine (Cert.Reference6Ideal.At.dn_at _ _ (i 1) (i 0)).trans ?_
    exact sum_eq _ _ fun k => congrArg (fun p : EReal => p * (Cert.Kernel6Ideal.Dn.mX m c (ix2 k (i 1)) * Cert.Kernel6Ideal.Dn.recAt m c k)) (hprod c k (i 1))

theorem frame_kernel7 : Cert.quiescent_Kernel7 (hKernel7 := Cert.Kernel7.Gen.facts) :=
  fun m ρ _ => Cert.Kernel7.Gen.frame m ρ

theorem frame_kernel7Ideal : Cert.quiescent_Kernel7Ideal (hKernel7Ideal := Cert.Kernel7Ideal.Gen.facts) :=
  fun m ρ _ => Cert.Kernel7Ideal.Gen.frame m ρ

theorem frame_reference7Ideal :
    Cert.quiescent_Reference7Ideal (hReference7Ideal := Cert.Reference7Ideal.Gen.facts) := by
  intro m ρ _
  exact (θ_run Cert.Reference7Ideal.defs _ _).mono (fun r h => ⟨fun c => (h c).2.2,
      Idealize.ShloMosaic.sem_eq_zero_of_no_sems (by decide) r.2⟩)
    (Cert.Reference7Ideal.Value.run (F := Ideal) m ρ)

/-- The gradient of the attention block's input: from equal arguments both programs end with equal gradients. -/
theorem algebraic7 : Cert.algebraic_Kernel7Ideal_Reference7Ideal (hKernel7Ideal := Cert.Kernel7Ideal.Gen.facts)
    (hReference7Ideal := Cert.Reference7Ideal.Gen.facts) := by
  intro m g m' g' _ hargs
  have hprod : ∀ (c : Dev Cert.Kernel7Ideal.nD) (i : Fin 8192) (j : Fin 1024),
      Cert.Reference7Ideal.At.prodArr (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (ix2 i j) = Cert.Kernel7Ideal.Dn.prodAt m c i j := fun c i j => Cert.Reference7Ideal.At.prod_at _ _ i j
  refine ⟨fun c => (Cert.Kernel7Ideal.Gen.dats m 0 c).arrAt 6 Cert.Kernel7Ideal.cfg0.N, fun c => (Cert.Kernel7Ideal.Gen.dats m 0 c).arrAt 7 Cert.Kernel7Ideal.cfg0.N,
    Cert.Kernel7Ideal.Value.run_blocks (F := Ideal) m g, ?_⟩
  refine (θ_run Cert.Reference7Ideal.defs _ _).mono (fun r h c => ⟨?_, ?_, (h c).2.2⟩) (Cert.Reference7Ideal.Value.run (F := Ideal) m' g')
  · refine ((h c).1.trans (Cert.Reference7Ideal.At.dx_eq m' c)).trans (Eq.trans ?_ (Cert.Kernel7Ideal.Dn.final_x m c).symm)
    rw [(hargs c).1, (hargs c).2.1, (hargs c).2.2.1, (hargs c).2.2.2.1, (hargs c).2.2.2.2]
    funext i
    rw [ix_eta 8192 1024 i]
    refine (Cert.Reference7Ideal.At.dx_at _ _ _ _ (i 0) (i 1)).trans ?_
    refine (refBack_congr (fun k => hprod c (i 0) k) _ _ _ _).trans ?_
    exact back_eq _ _ _ _ _
  · refine ((h c).2.1).trans (Eq.trans ?_ (Cert.Kernel7Ideal.Dn.final_g m c).symm)
    rw [(hargs c).1, (hargs c).2.1, (hargs c).2.2.1]
    funext i
    rw [ix_eta 1 1024 i]
    refine (Cert.Reference7Ideal.At.dn_at _ _ (i 1) (i 0)).trans ?_
    exact sum_eq _ _ fun k => congrArg (fun p : EReal => p * (Cert.Kernel7Ideal.Dn.mX m c (ix2 k (i 1)) * Cert.Kernel7Ideal.Dn.recAt m c k)) (hprod c k (i 1))

end Cert.Proof

end
-- ==== Proof.LossRow.lean ====
/- THE LOSS OF A ROW: half the mean square of a normed row's distance from its target, and the gradient of the row. -/
module

public import proofs.«01_k».proof.Proof.Norm

@[expose] public section

noncomputable section

namespace Cert.LossRow

open Idealize.ShloMosaic Idealize.ShloMosaic.TcCoe Idealize.SL.Sem Cert.Ffn Cert.Norm

/-- A normed row's distance from its target. -/
def err (f w t : Fin 1024 → EReal) (j : Fin 1024) : EReal := f j * recip f * w j - t j

/-- The mean square of the distance. -/
def meanErr (f w t : Fin 1024 → EReal) : EReal :=
  Ideal.div (∑ k : Fin 1024, err f w t k * err f w t k) (Ideal.ofBits .f32 0x44800000#32)

/-- The loss' derivative by the normed row, as the kernel computes it. -/
def cot (f w t : Fin 1024 → EReal) (j : Fin 1024) : EReal := err f w t j * Ideal.ofBits .f32 0x3A800000#32

/-- The same, as the reference computes it. -/
def refCot (f w t : Fin 1024 → EReal) (j : Fin 1024) : EReal :=
  Ideal.div (Ideal.ofBits .f32 0x3F000000#32 * Ideal.ofBits .f32 0x3F800000#32) (Ideal.ofBits .f32 0x44800000#32)
    * (Ideal.ofBits .f32 0x40000000#32 * err f w t j)

/-- The row's gradient, as the kernel computes it. -/
def grad (f w t : Fin 1024 → EReal) (j : Fin 1024) : EReal :=
  recip f * (cot f w t j * w j - f j * recip f
    * Ideal.div (∑ k : Fin 1024, cot f w t k * w k * (f k * recip f)) (Ideal.ofBits .f32 0x44800000#32))

/-- The row's gradient from a derivative by the normed row, as the reference computes it. -/
def refGrad (P w x : Fin 1024 → EReal) (j : Fin 1024) : EReal :=
  P j * w j * recip x + x j * coef P w x + coef P w x * x j

theorem inv_eq : Ideal.ofBits .f32 0x3A800000#32 = ((1 / 1024 : ℝ) : EReal) := by
  simp [Ideal.ofBits, Ideal.ieee, -EReal.coe_mul]
  norm_num

theorem two_eq : Ideal.ofBits .f32 0x40000000#32 = ((2 : ℝ) : EReal) := by
  simp [Ideal.ofBits, Ideal.ieee, -EReal.coe_mul]
  norm_num

theorem one_eq : Ideal.ofBits .f32 0x3F800000#32 = ((1 : ℝ) : EReal) := by
  simp [Ideal.ofBits, Ideal.ieee, -EReal.coe_mul]
  norm_num

/-- The two derivatives agree. -/
theorem cot_eq (f w t : Fin 1024 → EReal) (j : Fin 1024) : refCot f w t j = cot f w t j := by
  have hh : Ideal.ofBits .f32 0x3F000000#32 = ((1 / 2 : ℝ) : EReal) := half_eq
  unfold refCot cot
  rw [hh, one_eq, two_eq, inv_eq, len_eq, Ideal.div_coe (by norm_num), ← mul_assoc, ← EReal.coe_mul, ← EReal.coe_mul, ← EReal.coe_mul,
    mul_comm]
  refine congrArg (err f w t j * ·) (congrArg _ ?_)
  norm_num

/-- The two gradients agree. -/
theorem grad_eq (f w t : Fin 1024 → EReal) (j : Fin 1024) : refGrad (refCot f w t) w f j = grad f w t j := by
  rw [show refCot f w t = cot f w t from funext fun k => cot_eq f w t k]
  have h := back_eq (cot f w t) w f 0 j
  unfold refBack kerBack at h
  rw [zero_add, zero_add] at h
  exact h

end Cert.LossRow

end
-- ==== Proof.LossDown.lean ====
/- THE LAST DOWN PROJECTION WITH THE LOSS: half of the product added to the layer's input, the norm of the rows, the loss
   added up over the blocks of rows, the gradient of the rows, and the gain's gradient added up over the blocks. -/
module

public import proofs.«01_k».proof.Proof.Gen.Kernel14Ideal.Value
public import proofs.«01_k».proof.Proof.LossRow
public import Idealize.ShloMosaic.Lib.Pipeline.ReadBack

@[expose] public section

set_option maxRecDepth 16384

noncomputable section

namespace Cert.Kernel14Ideal.Loss

open Idealize.ShloMosaic Idealize.ShloMosaic.TcCoe Idealize.SL.Sem
open Idealize.ShloMosaic.Pipeline (Dat)
open Cert.Kernel14Ideal Cert.Kernel14Ideal.Gen Cert.Ffn Cert.Norm Cert.LossRow

theorem idx_a : ∀ t : Fin cfg0.N, win0_0.index t = ![t.val, 0] :=
  (by decide +kernel : ∀ t : Fin grid0.N, win0_0.index t = ![t.val, 0])
theorem idx_b : ∀ t : Fin cfg0.N, win0_1.index t = ![0, 0] :=
  (by decide +kernel : ∀ t : Fin grid0.N, win0_1.index t = ![0, 0])
theorem idx_x : ∀ t : Fin cfg0.N, win0_2.index t = ![t.val, 0] :=
  (by decide +kernel : ∀ t : Fin grid0.N, win0_2.index t = ![t.val, 0])
theorem idx_w : ∀ t : Fin cfg0.N, win0_3.index t = ![0, 0] :=
  (by decide +kernel : ∀ t : Fin grid0.N, win0_3.index t = ![0, 0])
theorem idx_t : ∀ t : Fin cfg0.N, win0_4.index t = ![t.val, 0] :=
  (by decide +kernel : ∀ t : Fin grid0.N, win0_4.index t = ![t.val, 0])
theorem idx_l : ∀ t : Fin cfg0.N, win0_5.index t = ![0, 0] :=
  (by decide +kernel : ∀ t : Fin grid0.N, win0_5.index t = ![0, 0])
theorem idx_o : ∀ t : Fin cfg0.N, win0_6.index t = ![t.val, 0] :=
  (by decide +kernel : ∀ t : Fin grid0.N, win0_6.index t = ![t.val, 0])
theorem idx_g : ∀ t : Fin cfg0.N, win0_7.index t = ![0, 0] :=
  (by decide +kernel : ∀ t : Fin grid0.N, win0_7.index t = ![0, 0])

theorem blk_a (A : S8192x2816.Idx → EReal) (t : Fin cfg0.N) (j : Fin 512) (l : Fin 2816) (h0) :
    ((cfg0.win 0).blk t).view.read (Elt Ideal) A (ix2 j l) = A (ix2 ⟨512 * t.val + j.val, h0⟩ l) := by
  blk_point [idx_a t]
theorem blk_b (A : S2816x1024.Idx → EReal) (t : Fin cfg0.N) (j : Fin 2816) (l : Fin 1024) :
    ((cfg0.win 1).blk t).view.read (Elt Ideal) A (ix2 j l) = A (ix2 j l) := by
  blk_point [idx_b t]
theorem blk_x (A : S8192x1024.Idx → EReal) (t : Fin cfg0.N) (j : Fin 512) (l : Fin 1024) (h0) :
    ((cfg0.win 2).blk t).view.read (Elt Ideal) A (ix2 j l) = A (ix2 ⟨512 * t.val + j.val, h0⟩ l) := by
  blk_point [idx_x t]
theorem blk_w (A : S1x1024.Idx → EReal) (t : Fin cfg0.N) (j : Fin 1) (l : Fin 1024) :
    ((cfg0.win 3).blk t).view.read (Elt Ideal) A (ix2 j l) = A (ix2 j l) := by
  blk_point [idx_w t]
theorem blk_t (A : S8192x1024.Idx → EReal) (t : Fin cfg0.N) (j : Fin 512) (l : Fin 1024) (h0) :
    ((cfg0.win 4).blk t).view.read (Elt Ideal) A (ix2 j l) = A (ix2 ⟨512 * t.val + j.val, h0⟩ l) := by
  blk_point [idx_t t]

variable (a : FVec Ideal S512x2816 .bf16) (b : FVec Ideal S2816x1024 .bf16)
  (p x g : FVec Ideal S512x1024 .f32) (w s : FVec Ideal S1x1024 .f32) (u : FVec Ideal S1x128 .f32)

/-- A block's product, element by element. -/
theorem p_at (i : Fin 512) (j : Fin 1024) : k0_pay3 (F := Ideal) a b (ix2 i j) = ∑ k : Fin 2816, (a (ix2 i k) : EReal) * b (ix2 k j) := by
  pointwise [k0_pay3]

/-- A block's sum, element by element. -/
theorem y_at (i : Fin 512) (j : Fin 1024) : k0_pay6 (F := Ideal) p x (ix2 i j) = (x (ix2 i j) : EReal) + p (ix2 i j) * half := by
  unfold half
  pointwise [k0_pay6]

/-- A block's reciprocal roots, from the block's sums. -/
theorem r_at (i : Fin 512) (j : Fin 1) : k0_pay7 (F := Ideal) p x (ix2 i j) = recip (fun k => k0_pay6 (F := Ideal) p x (ix2 i k)) := by
  unfold recip meanSq
  pointwise [k0_pay7]

/-- A block's rows times their reciprocal roots. -/
theorem h_at (i : Fin 512) (j : Fin 1024) : k0_pay8 (F := Ideal) p x (ix2 i j)
    = (k0_pay6 (F := Ideal) p x (ix2 i j) : EReal) * k0_pay7 (F := Ideal) p x (ix2 i (0 : Fin 1)) := by
  pointwise [k0_pay8]

/-- A block's distances from the target. -/
theorem e_at (i : Fin 512) (j : Fin 1024) : k0_pay9 (F := Ideal) p x w g (ix2 i j)
    = (k0_pay8 (F := Ideal) p x (ix2 i j) : EReal) * w (ix2 (0 : Fin 1) j) - g (ix2 i j) := by
  pointwise [k0_pay9]

/-- A block's derivative by the normed rows. -/
theorem c_at (i : Fin 512) (j : Fin 1024) : k0_pay11 (F := Ideal) p x w g (ix2 i j)
    = (k0_pay9 (F := Ideal) p x w g (ix2 i j) : EReal) * Ideal.ofBits .f32 0x3A800000#32 := by
  pointwise [k0_pay11]

/-- A block's loss, added to what was there. -/
theorem l_at (z : Fin 1) (j : Fin 128) : k0_pay10 (F := Ideal) p x w g u (ix2 z j)
    = (u (ix2 z j) : EReal) + half * ∑ i : Fin 512, Ideal.div
      (∑ k : Fin 1024, (k0_pay9 (F := Ideal) p x w g (ix2 i k) : EReal) * k0_pay9 (F := Ideal) p x w g (ix2 i k)) (Ideal.ofBits .f32 0x44800000#32) := by
  unfold half
  pointwise [k0_pay10]

variable (h e : FVec Ideal S512x1024 .f32) (r : FVec Ideal S512x1 .f32)

/-- A block's part of the gain's gradient, added to what was there. -/
theorem dn_at (z : Fin 1) (j : Fin 1024) : k0_pay4 (F := Ideal) h e (k0_pay12 (F := Ideal) s) (ix2 z j)
    = (s (ix2 z j) : EReal) + ∑ i : Fin 512, (e (ix2 i j) : EReal) * h (ix2 i j) := by
  pointwise [k0_pay4, k0_pay12]

/-- A block's gradient of the rows. -/
theorem dx_at (i : Fin 512) (j : Fin 1024) : k0_pay5 (F := Ideal) w r h e (ix2 i j)
    = (r (ix2 i (0 : Fin 1)) : EReal) * (e (ix2 i j) * w (ix2 (0 : Fin 1) j) - h (ix2 i j)
      * Ideal.div (∑ k : Fin 1024, (e (ix2 i k) : EReal) * w (ix2 (0 : Fin 1) k) * h (ix2 i k)) (Ideal.ofBits .f32 0x44800000#32)) := by
  pointwise [k0_pay5]

theorem g_zero (z : Fin 1) (j : Fin 1024) : k0_pay1 (F := Ideal) (ix2 z j) = (0 : EReal) := by
  pointwise [k0_pay1]

theorem l_zero (z : Fin 1) (j : Fin 128) : k0_pay2 (F := Ideal) (ix2 z j) = (0 : EReal) := by
  pointwise [k0_pay2]

variable (m : (ℓ : Loc nD τ sig) → Buf (Elt Ideal) ℓ)

abbrev mA (c : Dev nD) : S8192x2816.Idx → EReal := m ((c.tc : Thread nD τ).loc main_arg0)
abbrev mB (c : Dev nD) : S2816x1024.Idx → EReal := m ((c.tc : Thread nD τ).loc main_arg1)
abbrev mX (c : Dev nD) : S8192x1024.Idx → EReal := m ((c.tc : Thread nD τ).loc main_arg2)
abbrev mW (c : Dev nD) : S1x1024.Idx → EReal := m ((c.tc : Thread nD τ).loc main_arg3)
abbrev mT (c : Dev nD) : S8192x1024.Idx → EReal := m ((c.tc : Thread nD τ).loc main_arg4)

/-- A row against a column of the two arrays. -/
def dotA (c : Dev nD) (i : Fin 8192) (j : Fin 1024) : EReal := ∑ k : Fin 2816, mA m c (ix2 i k) * mB m c (ix2 k j)

/-- The rows before the norm. -/
def sumAt (c : Dev nD) (i : Fin 8192) (j : Fin 1024) : EReal := mX m c (ix2 i j) + dotA m c i j * half

/-- The gain, and a row's target. -/
def gain (c : Dev nD) (j : Fin 1024) : EReal := mW m c (ix2 (0 : Fin 1) j)
def tgt (c : Dev nD) (i : Fin 8192) (j : Fin 1024) : EReal := mT m c (ix2 i j)

/-- A row's loss. -/
def lossAt (c : Dev nD) (i : Fin 8192) : EReal := half * meanErr (sumAt m c i) (gain m c) (tgt m c i)

/-- A row's term of the gain's gradient. -/
def gainAt (c : Dev nD) (j : Fin 1024) (i : Fin 8192) : EReal :=
  cot (sumAt m c i) (gain m c) (tgt m c i) j * (sumAt m c i j * recip (sumAt m c i))

section Blocks

variable (c : Dev nD) (t : Fin cfg0.N) (i : Fin 512) (j : Fin 1024) (I : Fin 8192) (hI : I.val = 512 * t.val + i.val)
include hI

theorem y_blk : k0_pay6 (F := Ideal) (k0_pay3 (F := Ideal) (iblk m c 0 t) (iblk m c 1 t)) (iblk m c 2 t) (ix2 i j) = sumAt m c I j := by
  have hI' : I = ⟨512 * t.val + i.val, by omega⟩ := Fin.ext hI
  refine (y_at _ _ i j).trans ?_
  unfold sumAt
  refine congrArg₂ (· + ·) (by rw [hI']; exact blk_x (mX m c) t i j _) (congrArg (fun p : EReal => p * half) ((p_at _ _ i j).trans ?_))
  unfold dotA
  exact Finset.sum_congr rfl fun k _ => congrArg₂ (· * ·) (by rw [hI']; exact blk_a (mA m c) t i k _) (blk_b (mB m c) t k j)

theorem r_blk (z : Fin 1) : k0_pay7 (F := Ideal) (k0_pay3 (F := Ideal) (iblk m c 0 t) (iblk m c 1 t)) (iblk m c 2 t) (ix2 i z) = recip (sumAt m c I) :=
  (r_at _ _ i z).trans (congrArg recip (funext fun k => y_blk m c t i k I hI))

theorem h_blk : k0_pay8 (F := Ideal) (k0_pay3 (F := Ideal) (iblk m c 0 t) (iblk m c 1 t)) (iblk m c 2 t) (ix2 i j) = sumAt m c I j * recip (sumAt m c I) :=
  (h_at _ _ i j).trans (congrArg₂ (fun p q : EReal => p * q) (y_blk m c t i j I hI) (r_blk m c t i I hI 0))

theorem e_blk : k0_pay9 (F := Ideal) (k0_pay3 (F := Ideal) (iblk m c 0 t) (iblk m c 1 t)) (iblk m c 2 t) (iblk m c 3 t) (iblk m c 4 t) (ix2 i j) = err (sumAt m c I) (gain m c) (tgt m c I) j := by
  have hI' : I = ⟨512 * t.val + i.val, by omega⟩ := Fin.ext hI
  refine (e_at _ _ _ _ i j).trans ?_
  unfold err
  refine congrArg₂ (fun p q : EReal => p - q) (congrArg₂ (fun p q : EReal => p * q) (h_blk m c t i j I hI) (blk_w (mW m c) t 0 j)) ?_
  unfold tgt
  rw [hI']
  exact blk_t (mT m c) t i j _

theorem c_blk : k0_pay11 (F := Ideal) (k0_pay3 (F := Ideal) (iblk m c 0 t) (iblk m c 1 t)) (iblk m c 2 t) (iblk m c 3 t) (iblk m c 4 t) (ix2 i j) = cot (sumAt m c I) (gain m c) (tgt m c I) j :=
  (c_at _ _ _ _ i j).trans (congrArg (fun p : EReal => p * Ideal.ofBits .f32 0x3A800000#32) (e_blk m c t i j I hI))

/-- A point's gradient of its rows, from the arrays. -/
theorem dx_blk (J : Fin 1024) (hJ : J.val = j.val) : k0_pay5 (F := Ideal) (iblk m c 3 t) (k0_pay7 (F := Ideal) (k0_pay3 (F := Ideal) (iblk m c 0 t) (iblk m c 1 t)) (iblk m c 2 t)) (k0_pay8 (F := Ideal) (k0_pay3 (F := Ideal) (iblk m c 0 t) (iblk m c 1 t)) (iblk m c 2 t)) (k0_pay11 (F := Ideal) (k0_pay3 (F := Ideal) (iblk m c 0 t) (iblk m c 1 t)) (iblk m c 2 t) (iblk m c 3 t) (iblk m c 4 t)) (ix2 i j) = grad (sumAt m c I) (gain m c) (tgt m c I) J := by
  obtain rfl : j = J := (Fin.ext hJ).symm
  refine (dx_at _ _ _ _ i j).trans ?_
  unfold grad
  refine congrArg₂ (fun p q : EReal => p * q) (r_blk m c t i I hI 0) (congrArg₂ (fun p q : EReal => p - q)
    (congrArg₂ (fun p q : EReal => p * q) (c_blk m c t i j I hI) (blk_w (mW m c) t 0 j))
    (congrArg₂ (fun p q : EReal => p * q) (h_blk m c t i j I hI) (congrArg (fun p : EReal => Ideal.div p _) ?_)))
  exact Finset.sum_congr rfl fun k _ => congrArg₂ (fun p q : EReal => p * q)
    (congrArg₂ (fun p q : EReal => p * q) (c_blk m c t i k I hI) (blk_w (mW m c) t 0 k)) (h_blk m c t i k I hI)

/-- A row's mean square distance, from a point's block. -/
theorem m_blk : Ideal.div (∑ k : Fin 1024, (k0_pay9 (F := Ideal) (k0_pay3 (F := Ideal) (iblk m c 0 t) (iblk m c 1 t)) (iblk m c 2 t) (iblk m c 3 t) (iblk m c 4 t) (ix2 i k) : EReal)
      * k0_pay9 (F := Ideal) (k0_pay3 (F := Ideal) (iblk m c 0 t) (iblk m c 1 t)) (iblk m c 2 t) (iblk m c 3 t) (iblk m c 4 t) (ix2 i k)) (Ideal.ofBits .f32 0x44800000#32) = meanErr (sumAt m c I) (gain m c) (tgt m c I) := by
  unfold meanErr
  refine congrArg (fun p : EReal => Ideal.div p _) ?_
  exact Finset.sum_congr rfl fun k _ => congrArg₂ (fun p q : EReal => p * q) (e_blk m c t i k I hI) (e_blk m c t i k I hI)

end Blocks

/-- What a point adds to the gain's gradient. -/
theorem g_blk (c : Dev nD) (t : Fin cfg0.N) (z : Fin 1) (j : Fin 1024) (s : FVec Ideal S1x1024 .f32)
    (hs : s (ix2 z j) = rowsTo (gainAt m c j) (512 * t.val)) : k0_pay4 (F := Ideal) (k0_pay8 (F := Ideal) (k0_pay3 (F := Ideal) (iblk m c 0 t) (iblk m c 1 t)) (iblk m c 2 t)) (k0_pay11 (F := Ideal) (k0_pay3 (F := Ideal) (iblk m c 0 t) (iblk m c 1 t)) (iblk m c 2 t) (iblk m c 3 t) (iblk m c 4 t)) (k0_pay12 (F := Ideal) s) (ix2 z j) = rowsTo (gainAt m c j) (512 * t.val + 512) := by
  refine (dn_at _ _ _ z j).trans ?_
  have ht : t.val < 16 := t.isLt
  rw [rowsTo_add (gainAt m c j) t.val (fun i => gainAt m c j ⟨512 * t.val + i.val, by omega⟩) (fun i => ⟨by omega, rfl⟩)]
  refine congrArg₂ (· + ·) hs ?_
  exact Finset.sum_congr rfl fun i _ => congrArg₂ (· * ·) (c_blk m c t i j ⟨512 * t.val + i.val, by omega⟩ rfl)
    (h_blk m c t i j ⟨512 * t.val + i.val, by omega⟩ rfl)

/-- What a point adds to the loss. -/
theorem l_blk (c : Dev nD) (t : Fin cfg0.N) (z : Fin 1) (j : Fin 128) (u : FVec Ideal S1x128 .f32)
    (hs : u (ix2 z j) = rowsTo (lossAt m c) (512 * t.val)) : k0_pay10 (F := Ideal) (k0_pay3 (F := Ideal) (iblk m c 0 t) (iblk m c 1 t)) (iblk m c 2 t) (iblk m c 3 t) (iblk m c 4 t) u (ix2 z j) = rowsTo (lossAt m c) (512 * t.val + 512) := by
  refine (l_at _ _ _ _ _ z j).trans ?_
  have ht : t.val < 16 := t.isLt
  rw [rowsTo_add (lossAt m c) t.val (fun i => lossAt m c ⟨512 * t.val + i.val, by omega⟩) (fun i => ⟨by omega, rfl⟩)]
  refine congrArg₂ (· + ·) hs ?_
  refine (half_mul_sum Finset.univ _).trans ?_
  exact Finset.sum_congr rfl fun i _ => congrArg (fun p : EReal => half * p) (m_blk m c t i ⟨512 * t.val + i.val, by omega⟩ rfl)

/-- What the gain's window holds after point `n`. -/
abbrev gAt (c : Dev nD) (n : ℕ) (h : n < cfg0.N) : S1x1024.Idx → EReal := (outsAt0 m c n h).2.2

theorem g_A (c : Dev nD) (t : Fin cfg0.N) (h0 : t.val % 16 = 0) :
    gAt m c t.val t.isLt = k0_pay4 (F := Ideal) (k0_pay8 (F := Ideal) (k0_pay3 (F := Ideal) (iblk m c 0 t) (iblk m c 1 t)) (iblk m c 2 t)) (k0_pay11 (F := Ideal) (k0_pay3 (F := Ideal) (iblk m c 0 t) (iblk m c 1 t)) (iblk m c 2 t) (iblk m c 3 t) (iblk m c 4 t)) (k0_pay12 (F := Ideal) (k0_pay1 (F := Ideal))) := by
  unfold gAt
  rw [outsAt0_A m c t h0]
  frame_out

theorem g_B (c : Dev nD) (t : Fin cfg0.N) (h0 : ¬t.val % 16 = 0) :
    gAt m c t.val t.isLt = k0_pay4 (F := Ideal) (k0_pay8 (F := Ideal) (k0_pay3 (F := Ideal) (iblk m c 0 t) (iblk m c 1 t)) (iblk m c 2 t)) (k0_pay11 (F := Ideal) (k0_pay3 (F := Ideal) (iblk m c 0 t) (iblk m c 1 t)) (iblk m c 2 t) (iblk m c 3 t) (iblk m c 4 t)) (k0_pay12 (F := Ideal) (gAt m c (t.val - 1) (Nat.lt_of_le_of_lt (Nat.sub_le _ _) t.isLt))) := by
  unfold gAt
  rw [outsAt0_B m c t h0]
  frame_out

/-- After point `n` it holds the sum over the rows so far. -/
theorem g_at (c : Dev nD) (z : Fin 1) (j : Fin 1024) : ∀ (n : ℕ) (h : n < cfg0.N), gAt m c n h (ix2 z j) = rowsTo (gainAt m c j) (512 * n + 512)
  | 0, h => (congrFun (g_A m c ⟨0, h⟩ rfl) (ix2 z j)).trans (g_blk m c ⟨0, h⟩ z j _ (g_zero z j))
  | n + 1, h => by
    have hn : n + 1 < 16 := h
    refine (congrFun (g_B m c ⟨n + 1, h⟩ (by show ¬(n + 1) % 16 = 0; omega)) (ix2 z j)).trans (g_blk m c ⟨n + 1, h⟩ z j _ ?_)
    exact g_at c z j n (Nat.lt_of_succ_lt h)

/-- What the loss' window holds after point `n`. -/
abbrev lAt (c : Dev nD) (n : ℕ) (h : n < cfg0.N) : S1x128.Idx → EReal := (outsAt0 m c n h).1

theorem l_A (c : Dev nD) (t : Fin cfg0.N) (h0 : t.val % 16 = 0) :
    lAt m c t.val t.isLt = k0_pay10 (F := Ideal) (k0_pay3 (F := Ideal) (iblk m c 0 t) (iblk m c 1 t)) (iblk m c 2 t) (iblk m c 3 t) (iblk m c 4 t) (k0_pay2 (F := Ideal)) := by
  unfold lAt
  rw [outsAt0_A m c t h0]
  frame_out

theorem l_B (c : Dev nD) (t : Fin cfg0.N) (h0 : ¬t.val % 16 = 0) :
    lAt m c t.val t.isLt = k0_pay10 (F := Ideal) (k0_pay3 (F := Ideal) (iblk m c 0 t) (iblk m c 1 t)) (iblk m c 2 t) (iblk m c 3 t) (iblk m c 4 t) (lAt m c (t.val - 1) (Nat.lt_of_le_of_lt (Nat.sub_le _ _) t.isLt)) := by
  unfold lAt
  rw [outsAt0_B m c t h0]
  frame_out

/-- After point `n` it holds the sum over the rows so far. -/
theorem l_at_n (c : Dev nD) (z : Fin 1) (j : Fin 128) : ∀ (n : ℕ) (h : n < cfg0.N), lAt m c n h (ix2 z j) = rowsTo (lossAt m c) (512 * n + 512)
  | 0, h => (congrFun (l_A m c ⟨0, h⟩ rfl) (ix2 z j)).trans (l_blk m c ⟨0, h⟩ z j _ (l_zero z j))
  | n + 1, h => by
    have hn : n + 1 < 16 := h
    refine (congrFun (l_B m c ⟨n + 1, h⟩ (by show ¬(n + 1) % 16 = 0; omega)) (ix2 z j)).trans (l_blk m c ⟨n + 1, h⟩ z j _ ?_)
    exact l_at_n c z j n (Nat.lt_of_succ_lt h)

theorem out_x (c : Dev nD) (t : Fin cfg0.N) : (outsAt0 m c t.val t.isLt).2.1 = k0_pay5 (F := Ideal) (iblk m c 3 t) (k0_pay7 (F := Ideal) (k0_pay3 (F := Ideal) (iblk m c 0 t) (iblk m c 1 t)) (iblk m c 2 t)) (k0_pay8 (F := Ideal) (k0_pay3 (F := Ideal) (iblk m c 0 t) (iblk m c 1 t)) (iblk m c 2 t)) (k0_pay11 (F := Ideal) (k0_pay3 (F := Ideal) (iblk m c 0 t) (iblk m c 1 t)) (iblk m c 2 t) (iblk m c 3 t) (iblk m c 4 t)) := by
  by_cases h0 : t.val % 16 = 0
  · rw [outsAt0_A m c t h0]
    frame_out
  · rw [outsAt0_B m c t h0]
    frame_out

/-- The point that writes an element, and the element's place in the point's block. -/
theorem emb_o (t : Fin cfg0.N) (y : S512x1024.Idx) :
    ((((cfg0.win 6).blk t).view.emb y) 0).val = 512 * t.val + (y 0).val
      ∧ ((((cfg0.win 6).blk t).view.emb y) 1).val = (y 1).val := by
  refine ⟨?_, ?_⟩ <;> blk_simp [idx_o t] <;> try omega

theorem emb_g (t : Fin cfg0.N) (y : S1x1024.Idx) : ((((cfg0.win 7).blk t).view.emb y) 1).val = (y 1).val := by
  blk_simp [idx_g t] <;> try omega

/-- The gradient of the rows, element by element. -/
theorem final_x (c : Dev nD) : (dats m 0 c).arrAt 6 cfg0.N = fun i : S8192x1024.Idx =>
    grad (sumAt m c (i 0)) (gain m c) (tgt m c (i 0)) (i 1) := by
  refine (dats m 0 c).arrAt_eq_of_covers 6 _ (by decide +kernel) fun t hf y => ?_
  obtain ⟨e0, e1⟩ := emb_o t y
  rw [cast_eq]
  generalize hz : (cfg0.win 6).xinj (cfg0.grid.coords t) y = z
  obtain rfl : z = ix2 (n0 := 512) (n1 := 1024) (y 0) (y 1) := hz.symm.trans (ix_eta 512 1024 y)
  rw [after0_6, out_x]
  exact dx_blk m c t (y 0) (y 1) _ e0 _ e1

/-- The gradient of the gain, element by element. -/
theorem final_g (c : Dev nD) : (dats m 0 c).arrAt 7 cfg0.N = fun i : S1x1024.Idx => ∑ k : Fin 8192, gainAt m c (i 1) k := by
  refine (dats m 0 c).arrAt_eq_of_covers 7 _ (by decide +kernel) fun t hf y => ?_
  have e1 := emb_g t y
  have h15 : t.val = 15 := by
    have h := (flush0_7 t).mp hf
    have ht : t.val < 16 := t.isLt
    omega
  rw [cast_eq]
  generalize hz : (cfg0.win 7).xinj (cfg0.grid.coords t) y = z
  obtain rfl : z = ix2 (n0 := 1) (n1 := 1024) (y 0) (y 1) := hz.symm.trans (ix_eta 1 1024 y)
  rw [after0_7]
  have hJ : (((cfg0.win 7).blk t).view.emb y) 1 = y 1 := Fin.ext e1
  refine (g_at m c (y 0) (y 1) t.val t.isLt).trans ?_
  rw [h15]
  refine (rowsTo_all _).trans ?_
  exact congrArg (fun j => ∑ k : Fin 8192, gainAt m c j k) hJ.symm

/-- The loss, in every lane. -/
theorem final_l (c : Dev nD) : (dats m 0 c).arrAt 5 cfg0.N = fun i : S1x128.Idx => ∑ k : Fin 8192, lossAt m c k := by
  refine (dats m 0 c).arrAt_eq_of_covers 5 _ (by decide +kernel) fun t hf y => ?_
  have h15 : t.val = 15 := by
    have h := (flush0_5 t).mp hf
    have ht : t.val < 16 := t.isLt
    omega
  rw [cast_eq]
  generalize hz : (cfg0.win 5).xinj (cfg0.grid.coords t) y = z
  obtain rfl : z = ix2 (n0 := 1) (n1 := 128) (y 0) (y 1) := hz.symm.trans (ix_eta 1 128 y)
  rw [after0_5]
  refine (l_at_n m c (y 0) (y 1) t.val t.isLt).trans ?_
  rw [h15]
  exact rowsTo_all _

end Cert.Kernel14Ideal.Loss

end
-- ==== Proof.LossEqual.lean ====
/- THE DOWN PROJECTION WITH THE LOSS: the reference's loss, its gradient of the rows and of the gain element by element, the
   kernel's equal to them, and the programs' frames. -/
module

public import proofs.«01_k».proof.Proof.LossDown
public import proofs.«01_k».proof.Proof.Gen.Reference14Ideal.Run
public import proofs.«01_k».proof.Proof.Gen.Kernel14.Frame
public import proofs.«01_k».proof.Defs

@[expose] public section

set_option maxRecDepth 16384

noncomputable section

namespace Cert.Reference14Ideal.At

open Idealize.ShloMosaic Idealize.ShloMosaic.TcCoe Idealize.SL.Sem
open Cert.Reference14Ideal Cert.Reference14Ideal.Gen Cert.Ffn Cert.Norm Cert.LossRow

/-- The reference's rows before the norm. -/
abbrev sumArr (a : FVec Ideal S8192x2816 .bf16) (c : FVec Ideal S2816x1024 .bf16) (x : FVec Ideal S8192x1024 .f32) : FVec Ideal S8192x1024 .f32 :=
  addf x (mulf (broadcastInDim S8192x1024 ![] bcast_S_S8192x1024 (constant S_ .f32 0x3F000000#32))
    (Host.dotGeneral dot_S8192x2816_S2816x1024_S8192x1024_1_0_0_1_n_n none (extf .f32 a bitsLt_bf16_f32) (extf .f32 c bitsLt_bf16_f32)))

theorem sum_at (a : FVec Ideal S8192x2816 .bf16) (c : FVec Ideal S2816x1024 .bf16) (x : FVec Ideal S8192x1024 .f32)
    (i : Fin 8192) (j : Fin 1024) : sumArr a c x (ix2 i j)
    = (x (ix2 i j) : EReal) + (∑ k : Fin 2816, (a (ix2 i k) : EReal) * c (ix2 k j)) * half := by
  rw [mul_comm _ half]
  unfold half
  pointwise

section Rows

variable (P x t : FVec Ideal S8192x1024 .f32) (w : FVec Ideal S1x1024 .f32)

/-- The rows' mean squares and their reciprocal roots. -/
abbrev msArr : FVec Ideal S8192x1 .f32 :=
  addf (Host.divf (broadcastInDim S8192x1 ![0] bcast_S8192_S8192x1_0 (Host.reduceAdd (mulf x x) (constant S_ .f32 0x00000000#32)
    reducesTo_S8192x1024_S8192_d1 h_S_)) (broadcastInDim S8192x1 ![] bcast_S_S8192x1 (constant S_ .f32 0x44800000#32)))
    (broadcastInDim S8192x1 ![] bcast_S_S8192x1 (constant S_ .f32 0x358637BD#32))
abbrev rArr : FVec Ideal S8192x1 .f32 := Host.rsqrt (msArr x)

/-- The rows times their reciprocal roots. -/
abbrev hArr : FVec Ideal S8192x1024 .f32 :=
  mulf x (broadcastInDim S8192x1024 ![0, 1] bcast_S8192x1_S8192x1024_0_1 (rArr x))

/-- The distances from the target. -/
abbrev eArr : FVec Ideal S8192x1024 .f32 :=
  subf (mulf (hArr x) (broadcastInDim S8192x1024 ![0, 1] bcast_S1x1024_S8192x1024_0_1 w)) t

/-- The derivative by the normed rows, from the distances. -/
abbrev cotArr (e : FVec Ideal S8192x1024 .f32) : FVec Ideal S8192x1024 .f32 :=
  mulf (broadcastInDim S8192x1024 ![0] bcast_S8192_S8192x1024_0
      (Host.divf (broadcastInDim S8192 ![] bcast_S_S8192 (mulf (constant S_ .f32 0x3F000000#32) (constant S_ .f32 0x3F800000#32)))
        (broadcastInDim S8192 ![] bcast_S_S8192 (constant S_ .f32 0x44800000#32))))
    (mulf (broadcastInDim S8192x1024 ![] bcast_S_S8192x1024 (constant S_ .f32 0x40000000#32)) e)

/-- The loss, from the distances. -/
abbrev lossArr (e : FVec Ideal S8192x1024 .f32) : FVec Ideal S1x128 .f32 :=
  broadcastInDim S1x128 ![] bcast_S_S1x128 (mulf (constant S_ .f32 0x3F000000#32)
    (Host.reduceAdd (Host.divf (Host.reduceAdd (mulf e e) (constant S_ .f32 0x00000000#32) reducesTo_S8192x1024_S8192_d1 h_S_)
      (broadcastInDim S8192 ![] bcast_S_S8192 (constant S_ .f32 0x44800000#32))) (constant S_ .f32 0x00000000#32) reducesTo_S8192_S_d0 h_S_))

/-- The coefficient of each row's input. -/
abbrev coefArr : FVec Ideal S8192 .f32 :=
  Host.reduceAdd (Host.divf (mulf (shapeCast _ (Host.reduceAdd (mulf x (mulf P (broadcastInDim S8192x1024 ![0, 1] bcast_S1x1024_S8192x1024_0_1 w)))
      (constant S_ .f32 0x00000000#32) reducesTo_S8192x1024_S8192_d1 h_S_) shapeCasts_S8192_S8192x1)
      (mulf (broadcastInDim S8192x1 ![] bcast_S_S8192x1 (constant S_ .f32 0xBF000000#32)) (Host.divf (rArr x) (msArr x))))
      (broadcastInDim S8192x1 ![] bcast_S_S8192x1 (constant S_ .f32 0x44800000#32)))
    (constant S_ .f32 0x00000000#32) reducesTo_S8192x1_S8192_d1 h_S_

/-- The gradient of the rows. -/
abbrev dxArr : FVec Ideal S8192x1024 .f32 :=
  addf (addf (mulf (mulf P (broadcastInDim S8192x1024 ![0, 1] bcast_S1x1024_S8192x1024_0_1 w))
      (broadcastInDim S8192x1024 ![0, 1] bcast_S8192x1_S8192x1024_0_1 (rArr x)))
    (mulf x (broadcastInDim S8192x1024 ![0] bcast_S8192_S8192x1024_0 (coefArr P x w))))
    (mulf (broadcastInDim S8192x1024 ![0] bcast_S8192_S8192x1024_0 (coefArr P x w)) x)

/-- The gradient of the gain. -/
abbrev dnArr : FVec Ideal S1x1024 .f32 :=
  shapeCast _ (Host.reduceAdd (mulf (hArr x) P) (constant S_ .f32 0x00000000#32) reducesTo_S8192x1024_S1024_d0 h_S_) shapeCasts_S1024_S1x1024

theorem e_at (i : Fin 8192) (j : Fin 1024) : eArr x t w (ix2 i j)
    = err (fun k => x (ix2 i k)) (fun k => w (ix2 (0 : Fin 1) k)) (fun k => t (ix2 i k)) j := by
  unfold err recip meanSq
  pointwise

theorem cot_at (e : FVec Ideal S8192x1024 .f32) (i : Fin 8192) (j : Fin 1024) : cotArr e (ix2 i j)
    = Ideal.div (Ideal.ofBits .f32 0x3F000000#32 * Ideal.ofBits .f32 0x3F800000#32) (Ideal.ofBits .f32 0x44800000#32)
      * (Ideal.ofBits .f32 0x40000000#32 * (e (ix2 i j) : EReal)) := by
  pointwise

theorem loss_at (e : FVec Ideal S8192x1024 .f32) (z : Fin 1) (j : Fin 128) : lossArr e (ix2 z j)
    = half * ∑ i : Fin 8192, Ideal.div (∑ k : Fin 1024, (e (ix2 i k) : EReal) * e (ix2 i k)) (Ideal.ofBits .f32 0x44800000#32) := by
  unfold half
  pointwise

theorem dn_at (j : Fin 1024) (z : Fin 1) : dnArr P x (ix2 z j)
    = ∑ i : Fin 8192, (P (ix2 i j) : EReal) * (x (ix2 i j) * recip (fun k => x (ix2 i k))) := by
  refine Eq.trans (b := ∑ i : Fin 8192, (x (ix2 i j) : EReal) * recip (fun k => x (ix2 i k)) * P (ix2 i j)) ?_
    (Finset.sum_congr rfl fun i _ => mul_comm _ _)
  unfold recip meanSq
  pointwise

theorem dx_at (i : Fin 8192) (j : Fin 1024) : dxArr P x w (ix2 i j)
    = refGrad (fun k => P (ix2 i k)) (fun k => w (ix2 (0 : Fin 1) k)) (fun k => x (ix2 i k)) j := by
  unfold refGrad coef recip meanSq
  pointwise

end Rows

/-- The reference's gradient of the rows is this array. -/
theorem dx_eq (m : (ℓ : Loc nD τ sig) → Buf (Elt Ideal) ℓ) (c : Dev nD) :
    Cert.Reference14Ideal.Value.res_main_v54 (F := Ideal) m c = dxArr (cotArr (eArr (sumArr (m ((c.tc : Thread nD τ).loc main_arg0)) (m ((c.tc : Thread nD τ).loc main_arg1)) (m ((c.tc : Thread nD τ).loc main_arg2))) (m ((c.tc : Thread nD τ).loc main_arg4)) (m ((c.tc : Thread nD τ).loc main_arg3))))
      (sumArr (m ((c.tc : Thread nD τ).loc main_arg0)) (m ((c.tc : Thread nD τ).loc main_arg1)) (m ((c.tc : Thread nD τ).loc main_arg2))) (m ((c.tc : Thread nD τ).loc main_arg3)) := by
  unfold Cert.Reference14Ideal.Value.res_main_v54
  rfl

end Cert.Reference14Ideal.At

namespace Cert.Proof

open Idealize.ShloMosaic Idealize.ShloMosaic.TcCoe Idealize.SL.Sem Cert.Ffn Cert.Norm Cert.LossRow

theorem frame_kernel14 : Cert.quiescent_Kernel14 (hKernel14 := Cert.Kernel14.Gen.facts) :=
  fun m ρ _ => Cert.Kernel14.Gen.frame m ρ

theorem frame_kernel14Ideal : Cert.quiescent_Kernel14Ideal (hKernel14Ideal := Cert.Kernel14Ideal.Gen.facts) :=
  fun m ρ _ => Cert.Kernel14Ideal.Gen.frame m ρ

theorem frame_reference14Ideal :
    Cert.quiescent_Reference14Ideal (hReference14Ideal := Cert.Reference14Ideal.Gen.facts) := by
  intro m ρ _
  exact (θ_run Cert.Reference14Ideal.defs _ _).mono (fun r h => ⟨fun c => (h c).2.2.2,
      Idealize.ShloMosaic.sem_eq_zero_of_no_sems (by decide) r.2⟩)
    (Cert.Reference14Ideal.Value.run (F := Ideal) m ρ)

section Loss

variable (m : (ℓ : Loc Cert.Kernel14Ideal.nD Cert.Kernel14Ideal.τ Cert.Kernel14Ideal.sig) → Buf (Elt Ideal) ℓ) (c : Dev Cert.Kernel14Ideal.nD)

/-- The reference's rows and distances, from the kernel's arguments. -/
abbrev lossSum : FVec Ideal Cert.Reference14Ideal.S8192x1024 .f32 := Cert.Reference14Ideal.At.sumArr (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))
abbrev lossErr : FVec Ideal Cert.Reference14Ideal.S8192x1024 .f32 := Cert.Reference14Ideal.At.eArr (lossSum m c) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg3))

theorem loss_sum (i : Fin 8192) : (fun k : Fin 1024 => (lossSum m c (ix2 i k) : EReal)) = Cert.Kernel14Ideal.Loss.sumAt m c i :=
  funext fun k => Cert.Reference14Ideal.At.sum_at _ _ _ i k

theorem loss_err (i : Fin 8192) (j : Fin 1024) :
    lossErr m c (ix2 i j) = err (Cert.Kernel14Ideal.Loss.sumAt m c i) (Cert.Kernel14Ideal.Loss.gain m c) (Cert.Kernel14Ideal.Loss.tgt m c i) j := by
  refine (Cert.Reference14Ideal.At.e_at _ _ _ i j).trans ?_
  exact congrArg (fun f => err f (Cert.Kernel14Ideal.Loss.gain m c) (Cert.Kernel14Ideal.Loss.tgt m c i) j) (loss_sum m c i)

theorem loss_cot (i : Fin 8192) (j : Fin 1024) :
    Cert.Reference14Ideal.At.cotArr (lossErr m c) (ix2 i j) = refCot (Cert.Kernel14Ideal.Loss.sumAt m c i) (Cert.Kernel14Ideal.Loss.gain m c) (Cert.Kernel14Ideal.Loss.tgt m c i) j := by
  refine (Cert.Reference14Ideal.At.cot_at _ i j).trans ?_
  unfold refCot
  exact congrArg (fun p : EReal => Ideal.div (Ideal.ofBits .f32 0x3F000000#32 * Ideal.ofBits .f32 0x3F800000#32) (Ideal.ofBits .f32 0x44800000#32)
    * (Ideal.ofBits .f32 0x40000000#32 * p)) (loss_err m c i j)

/-- The loss of the reference is the sum of the rows' losses. -/
theorem loss_all (z : Fin 1) (j : Fin 128) : Cert.Reference14Ideal.At.lossArr (lossErr m c) (ix2 z j) = ∑ k : Fin 8192, Cert.Kernel14Ideal.Loss.lossAt m c k := by
  refine (Cert.Reference14Ideal.At.loss_at _ z j).trans ((half_mul_sum Finset.univ _).trans ?_)
  refine Finset.sum_congr rfl fun k _ => congrArg (fun p : EReal => half * p) ?_
  unfold meanErr
  refine congrArg (fun p : EReal => Ideal.div p _) ?_
  exact Finset.sum_congr rfl fun l _ => congrArg₂ (fun p q : EReal => p * q) (loss_err m c k l) (loss_err m c k l)

/-- The reference's gradient of the rows is the kernel's. -/
theorem loss_dx (i : Fin 8192) (j : Fin 1024) : Cert.Reference14Ideal.At.dxArr (Cert.Reference14Ideal.At.cotArr (lossErr m c)) (lossSum m c) (m ((c.tc : Thread Cert.Kernel14Ideal.nD Cert.Kernel14Ideal.τ).loc Cert.Kernel14Ideal.main_arg3)) (ix2 i j)
    = grad (Cert.Kernel14Ideal.Loss.sumAt m c i) (Cert.Kernel14Ideal.Loss.gain m c) (Cert.Kernel14Ideal.Loss.tgt m c i) j := by
  refine (Cert.Reference14Ideal.At.dx_at _ _ _ i j).trans ?_
  refine Eq.trans ?_ (grad_eq (Cert.Kernel14Ideal.Loss.sumAt m c i) (Cert.Kernel14Ideal.Loss.gain m c) (Cert.Kernel14Ideal.Loss.tgt m c i) j)
  exact congrArg₂ (fun p f => refGrad p (Cert.Kernel14Ideal.Loss.gain m c) f j) (funext fun k => loss_cot m c i k) (loss_sum m c i)

/-- The reference's gradient of the gain is the kernel's. -/
theorem loss_gain (z : Fin 1) (j : Fin 1024) : Cert.Reference14Ideal.At.dnArr (Cert.Reference14Ideal.At.cotArr (lossErr m c)) (lossSum m c) (ix2 z j)
    = ∑ k : Fin 8192, Cert.Kernel14Ideal.Loss.gainAt m c j k := by
  refine (Cert.Reference14Ideal.At.dn_at _ _ j z).trans ?_
  refine Finset.sum_congr rfl fun k _ => ?_
  unfold Cert.Kernel14Ideal.Loss.gainAt
  refine congrArg₂ (fun p q : EReal => p * q) ((loss_cot m c k j).trans (cot_eq _ _ _ j)) ?_
  exact congrArg (fun f : Fin 1024 → EReal => f j * recip f) (loss_sum m c k)

end Loss

/-- The down projection with the loss: from equal arguments, both programs end with the same loss and the same gradients. -/
theorem algebraic14 : Cert.algebraic_Kernel14Ideal_Reference14Ideal (hKernel14Ideal := Cert.Kernel14Ideal.Gen.facts)
    (hReference14Ideal := Cert.Reference14Ideal.Gen.facts) := by
  intro m g m' g' _ hargs
  refine ⟨fun c => (Cert.Kernel14Ideal.Gen.dats m 0 c).arrAt 5 Cert.Kernel14Ideal.cfg0.N, fun c => (Cert.Kernel14Ideal.Gen.dats m 0 c).arrAt 6 Cert.Kernel14Ideal.cfg0.N,
    fun c => (Cert.Kernel14Ideal.Gen.dats m 0 c).arrAt 7 Cert.Kernel14Ideal.cfg0.N, Cert.Kernel14Ideal.Value.run_blocks (F := Ideal) m g, ?_⟩
  refine (θ_run Cert.Reference14Ideal.defs _ _).mono (fun r h c => ⟨?_, ?_, ?_, (h c).2.2.2⟩) (Cert.Reference14Ideal.Value.run (F := Ideal) m' g')
  · refine ((h c).1).trans (Eq.trans ?_ (Cert.Kernel14Ideal.Loss.final_l m c).symm)
    rw [(hargs c).1, (hargs c).2.1, (hargs c).2.2.1, (hargs c).2.2.2.1, (hargs c).2.2.2.2]
    funext i
    rw [ix_eta 1 128 i]
    exact loss_all m c (i 0) (i 1)
  · refine ((h c).2.1.trans (Cert.Reference14Ideal.At.dx_eq m' c)).trans (Eq.trans ?_ (Cert.Kernel14Ideal.Loss.final_x m c).symm)
    rw [(hargs c).1, (hargs c).2.1, (hargs c).2.2.1, (hargs c).2.2.2.1, (hargs c).2.2.2.2]
    funext i
    rw [ix_eta 8192 1024 i]
    exact loss_dx m c (i 0) (i 1)
  · refine ((h c).2.2.1).trans (Eq.trans ?_ (Cert.Kernel14Ideal.Loss.final_g m c).symm)
    rw [(hargs c).1, (hargs c).2.1, (hargs c).2.2.1, (hargs c).2.2.2.1, (hargs c).2.2.2.2]
    funext i
    rw [ix_eta 1 1024 i]
    exact loss_gain m c (i 0) (i 1)

end Cert.Proof

end
-- ==== Proof.Up.lean ====
/- THE GATE AND UP PRODUCTS OF THE FEED-FORWARD LAYER: what the kernel leaves in its three results, element by
   element, read from the arrays it is called on. -/
module

public import proofs.«01_k».proof.Proof.Gen.Kernel4Ideal.Value
public import proofs.«01_k».proof.Proof.Ffn

@[expose] public section

set_option maxRecDepth 16384

noncomputable section

namespace Cert.Kernel4Ideal.Up

open Idealize.ShloMosaic Idealize.ShloMosaic.TcCoe Idealize.SL.Sem
open Idealize.ShloMosaic.Pipeline (Dat)
open Cert.Kernel4Ideal Cert.Kernel4Ideal.Gen Cert.Ffn

theorem hz : (![0, 0] : Fin 2 → Nat) = fun _ => 0 := funext fun a => by fin_cases a <;> rfl

theorem idx_n : ∀ t : Fin cfg0.N, win0_0.index t = ![t.val % 16, 0] :=
  (by decide +kernel : ∀ t : Fin grid0.N, win0_0.index t = ![t.val % 16, 0])
theorem idx_w : ∀ t : Fin cfg0.N, win0_1.index t = ![t.val / 16, 0] :=
  (by decide +kernel : ∀ t : Fin grid0.N, win0_1.index t = ![t.val / 16, 0])
theorem idx_w' : ∀ t : Fin cfg0.N, win0_2.index t = ![t.val / 16, 0] :=
  (by decide +kernel : ∀ t : Fin grid0.N, win0_2.index t = ![t.val / 16, 0])

theorem idx_o3 : ∀ t : Fin cfg0.N, win0_3.index t = ![t.val % 16, t.val / 16] :=
  (by decide +kernel : ∀ t : Fin grid0.N, win0_3.index t = ![t.val % 16, t.val / 16])
theorem idx_o4 : ∀ t : Fin cfg0.N, win0_4.index t = ![t.val % 16, t.val / 16] :=
  (by decide +kernel : ∀ t : Fin grid0.N, win0_4.index t = ![t.val % 16, t.val / 16])
theorem idx_o5 : ∀ t : Fin cfg0.N, win0_5.index t = ![t.val % 16, t.val / 16] :=
  (by decide +kernel : ∀ t : Fin grid0.N, win0_5.index t = ![t.val % 16, t.val / 16])

theorem blk_n (A : S8192x1024.Idx → EReal) (t : Fin cfg0.N) (j : Fin 512) (l : Fin 1024) (h0) (h1) :
    ((cfg0.win 0).blk t).view.read (Elt Ideal) A (ix2 j l) = A (ix2 ⟨512 * (t.val % 16) + j.val, h0⟩ ⟨l.val, h1⟩) := by
  blk_point [idx_n t]
theorem blk_w (A : S2816x1024.Idx → EReal) (t : Fin cfg0.N) (j : Fin 1408) (l : Fin 1024) (h0) (h1) :
    ((cfg0.win 1).blk t).view.read (Elt Ideal) A (ix2 j l) = A (ix2 ⟨1408 * (t.val / 16) + j.val, h0⟩ ⟨l.val, h1⟩) := by
  blk_point [idx_w t]
theorem blk_w' (A : S2816x1024.Idx → EReal) (t : Fin cfg0.N) (j : Fin 1408) (l : Fin 1024) (h0) (h1) :
    ((cfg0.win 2).blk t).view.read (Elt Ideal) A (ix2 j l) = A (ix2 ⟨1408 * (t.val / 16) + j.val, h0⟩ ⟨l.val, h1⟩) := by
  blk_point [idx_w' t]

section Point
variable (x : FVec Ideal S512x1024 .bf16) (w w' : FVec Ideal S1408x1024 .bf16) (i : Fin 512) (j : Fin 1408)

theorem prod_at : k0_pay1 (F := Ideal) x w (ix2 i j) = rowDot 512 1408 x w i j := by
  unfold rowDot
  pointwise [k0_pay1]

theorem gate_at : out0_3 (F := Ideal) x w w' (ix2 i j) = rowDot 512 1408 x w i j := by
  unfold out0_3 r0_0 r0_1 r0_2
  simp only [View.canon_unit_zero (S := S512x1408) hz, View.ld_unit_zero (S := S512x1024) hz, View.ld_unit_zero (S := S1408x1024) hz]
  exact prod_at x w i j

theorem up_at : out0_4 (F := Ideal) x w w' (ix2 i j) = rowDot 512 1408 x w' i j := by
  unfold out0_4 r0_0 r0_1 r0_2
  simp only [View.canon_unit_zero (S := S512x1408) hz, View.ld_unit_zero (S := S512x1024) hz, View.ld_unit_zero (S := S1408x1024) hz]
  exact prod_at x w' i j

theorem act_at : out0_5 (F := Ideal) x w w' (ix2 i j)
    = rowDot 512 1408 x w i j * logi (rowDot 512 1408 x w i j) * rowDot 512 1408 x w' i j := by
  unfold out0_5 r0_0 r0_1 r0_2
  simp only [View.canon_unit_zero (S := S512x1408) hz, View.ld_unit_zero (S := S512x1024) hz, View.ld_unit_zero (S := S1408x1024) hz]
  have e1 := prod_at x w i j
  have e2 : k0_pay2 (F := Ideal) x w' (ix2 i j) = rowDot 512 1408 x w' i j := prod_at x w' i j
  rw [← e1, ← e2]
  unfold logi
  rw [← zero_sub (k0_pay1 (F := Ideal) x w (ix2 i j) : EReal)]
  pointwise [k0_pay5]
end Point

/-- The point that writes a result's element, and the element's place in the point's block. -/
theorem emb_val (t : Fin cfg0.N) (y : S512x1408.Idx) :
    ((((cfg0.win 3).blk t).view.emb y) 0).val = 512 * (t.val % 16) + (y 0).val
      ∧ ((((cfg0.win 3).blk t).view.emb y) 1).val = 1408 * (t.val / 16) + (y 1).val
      ∧ ((((cfg0.win 4).blk t).view.emb y) 0).val = 512 * (t.val % 16) + (y 0).val
      ∧ ((((cfg0.win 4).blk t).view.emb y) 1).val = 1408 * (t.val / 16) + (y 1).val
      ∧ ((((cfg0.win 5).blk t).view.emb y) 0).val = 512 * (t.val % 16) + (y 0).val
      ∧ ((((cfg0.win 5).blk t).view.emb y) 1).val = 1408 * (t.val / 16) + (y 1).val := by
  refine ⟨?_, ?_, ?_, ?_, ?_, ?_⟩ <;> blk_simp [idx_o3 t, idx_o4 t, idx_o5 t] <;> try omega

/-- A row against a row, both read from the point's blocks. -/
theorem dot_blk (A : S8192x1024.Idx → EReal) (W : S2816x1024.Idx → EReal) (t : Fin cfg0.N) (i : Fin 512) (j : Fin 1408)
    (I : Fin 8192) (J : Fin 2816) (hI : I.val = 512 * (t.val % 16) + i.val) (hJ : J.val = 1408 * (t.val / 16) + j.val) :
    rowDot 512 1408 (((cfg0.win 0).blk t).view.read (Elt Ideal) A) (((cfg0.win 1).blk t).view.read (Elt Ideal) W) i j
      = rowDot 8192 2816 A W I J := by
  unfold rowDot
  refine Finset.sum_congr rfl fun k _ => ?_
  have hI' : I = ⟨512 * (t.val % 16) + i.val, by omega⟩ := Fin.ext hI
  have hJ' : J = ⟨1408 * (t.val / 16) + j.val, by omega⟩ := Fin.ext hJ
  rw [hI', hJ']
  exact congrArg₂ (· * ·) (blk_n A t i k _ k.isLt) (blk_w W t j k _ k.isLt)

theorem dot_blk' (A : S8192x1024.Idx → EReal) (W : S2816x1024.Idx → EReal) (t : Fin cfg0.N) (i : Fin 512) (j : Fin 1408)
    (I : Fin 8192) (J : Fin 2816) (hI : I.val = 512 * (t.val % 16) + i.val) (hJ : J.val = 1408 * (t.val / 16) + j.val) :
    rowDot 512 1408 (((cfg0.win 0).blk t).view.read (Elt Ideal) A) (((cfg0.win 2).blk t).view.read (Elt Ideal) W) i j
      = rowDot 8192 2816 A W I J := by
  unfold rowDot
  refine Finset.sum_congr rfl fun k _ => ?_
  have hI' : I = ⟨512 * (t.val % 16) + i.val, by omega⟩ := Fin.ext hI
  have hJ' : J = ⟨1408 * (t.val / 16) + j.val, by omega⟩ := Fin.ext hJ
  rw [hI', hJ']
  exact congrArg₂ (· * ·) (blk_n A t i k _ k.isLt) (blk_w' W t j k _ k.isLt)

variable (m : (ℓ : Loc nD τ sig) → Buf (Elt Ideal) ℓ)

abbrev aN (c : Dev nD) : S8192x1024.Idx → EReal := m ((c.tc : Thread nD τ).loc main_arg0)
abbrev aG (c : Dev nD) : S2816x1024.Idx → EReal := m ((c.tc : Thread nD τ).loc main_arg1)
abbrev aU (c : Dev nD) : S2816x1024.Idx → EReal := m ((c.tc : Thread nD τ).loc main_arg2)

/-- The gate product, element by element. -/
theorem gate_final (c : Dev nD) : (dats m 0 c).arrAt 3 cfg0.N = fun i : S8192x2816.Idx =>
    rowDot 8192 2816 (aN m c) (aG m c) (i 0) (i 1) := by
  refine (dats m 0 c).arrAt_eq_of_covers 3 _ (by decide +kernel) fun t hf y => ?_
  obtain ⟨e0, e1, -, -, -, -⟩ := emb_val t y
  rw [cast_eq]
  generalize hz : (cfg0.win 3).xinj (cfg0.grid.coords t) y = z
  obtain rfl : z = ix2 (n0 := 512) (n1 := 1408) (y 0) (y 1) := hz.symm.trans (ix_eta 512 1408 y)
  rw [after0_3]
  refine Eq.trans (gate_at _ _ _ _ _) ?_
  exact dot_blk (aN m c) (aG m c) t (y 0) (y 1) _ _ e0 e1

/-- The up product, element by element. -/
theorem up_final (c : Dev nD) : (dats m 0 c).arrAt 4 cfg0.N = fun i : S8192x2816.Idx =>
    rowDot 8192 2816 (aN m c) (aU m c) (i 0) (i 1) := by
  refine (dats m 0 c).arrAt_eq_of_covers 4 _ (by decide +kernel) fun t hf y => ?_
  obtain ⟨-, -, e0, e1, -, -⟩ := emb_val t y
  rw [cast_eq]
  generalize hz : (cfg0.win 4).xinj (cfg0.grid.coords t) y = z
  obtain rfl : z = ix2 (n0 := 512) (n1 := 1408) (y 0) (y 1) := hz.symm.trans (ix_eta 512 1408 y)
  rw [after0_4]
  refine Eq.trans (up_at _ _ _ _ _) ?_
  exact dot_blk' (aN m c) (aU m c) t (y 0) (y 1) _ _ e0 e1

/-- The gated activation, element by element. -/
theorem act_final (c : Dev nD) : (dats m 0 c).arrAt 5 cfg0.N = fun i : S8192x2816.Idx =>
    rowDot 8192 2816 (aN m c) (aG m c) (i 0) (i 1) * logi (rowDot 8192 2816 (aN m c) (aG m c) (i 0) (i 1))
      * rowDot 8192 2816 (aN m c) (aU m c) (i 0) (i 1) := by
  refine (dats m 0 c).arrAt_eq_of_covers 5 _ (by decide +kernel) fun t hf y => ?_
  obtain ⟨-, -, -, -, e0, e1⟩ := emb_val t y
  rw [cast_eq]
  generalize hz : (cfg0.win 5).xinj (cfg0.grid.coords t) y = z
  obtain rfl : z = ix2 (n0 := 512) (n1 := 1408) (y 0) (y 1) := hz.symm.trans (ix_eta 512 1408 y)
  rw [after0_5]
  refine Eq.trans (act_at _ _ _ _ _) ?_
  exact congrArg₂ (fun a b : EReal => a * logi a * b) (dot_blk (aN m c) (aG m c) t (y 0) (y 1) _ _ e0 e1)
    (dot_blk' (aN m c) (aU m c) t (y 0) (y 1) _ _ e0 e1)

end Cert.Kernel4Ideal.Up

end
-- ==== Proof.UpEqual.lean ====
/- THE GATE AND UP PRODUCTS: the reference's three results element by element, and the kernel's equal to them. -/
module

public import proofs.«01_k».proof.Proof.Up
public import proofs.«01_k».proof.Proof.Gen.Reference4Ideal.Run
public import proofs.«01_k».proof.Proof.Gen.Kernel4.Frame
public import proofs.«01_k».proof.Defs

@[expose] public section

set_option maxRecDepth 16384

noncomputable section

namespace Cert.Reference4Ideal.At

open Idealize.ShloMosaic Idealize.ShloMosaic.TcCoe Idealize.SL.Sem
open Cert.Reference4Ideal Cert.Reference4Ideal.Gen Cert.Ffn

variable (x : FVec Ideal S8192x1024 .bf16) (w w' : FVec Ideal S2816x1024 .bf16)

/-- The reference's product of `x` and the transpose of `w`. -/
abbrev prod (x : FVec Ideal S8192x1024 .bf16) (w : FVec Ideal S2816x1024 .bf16) : FVec Ideal S8192x2816 .f32 :=
  Host.dotGeneral dot_S8192x1024_S1024x2816_S8192x2816_1_0_0_1_n_n none (extf .f32 x bitsLt_bf16_f32)
    (transpose S1024x2816 [1, 0] (extf .f32 w bitsLt_bf16_f32) transposes_S2816x1024_S1024x2816_1_0)

/-- The reference's logistic function of an array. -/
abbrev logiArr (g : FVec Ideal S8192x2816 .f32) : FVec Ideal S8192x2816 .f32 :=
  Host.divf (broadcastInDim S8192x2816 ![] bcast_S_S8192x2816 (constant S_ .f32 0x3F800000#32))
    (addf (broadcastInDim S8192x2816 ![] bcast_S_S8192x2816 (constant S_ .f32 0x3F800000#32)) (Host.exp (Host.negf g)))

theorem prod_at (i : Fin 8192) (j : Fin 2816) : prod x w (ix2 i j) = rowDot 8192 2816 x w i j := by
  unfold rowDot
  pointwise

theorem gate_at (i : Fin 8192) (j : Fin 2816) : truncf .bf16 (prod x w) bitsLt_bf16_f32 (ix2 i j) = rowDot 8192 2816 x w i j :=
  prod_at x w i j

theorem logi_at (g : FVec Ideal S8192x2816 .f32) (i : Fin 8192) (j : Fin 2816) : logiArr g (ix2 i j) = logi (g (ix2 i j)) := by
  unfold logi
  pointwise

theorem act_at (i : Fin 8192) (j : Fin 2816) :
    truncf .bf16 (mulf (mulf (prod x w) (logiArr (prod x w))) (prod x w')) bitsLt_bf16_f32 (ix2 i j)
      = rowDot 8192 2816 x w i j * logi (rowDot 8192 2816 x w i j) * rowDot 8192 2816 x w' i j := by
  have e := logi_at (prod x w) i j
  rw [prod_at] at e
  exact congrArg₂ (fun a b : EReal => a * b) (congrArg₂ (fun a b : EReal => a * b) (prod_at x w i j) e) (prod_at x w' i j)

end Cert.Reference4Ideal.At

namespace Cert.Proof

open Idealize.ShloMosaic Idealize.ShloMosaic.TcCoe Idealize.SL.Sem Cert.Ffn

theorem frame_kernel4 : Cert.quiescent_Kernel4 (hKernel4 := Cert.Kernel4.Gen.facts) :=
  fun m ρ _ => Cert.Kernel4.Gen.frame m ρ

theorem frame_kernel4Ideal : Cert.quiescent_Kernel4Ideal (hKernel4Ideal := Cert.Kernel4Ideal.Gen.facts) :=
  fun m ρ _ => Cert.Kernel4Ideal.Gen.frame m ρ

theorem frame_reference4Ideal :
    Cert.quiescent_Reference4Ideal (hReference4Ideal := Cert.Reference4Ideal.Gen.facts) := by
  intro m ρ _
  exact (θ_run Cert.Reference4Ideal.defs _ _).mono (fun r h => ⟨fun c => (h c).2.2.2,
      Idealize.ShloMosaic.sem_eq_zero_of_no_sems (by decide) r.2⟩)
    (Cert.Reference4Ideal.Value.run (F := Ideal) m ρ)

/-- The gate and up products and the activation: from equal arguments, both programs end with equal results. -/
theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨fun c => (Cert.Kernel4Ideal.Gen.dats m 0 c).arrAt 3 Cert.Kernel4Ideal.cfg0.N,
    fun c => (Cert.Kernel4Ideal.Gen.dats m 0 c).arrAt 4 Cert.Kernel4Ideal.cfg0.N,
    fun c => (Cert.Kernel4Ideal.Gen.dats m 0 c).arrAt 5 Cert.Kernel4Ideal.cfg0.N, Cert.Kernel4Ideal.Value.run_blocks (F := Ideal) m g, ?_⟩
  refine (θ_run Cert.Reference4Ideal.defs _ _).mono (fun r h c => ⟨?_, ?_, ?_, (h c).2.2.2⟩) (Cert.Reference4Ideal.Value.run (F := Ideal) m' g')
  · refine ((h c).1).trans (Eq.trans ?_ (Cert.Kernel4Ideal.Up.gate_final m c).symm)
    rw [(hargs c).1, (hargs c).2.1]
    funext i
    rw [ix_eta 8192 2816 i]
    exact Cert.Reference4Ideal.At.gate_at _ _ _ _
  · refine ((h c).2.1).trans (Eq.trans ?_ (Cert.Kernel4Ideal.Up.up_final m c).symm)
    rw [(hargs c).1, (hargs c).2.2]
    funext i
    rw [ix_eta 8192 2816 i]
    exact Cert.Reference4Ideal.At.gate_at _ _ _ _
  · refine ((h c).2.2.1).trans (Eq.trans ?_ (Cert.Kernel4Ideal.Up.act_final m c).symm)
    rw [(hargs c).1, (hargs c).2.1, (hargs c).2.2]
    funext i
    rw [ix_eta 8192 2816 i]
    exact Cert.Reference4Ideal.At.act_at _ _ _ _ _

end Cert.Proof

end
-- ==== Proof.Dact.lean ====
/- THE GRADIENT OF THE FEED-FORWARD LAYER'S GATE AND UP PRODUCTS: what the kernel leaves in its two results, element
   by element, read from the arrays it is called on. -/
module

public import proofs.«01_k».proof.Proof.Gen.Kernel2Ideal.Value
public import proofs.«01_k».proof.Proof.Ffn

@[expose] public section

set_option maxRecDepth 16384

noncomputable section

namespace Cert.Kernel2Ideal.Dact

open Idealize.ShloMosaic Idealize.ShloMosaic.TcCoe Idealize.SL.Sem
open Idealize.ShloMosaic.Pipeline (Dat)
open Cert.Kernel2Ideal Cert.Kernel2Ideal.Gen Cert.Ffn

theorem hz : (![0, 0] : Fin 2 → Nat) = fun _ => 0 := funext fun a => by fin_cases a <;> rfl

theorem idx_x : ∀ t : Fin cfg0.N, win0_0.index t = ![t.val % 16, 0] :=
  (by decide +kernel : ∀ t : Fin grid0.N, win0_0.index t = ![t.val % 16, 0])
theorem idx_w : ∀ t : Fin cfg0.N, win0_1.index t = ![t.val / 16, 0] :=
  (by decide +kernel : ∀ t : Fin grid0.N, win0_1.index t = ![t.val / 16, 0])
theorem idx_g : ∀ t : Fin cfg0.N, win0_2.index t = ![t.val % 16, t.val / 16] :=
  (by decide +kernel : ∀ t : Fin grid0.N, win0_2.index t = ![t.val % 16, t.val / 16])
theorem idx_u : ∀ t : Fin cfg0.N, win0_3.index t = ![t.val % 16, t.val / 16] :=
  (by decide +kernel : ∀ t : Fin grid0.N, win0_3.index t = ![t.val % 16, t.val / 16])
theorem idx_o4 : ∀ t : Fin cfg0.N, win0_4.index t = ![t.val % 16, t.val / 16] :=
  (by decide +kernel : ∀ t : Fin grid0.N, win0_4.index t = ![t.val % 16, t.val / 16])
theorem idx_o5 : ∀ t : Fin cfg0.N, win0_5.index t = ![t.val % 16, t.val / 16] :=
  (by decide +kernel : ∀ t : Fin grid0.N, win0_5.index t = ![t.val % 16, t.val / 16])

theorem blk_x (A : S8192x1024.Idx → EReal) (t : Fin cfg0.N) (j : Fin 512) (l : Fin 1024) (h0) (h1) :
    ((cfg0.win 0).blk t).view.read (Elt Ideal) A (ix2 j l) = A (ix2 ⟨512 * (t.val % 16) + j.val, h0⟩ ⟨l.val, h1⟩) := by
  blk_point [idx_x t]
theorem blk_w (A : S2816x1024.Idx → EReal) (t : Fin cfg0.N) (j : Fin 1408) (l : Fin 1024) (h0) (h1) :
    ((cfg0.win 1).blk t).view.read (Elt Ideal) A (ix2 j l) = A (ix2 ⟨1408 * (t.val / 16) + j.val, h0⟩ ⟨l.val, h1⟩) := by
  blk_point [idx_w t]
theorem blk_g (A : S8192x2816.Idx → EReal) (t : Fin cfg0.N) (j : Fin 512) (l : Fin 1408) (h0) (h1) :
    ((cfg0.win 2).blk t).view.read (Elt Ideal) A (ix2 j l) = A (ix2 ⟨512 * (t.val % 16) + j.val, h0⟩ ⟨1408 * (t.val / 16) + l.val, h1⟩) := by
  blk_point [idx_g t]
theorem blk_u (A : S8192x2816.Idx → EReal) (t : Fin cfg0.N) (j : Fin 512) (l : Fin 1408) (h0) (h1) :
    ((cfg0.win 3).blk t).view.read (Elt Ideal) A (ix2 j l) = A (ix2 ⟨512 * (t.val % 16) + j.val, h0⟩ ⟨1408 * (t.val / 16) + l.val, h1⟩) := by
  blk_point [idx_u t]

/-- The gate's gradient from the activation's, the gate and the up product. -/
def dGate (d g u : EReal) : EReal := d * u * (logi g * (1 + g * (1 - logi g)))
/-- The up product's gradient from the activation's and the gate. -/
def dUp (d g : EReal) : EReal := d * g * logi g

section Point
variable (x : FVec Ideal S512x1024 .f32) (w : FVec Ideal S1408x1024 .bf16) (g u : FVec Ideal S512x1408 .bf16)
  (i : Fin 512) (j : Fin 1408)

abbrev gE (g : FVec Ideal S512x1408 .bf16) : S512x1408.Idx → EReal := g

theorem prod_at : k0_pay1 (F := Ideal) x w (ix2 i j) = half * rowDot 512 1408 x w i j := by
  unfold rowDot half
  pointwise [k0_pay1]

theorem logi_at : k0_pay3 (F := Ideal) g (ix2 i j) = logi (gE g (ix2 i j)) := by
  unfold logi
  rw [← zero_sub (gE g (ix2 i j))]
  pointwise [k0_pay3, k0_pay2]

theorem dgate_at : out0_4 (F := Ideal) x w g u (ix2 i j) = dGate (half * rowDot 512 1408 x w i j) (gE g (ix2 i j)) (gE u (ix2 i j)) := by
  unfold out0_4 r0_0 r0_1 r0_2
  simp only [View.canon_unit_zero (S := S512x1408) hz, View.ld_unit_zero (S := S512x1024) hz, View.ld_unit_zero (S := S1408x1024) hz, View.ld_unit_zero (S := S512x1408) hz]
  unfold dGate
  rw [← prod_at, ← logi_at]
  pointwise [k0_pay5, k0_pay2]

theorem dup_at : out0_5 (F := Ideal) x w g u (ix2 i j) = dUp (half * rowDot 512 1408 x w i j) (gE g (ix2 i j)) := by
  unfold out0_5 r0_0 r0_1 r0_2
  simp only [View.canon_unit_zero (S := S512x1408) hz, View.ld_unit_zero (S := S512x1024) hz, View.ld_unit_zero (S := S1408x1024) hz, View.ld_unit_zero (S := S512x1408) hz]
  unfold dUp
  rw [← prod_at, ← logi_at]
  pointwise [k0_pay4, k0_pay2]
end Point

/-- The point that writes a result's element, and the element's place in the point's block. -/
theorem emb_val (t : Fin cfg0.N) (y : S512x1408.Idx) :
    ((((cfg0.win 4).blk t).view.emb y) 0).val = 512 * (t.val % 16) + (y 0).val
      ∧ ((((cfg0.win 4).blk t).view.emb y) 1).val = 1408 * (t.val / 16) + (y 1).val
      ∧ ((((cfg0.win 5).blk t).view.emb y) 0).val = 512 * (t.val % 16) + (y 0).val
      ∧ ((((cfg0.win 5).blk t).view.emb y) 1).val = 1408 * (t.val / 16) + (y 1).val := by
  refine ⟨?_, ?_, ?_, ?_⟩ <;> blk_simp [idx_o4 t, idx_o5 t] <;> try omega

/-- A row against a row, both read from the point's blocks. -/
theorem dot_blk (A : S8192x1024.Idx → EReal) (W : S2816x1024.Idx → EReal) (t : Fin cfg0.N) (i : Fin 512) (j : Fin 1408)
    (I : Fin 8192) (J : Fin 2816) (hI : I.val = 512 * (t.val % 16) + i.val) (hJ : J.val = 1408 * (t.val / 16) + j.val) :
    rowDot 512 1408 (((cfg0.win 0).blk t).view.read (Elt Ideal) A) (((cfg0.win 1).blk t).view.read (Elt Ideal) W) i j
      = rowDot 8192 2816 A W I J := by
  unfold rowDot
  refine Finset.sum_congr rfl fun k _ => ?_
  have hI' : I = ⟨512 * (t.val % 16) + i.val, by omega⟩ := Fin.ext hI
  have hJ' : J = ⟨1408 * (t.val / 16) + j.val, by omega⟩ := Fin.ext hJ
  rw [hI', hJ']
  exact congrArg₂ (· * ·) (blk_x A t i k _ k.isLt) (blk_w W t j k _ k.isLt)

/-- The gate read from the point's block. -/
theorem g_blk (A : S8192x2816.Idx → EReal) (t : Fin cfg0.N) (i : Fin 512) (j : Fin 1408)
    (I : S8192x2816.Idx) (hI : (I 0).val = 512 * (t.val % 16) + i.val) (hJ : (I 1).val = 1408 * (t.val / 16) + j.val) :
    ((cfg0.win 2).blk t).view.read (Elt Ideal) A (ix2 i j) = A I := by
  refine (blk_g A t i j (hI ▸ (I 0).isLt) (hJ ▸ (I 1).isLt)).trans (congrArg A ?_)
  funext a; apply Fin.ext; fin_cases a
  · exact hI.symm
  · exact hJ.symm

/-- The up product read from the point's block. -/
theorem u_blk (A : S8192x2816.Idx → EReal) (t : Fin cfg0.N) (i : Fin 512) (j : Fin 1408)
    (I : S8192x2816.Idx) (hI : (I 0).val = 512 * (t.val % 16) + i.val) (hJ : (I 1).val = 1408 * (t.val / 16) + j.val) :
    ((cfg0.win 3).blk t).view.read (Elt Ideal) A (ix2 i j) = A I := by
  refine (blk_u A t i j (hI ▸ (I 0).isLt) (hJ ▸ (I 1).isLt)).trans (congrArg A ?_)
  funext a; apply Fin.ext; fin_cases a
  · exact hI.symm
  · exact hJ.symm

variable (m : (ℓ : Loc nD τ sig) → Buf (Elt Ideal) ℓ)

abbrev aX (c : Dev nD) : S8192x1024.Idx → EReal := m ((c.tc : Thread nD τ).loc main_arg0)
abbrev aW (c : Dev nD) : S2816x1024.Idx → EReal := m ((c.tc : Thread nD τ).loc main_arg1)
abbrev aG (c : Dev nD) : S8192x2816.Idx → EReal := m ((c.tc : Thread nD τ).loc main_arg2)
abbrev aU (c : Dev nD) : S8192x2816.Idx → EReal := m ((c.tc : Thread nD τ).loc main_arg3)

/-- The gate's gradient, element by element. -/
theorem dgate_final (c : Dev nD) : (dats m 0 c).arrAt 4 cfg0.N = fun i : S8192x2816.Idx =>
    dGate (half * rowDot 8192 2816 (aX m c) (aW m c) (i 0) (i 1)) (aG m c i) (aU m c i) := by
  refine (dats m 0 c).arrAt_eq_of_covers 4 _ (by decide +kernel) fun t hf y => ?_
  obtain ⟨e0, e1, -, -⟩ := emb_val t y
  rw [cast_eq]
  generalize hz : (cfg0.win 4).xinj (cfg0.grid.coords t) y = z
  obtain rfl : z = ix2 (n0 := 512) (n1 := 1408) (y 0) (y 1) := hz.symm.trans (ix_eta 512 1408 y)
  rw [after0_4]
  refine Eq.trans (dgate_at _ _ _ _ _ _) ?_
  refine congr (congrArg₂ (fun a b : EReal => dGate (half * a) b) (dot_blk (aX m c) (aW m c) t (y 0) (y 1) _ _ e0 e1)
    (g_blk (aG m c) t (y 0) (y 1) _ e0 e1)) (u_blk (aU m c) t (y 0) (y 1) _ e0 e1)

/-- The up product's gradient, element by element. -/
theorem dup_final (c : Dev nD) : (dats m 0 c).arrAt 5 cfg0.N = fun i : S8192x2816.Idx =>
    dUp (half * rowDot 8192 2816 (aX m c) (aW m c) (i 0) (i 1)) (aG m c i) := by
  refine (dats m 0 c).arrAt_eq_of_covers 5 _ (by decide +kernel) fun t hf y => ?_
  obtain ⟨-, -, e0, e1⟩ := emb_val t y
  rw [cast_eq]
  generalize hz : (cfg0.win 5).xinj (cfg0.grid.coords t) y = z
  obtain rfl : z = ix2 (n0 := 512) (n1 := 1408) (y 0) (y 1) := hz.symm.trans (ix_eta 512 1408 y)
  rw [after0_5]
  refine Eq.trans (dup_at _ _ _ _ _ _) ?_
  exact congrArg₂ (fun a b : EReal => dUp (half * a) b) (dot_blk (aX m c) (aW m c) t (y 0) (y 1) _ _ e0 e1)
    (g_blk (aG m c) t (y 0) (y 1) _ e0 e1)

end Cert.Kernel2Ideal.Dact

end
-- ==== Proof.DactEqual.lean ====
/- THE GRADIENT OF THE GATE AND UP PRODUCTS: the reference's two results element by element, the kernel's equal to
   them for finite arguments, and the programs' frames. -/
module

public import proofs.«01_k».proof.Proof.Dact
public import proofs.«01_k».proof.Proof.Finite
public import proofs.«01_k».proof.Proof.Gen.Reference2Ideal.Run
public import proofs.«01_k».proof.Proof.Gen.Kernel2.Frame
public import proofs.«01_k».proof.Defs

@[expose] public section

set_option maxRecDepth 16384

noncomputable section

namespace Cert.Finite2

open Idealize.ShloMosaic Idealize.ShloMosaic.TcCoe Idealize.SL.Sem
open Cert.Pre_finite2

theorem facts : Cert.Pre_finite2.Facts where
  bcast_S_S8192x1024 := by decide
  bitsLt_bf16_f32 := by decide
  bcast_S_S2816x1024 := by decide
  bcast_S_S8192x2816 := by decide

variable [Cert.Pre_finite2.Facts]
variable (x0 : FVec Ideal S8192x1024 .f32) (x1 : FVec Ideal S2816x1024 .bf16) (x2 x3 : FVec Ideal S8192x2816 .bf16)
abbrev at0 (x : FVec Ideal S8192x1024 .f32) : S8192x1024.Idx → EReal := x
abbrev at1 (x : FVec Ideal S2816x1024 .bf16) : S2816x1024.Idx → EReal := x
abbrev at2 (x : FVec Ideal S8192x2816 .bf16) : S8192x2816.Idx → EReal := x

theorem real0 (h : (Cert.Pre_finite2.fn (F := Ideal) x0 x1 x2 x3).1 = fun _ => 1#1) (j : S8192x1024.Idx) : at0 x0 j = ((at0 x0 j).toReal : EReal) :=
  Cert.Finite.real_of_lt _ (congrFun h j)
theorem real1 (h : (Cert.Pre_finite2.fn (F := Ideal) x0 x1 x2 x3).2.1 = fun _ => 1#1) (j : S2816x1024.Idx) : at1 x1 j = ((at1 x1 j).toReal : EReal) :=
  Cert.Finite.real_of_lt _ (congrFun h j)
theorem real2 (h : (Cert.Pre_finite2.fn (F := Ideal) x0 x1 x2 x3).2.2.1 = fun _ => 1#1) (j : S8192x2816.Idx) : at2 x2 j = ((at2 x2 j).toReal : EReal) :=
  Cert.Finite.real_of_lt _ (congrFun h j)
theorem real3 (h : (Cert.Pre_finite2.fn (F := Ideal) x0 x1 x2 x3).2.2.2 = fun _ => 1#1) (j : S8192x2816.Idx) : at2 x3 j = ((at2 x3 j).toReal : EReal) :=
  Cert.Finite.real_of_lt _ (congrFun h j)

end Cert.Finite2

namespace Cert.Reference2Ideal.At

open Idealize.ShloMosaic Idealize.ShloMosaic.TcCoe Idealize.SL.Sem
open Cert.Reference2Ideal Cert.Reference2Ideal.Gen Cert.Ffn

/-- The reference's gradient of the activation. -/
abbrev prod (x : FVec Ideal S8192x1024 .f32) (w : FVec Ideal S2816x1024 .bf16) : FVec Ideal S8192x2816 .f32 :=
  Host.dotGeneral dot_S8192x1024_S2816x1024_S8192x2816_1_1_0_0_n_n none
    (mulf (broadcastInDim S8192x1024 ![] bcast_S_S8192x1024 (constant S_ .f32 0x3F000000#32)) x) (extf .f32 w bitsLt_bf16_f32)

/-- The array of ones. -/
abbrev one : FVec Ideal S8192x2816 .f32 := broadcastInDim S8192x2816 ![] bcast_S_S8192x2816 (constant S_ .f32 0x3F800000#32)

/-- The reference's logistic function of an array. -/
abbrev logiArr (g : FVec Ideal S8192x2816 .bf16) : FVec Ideal S8192x2816 .f32 :=
  Host.divf one (addf one (Host.exp (Host.negf (extf .f32 g bitsLt_bf16_f32))))

variable (x : FVec Ideal S8192x1024 .f32) (w : FVec Ideal S2816x1024 .bf16) (g u : FVec Ideal S8192x2816 .bf16)
  (i : Fin 8192) (j : Fin 2816)

abbrev gE (g : FVec Ideal S8192x2816 .bf16) : S8192x2816.Idx → EReal := g

theorem prod_at : prod x w (ix2 i j) = half * rowDot 8192 2816 x w i j := by
  unfold rowDot
  rw [half_mul_sum]
  unfold half
  simp only [← mul_assoc]
  pointwise

theorem logi_at : logiArr g (ix2 i j) = logi (gE g (ix2 i j)) := by
  unfold logi
  pointwise

theorem one_at : one (ix2 i j) = (1 : EReal) := by
  pointwise

theorem dup_at : truncf .bf16 (mulf (mulf (extf .f32 g bitsLt_bf16_f32) (logiArr g)) (prod x w)) bitsLt_bf16_f32 (ix2 i j)
    = gE g (ix2 i j) * logi (gE g (ix2 i j)) * (half * rowDot 8192 2816 x w i j) :=
  congrArg₂ (fun a b : EReal => gE g (ix2 i j) * a * b) (logi_at g i j) (prod_at x w i j)

/-- The gate's gradient as the product rule gives it. -/
def rule (d g u l o : EReal) : EReal := d * u * l + g * (d * u) * (l * (o - l))

theorem dgate_at : truncf .bf16 (addf (mulf (mulf (prod x w) (extf .f32 u bitsLt_bf16_f32)) (logiArr g))
      (mulf (mulf (extf .f32 g bitsLt_bf16_f32) (mulf (prod x w) (extf .f32 u bitsLt_bf16_f32))) (mulf (logiArr g) (subf one (logiArr g)))))
      bitsLt_bf16_f32 (ix2 i j)
    = rule (half * rowDot 8192 2816 x w i j) (gE g (ix2 i j)) (gE u (ix2 i j)) (logi (gE g (ix2 i j))) 1 :=
  congr (congrArg₂ (fun a b : EReal => rule a (gE g (ix2 i j)) (gE u (ix2 i j)) b) (prod_at x w i j) (logi_at g i j)) (one_at i j)

end Cert.Reference2Ideal.At

namespace Cert.Proof

open Idealize.ShloMosaic Idealize.ShloMosaic.TcCoe Idealize.SL.Sem Cert.Ffn

theorem frame_kernel2 : Cert.quiescent_Kernel2 (hKernel2 := Cert.Kernel2.Gen.facts) :=
  fun m ρ _ => Cert.Kernel2.Gen.frame m ρ

theorem frame_kernel2Ideal : Cert.quiescent_Kernel2Ideal (hKernel2Ideal := Cert.Kernel2Ideal.Gen.facts) :=
  fun m ρ _ => Cert.Kernel2Ideal.Gen.frame m ρ

theorem frame_reference2Ideal :
    Cert.quiescent_Reference2Ideal (hReference2Ideal := Cert.Reference2Ideal.Gen.facts) := by
  intro m ρ _
  exact (θ_run Cert.Reference2Ideal.defs _ _).mono (fun r h => ⟨fun c => (h c).2.2,
      Idealize.ShloMosaic.sem_eq_zero_of_no_sems (by decide) r.2⟩)
    (Cert.Reference2Ideal.Value.run (F := Ideal) m ρ)

/-- A half of a row against a row is real when the rows are. -/
theorem half_dot_real (N W : ℕ) (x : (⟨2, ![N, 1024]⟩ : Shape).Idx → EReal) (w : (⟨2, ![W, 1024]⟩ : Shape).Idx → EReal)
    (hx : ∀ j, x j = ((x j).toReal : EReal)) (hw : ∀ j, w j = ((w j).toReal : EReal)) (i : Fin N) (j : Fin W) :
    ∃ d : ℝ, half * rowDot N W x w i j = (d : EReal) := by
  unfold rowDot
  rw [half_eq, sum_real _ _ (fun k => (x (ix2 i k)).toReal * (w (ix2 j k)).toReal)
    (fun k => by rw [EReal.coe_mul, ← hx, ← hw]), ← EReal.coe_mul]
  exact ⟨_, rfl⟩

/-- The two ways to the gate's gradient agree on real numbers. -/
theorem rule_eq (d g u : EReal) (hd : ∃ r : ℝ, d = r) (hg : g = (g.toReal : EReal)) (hu : u = (u.toReal : EReal)) :
    Cert.Reference2Ideal.At.rule d g u (logi g) 1 = Cert.Kernel2Ideal.Dact.dGate d g u := by
  obtain ⟨r, rfl⟩ := hd
  rw [hg, hu]
  exact (gate_grad r g.toReal u.toReal).symm

/-- From finite arguments equal on every device, both programs run and end with equal gradients of the gate and up
    products. -/
theorem algebraic2 : Cert.algebraic_Kernel2Ideal_Reference2Ideal_pre_finite2 (hKernel2Ideal := Cert.Kernel2Ideal.Gen.facts)
    (hReference2Ideal := Cert.Reference2Ideal.Gen.facts) (hPre_finite2 := Cert.Finite2.facts) := by
  intro m g m' g' hpre hargs
  haveI : Cert.Pre_finite2.Facts := Cert.Finite2.facts
  refine ⟨fun c => (Cert.Kernel2Ideal.Gen.dats m 0 c).arrAt 4 Cert.Kernel2Ideal.cfg0.N,
    fun c => (Cert.Kernel2Ideal.Gen.dats m 0 c).arrAt 5 Cert.Kernel2Ideal.cfg0.N, Cert.Kernel2Ideal.Value.run_blocks (F := Ideal) m g, ?_⟩
  refine (θ_run Cert.Reference2Ideal.defs _ _).mono (fun r h c => ⟨?_, ?_, (h c).2.2⟩) (Cert.Reference2Ideal.Value.run (F := Ideal) m' g')
  · refine ((h c).1).trans (Eq.trans ?_ (Cert.Kernel2Ideal.Dact.dgate_final m c).symm)
    rw [(hargs c).1, (hargs c).2.1, (hargs c).2.2.1, (hargs c).2.2.2]
    funext i
    refine Eq.trans ?_ (rule_eq _ _ _ (half_dot_real 8192 2816 _ _ (Cert.Finite2.real0 _ _ _ _ (hpre c).1)
      (Cert.Finite2.real1 _ _ _ _ (hpre c).2.1) (i 0) (i 1)) (Cert.Finite2.real2 _ _ _ _ (hpre c).2.2.1 i)
      (Cert.Finite2.real3 _ _ _ _ (hpre c).2.2.2 i))
    rw [ix_eta 8192 2816 i]
    exact Cert.Reference2Ideal.At.dgate_at _ _ _ _ _ _
  · refine ((h c).2.1).trans (Eq.trans ?_ (Cert.Kernel2Ideal.Dact.dup_final m c).symm)
    rw [(hargs c).1, (hargs c).2.1, (hargs c).2.2.1]
    funext i
    unfold Cert.Kernel2Ideal.Dact.dUp
    rw [mul_assoc, mul_comm (half * _)]
    rw [ix_eta 8192 2816 i]
    exact Cert.Reference2Ideal.At.dup_at _ _ _ _ _

end Cert.Proof

end
-- ==== Proof.DwGate.lean ====
/- THE GRADIENT OF A WEIGHT OF THE FEED-FORWARD LAYER: the product over 8192 rows that the kernel adds up in four
   blocks of rows, element by element. -/
module

public import proofs.«01_k».proof.Proof.Gen.Kernel3Ideal.Value
public import proofs.«01_k».proof.Proof.Ffn
public import Idealize.ShloMosaic.Lib.Pipeline.ReadBack

@[expose] public section

set_option maxRecDepth 16384

noncomputable section

namespace Cert.Kernel3Ideal.Dw

open Idealize.ShloMosaic Idealize.ShloMosaic.TcCoe Idealize.SL.Sem
open Idealize.ShloMosaic.Pipeline (Dat)
open Cert.Kernel3Ideal Cert.Kernel3Ideal.Gen Cert.Ffn

theorem idx_a : ∀ t : Fin cfg0.N, win0_0.index t = ![t.val % 4, t.val / 4] :=
  (by decide +kernel : ∀ t : Fin grid0.N, win0_0.index t = ![t.val % 4, t.val / 4])
theorem idx_b : ∀ t : Fin cfg0.N, win0_1.index t = ![t.val % 4, 0] :=
  (by decide +kernel : ∀ t : Fin grid0.N, win0_1.index t = ![t.val % 4, 0])
theorem idx_o : ∀ t : Fin cfg0.N, win0_2.index t = ![t.val / 4, 0] :=
  (by decide +kernel : ∀ t : Fin grid0.N, win0_2.index t = ![t.val / 4, 0])

theorem blk_a (A : S8192x2816.Idx → EReal) (t : Fin cfg0.N) (j : Fin 2048) (l : Fin 1408) (h0) (h1) :
    ((cfg0.win 0).blk t).view.read (Elt Ideal) A (ix2 j l) = A (ix2 ⟨t.val % 4 * 2048 + j.val, h0⟩ ⟨1408 * (t.val / 4) + l.val, h1⟩) := by
  blk_point [idx_a t]
theorem blk_b (A : S8192x1024.Idx → EReal) (t : Fin cfg0.N) (j : Fin 2048) (l : Fin 1024) (h0) (h1) :
    ((cfg0.win 1).blk t).view.read (Elt Ideal) A (ix2 j l) = A (ix2 ⟨t.val % 4 * 2048 + j.val, h0⟩ ⟨l.val, h1⟩) := by
  blk_point [idx_b t]

/-- A block's product, element by element. -/
theorem part_at (x : FVec Ideal S2048x1408 .bf16) (y : FVec Ideal S2048x1024 .bf16) (i : Fin 1408) (j : Fin 1024) :
    k0_pay1 (F := Ideal) x y (ix2 i j) = ∑ k : Fin 2048, (x (ix2 k i) : EReal) * y (ix2 k j) := by
  pointwise [k0_pay1]

variable (m : (ℓ : Loc nD τ sig) → Buf (Elt Ideal) ℓ)

abbrev aN (c : Dev nD) : S8192x1024.Idx → EReal := m ((c.tc : Thread nD τ).loc main_arg0)
abbrev aD (c : Dev nD) : S8192x2816.Idx → EReal := m ((c.tc : Thread nD τ).loc main_arg1)

/-- A point's product, from the arrays. -/
theorem part_blk (c : Dev nD) (t : Fin cfg0.N) (i : Fin 1408) (j : Fin 1024) (q : Fin 4) (hq : t.val % 4 = q.val)
    (I : Fin 2816) (hI : I.val = 1408 * (t.val / 4) + i.val) :
    k0_pay1 (F := Ideal) (iblk m c 0 t) (iblk m c 1 t) (ix2 i j) = colPart 2816 1024 (aD m c) (aN m c) I j q := by
  refine (part_at _ _ i j).trans ?_
  unfold colPart
  refine Finset.sum_congr rfl fun k _ => ?_
  have hI' : I = ⟨1408 * (t.val / 4) + i.val, by omega⟩ := Fin.ext hI
  have hk : (⟨q.val * 2048 + k.val, by omega⟩ : Fin 8192) = ⟨t.val % 4 * 2048 + k.val, by omega⟩ := Fin.ext (by dsimp only; rw [hq])
  rw [hI', hk]
  exact congrArg₂ (· * ·) (blk_a (aD m c) t k i _ _) (blk_b (aN m c) t k j _ j.isLt)

/-- What the accumulator holds after point `n`. -/
abbrev accAt (c : Dev nD) (n : ℕ) (h : n < cfg0.N) : S1408x1024.Idx → EReal := (outsAt0 m c n h).2

theorem acc_A (c : Dev nD) (t : Fin cfg0.N) (h0 : t.val % 4 = 0) :
    accAt m c t.val t.isLt = k0_pay1 (F := Ideal) (iblk m c 0 t) (iblk m c 1 t) := by
  unfold accAt
  rw [outsAt0_A m c t h0 (by omega) (by omega)]
  frame_out
  unfold k0_pay2
  simp only [shapeCast_self]

theorem acc_B (c : Dev nD) (t : Fin cfg0.N) (h1 : 1 ≤ t.val % 4 ∧ t.val % 4 ≤ 2) :
    accAt m c t.val t.isLt = fun j => accAt m c (t.val - 1) (Nat.lt_of_le_of_lt (Nat.sub_le _ _) t.isLt) j
      + k0_pay1 (F := Ideal) (iblk m c 0 t) (iblk m c 1 t) j := by
  unfold accAt
  rw [outsAt0_B m c t (by omega) h1 (by omega)]
  frame_out
  unfold k0_pay3
  simp only [shapeCast_self, read_unread_whole]
  rfl

theorem out_C (c : Dev nD) (t : Fin cfg0.N) (h2 : t.val % 4 = 3) :
    (outsAt0 m c t.val t.isLt).1 = fun j => accAt m c (t.val - 1) (Nat.lt_of_le_of_lt (Nat.sub_le _ _) t.isLt) j
      + k0_pay1 (F := Ideal) (iblk m c 0 t) (iblk m c 1 t) j := by
  rw [outsAt0_C m c t (by omega) (by omega) h2]
  frame_out
  unfold k0_pay4
  simp only [read_unread_whole]
  rfl

/-- The accumulator after the third block of a run. -/
theorem acc_run (c : Dev nD) (t : Fin cfg0.N) (h : t.val % 4 = 3) (i : Fin 1408) (j : Fin 1024)
    (I : Fin 2816) (hI : I.val = 1408 * (t.val / 4) + i.val) :
    accAt m c (t.val - 1) (Nat.lt_of_le_of_lt (Nat.sub_le _ _) t.isLt) (ix2 i j)
      = colPart 2816 1024 (aD m c) (aN m c) I j 0 + colPart 2816 1024 (aD m c) (aN m c) I j 1 + colPart 2816 1024 (aD m c) (aN m c) I j 2 := by
  have hN := t.isLt
  have e1 := congrFun (acc_B m c ⟨t.val - 1, by omega⟩ (by dsimp only; omega)) (ix2 i j)
  have e2 := congrFun (acc_B m c ⟨t.val - 1 - 1, by omega⟩ (by dsimp only; omega)) (ix2 i j)
  have e3 := congrFun (acc_A m c ⟨t.val - 1 - 1 - 1, by omega⟩ (by dsimp only; omega)) (ix2 i j)
  dsimp only at e1 e2 e3
  rw [e1, e2, e3]
  rw [part_blk m c ⟨t.val - 1, by omega⟩ i j 2 (by show (t.val - 1) % 4 = 2; omega) I (by dsimp only; omega),
    part_blk m c ⟨t.val - 1 - 1, by omega⟩ i j 1 (by show (t.val - 1 - 1) % 4 = 1; omega) I (by dsimp only; omega),
    part_blk m c ⟨t.val - 1 - 1 - 1, by omega⟩ i j 0 (by show (t.val - 1 - 1 - 1) % 4 = 0; omega) I (by dsimp only; omega)]

/-- The point that writes a result's element, and the element's place in the point's block. -/
theorem emb_val (t : Fin cfg0.N) (y : S1408x1024.Idx) :
    ((((cfg0.win 2).blk t).view.emb y) 0).val = 1408 * (t.val / 4) + (y 0).val
      ∧ ((((cfg0.win 2).blk t).view.emb y) 1).val = (y 1).val := by
  refine ⟨?_, ?_⟩ <;> blk_simp [idx_o t] <;> try omega

/-- The weight's gradient, element by element. -/
theorem dw_final (c : Dev nD) : (dats m 0 c).arrAt 2 cfg0.N = fun i : S2816x1024.Idx =>
    colDot 2816 1024 (aD m c) (aN m c) (i 0) (i 1) := by
  refine (dats m 0 c).arrAt_eq_of_covers 2 _ (by decide +kernel) fun t hf y => ?_
  obtain ⟨e0, e1⟩ := emb_val t y
  have h3 : t.val % 4 = 3 := (flush0_2 t).mp hf
  rw [cast_eq]
  generalize hz : (cfg0.win 2).xinj (cfg0.grid.coords t) y = z
  obtain rfl : z = ix2 (n0 := 1408) (n1 := 1024) (y 0) (y 1) := hz.symm.trans (ix_eta 1408 1024 y)
  rw [after0_2, out_C m c t h3]
  have hJ : (((cfg0.win 2).blk t).view.emb y) 1 = y 1 := Fin.ext e1
  dsimp only
  rw [acc_run m c t h3 (y 0) (y 1) _ e0, part_blk m c t (y 0) (y 1) 3 h3 _ e0]
  refine (colPart_sum 2816 1024 _ _ _ _).trans ?_
  exact congrArg (colDot 2816 1024 (aD m c) (aN m c) _) hJ.symm

end Cert.Kernel3Ideal.Dw

end
-- ==== Proof.DwDown.lean ====
/- THE GRADIENT OF THE DOWN WEIGHT OF THE FEED-FORWARD LAYER: half the product over 8192 rows that the kernel adds up
   in four blocks of rows, element by element. -/
module

public import proofs.«01_k».proof.Proof.Gen.Kernel5Ideal.Value
public import proofs.«01_k».proof.Proof.Ffn
public import Idealize.ShloMosaic.Lib.Pipeline.ReadBack

@[expose] public section

set_option maxRecDepth 16384

noncomputable section

namespace Cert.Kernel5Ideal.Dw

open Idealize.ShloMosaic Idealize.ShloMosaic.TcCoe Idealize.SL.Sem
open Idealize.ShloMosaic.Pipeline (Dat)
open Cert.Kernel5Ideal Cert.Kernel5Ideal.Gen Cert.Ffn

theorem idx_a : ∀ t : Fin cfg0.N, win0_0.index t = ![t.val % 4, t.val / 4] :=
  (by decide +kernel : ∀ t : Fin grid0.N, win0_0.index t = ![t.val % 4, t.val / 4])
theorem idx_b : ∀ t : Fin cfg0.N, win0_1.index t = ![t.val % 4, 0] :=
  (by decide +kernel : ∀ t : Fin grid0.N, win0_1.index t = ![t.val % 4, 0])
theorem idx_o : ∀ t : Fin cfg0.N, win0_2.index t = ![t.val / 4, 0] :=
  (by decide +kernel : ∀ t : Fin grid0.N, win0_2.index t = ![t.val / 4, 0])

theorem blk_a (A : S8192x2816.Idx → EReal) (t : Fin cfg0.N) (j : Fin 2048) (l : Fin 1408) (h0) (h1) :
    ((cfg0.win 0).blk t).view.read (Elt Ideal) A (ix2 j l) = A (ix2 ⟨t.val % 4 * 2048 + j.val, h0⟩ ⟨1408 * (t.val / 4) + l.val, h1⟩) := by
  blk_point [idx_a t]
theorem blk_b (A : S8192x1024.Idx → EReal) (t : Fin cfg0.N) (j : Fin 2048) (l : Fin 1024) (h0) (h1) :
    ((cfg0.win 1).blk t).view.read (Elt Ideal) A (ix2 j l) = A (ix2 ⟨t.val % 4 * 2048 + j.val, h0⟩ ⟨l.val, h1⟩) := by
  blk_point [idx_b t]

/-- A block's product, element by element. -/
theorem part_at (x : FVec Ideal S2048x1408 .bf16) (y : FVec Ideal S2048x1024 .f32) (i : Fin 1408) (j : Fin 1024) :
    k0_pay1 (F := Ideal) x y (ix2 i j) = ∑ k : Fin 2048, (x (ix2 k i) : EReal) * y (ix2 k j) := by
  pointwise [k0_pay1]

variable (m : (ℓ : Loc nD τ sig) → Buf (Elt Ideal) ℓ)

abbrev aN (c : Dev nD) : S8192x1024.Idx → EReal := m ((c.tc : Thread nD τ).loc main_arg1)
abbrev aD (c : Dev nD) : S8192x2816.Idx → EReal := m ((c.tc : Thread nD τ).loc main_arg0)

/-- A point's product, from the arrays. -/
theorem part_blk (c : Dev nD) (t : Fin cfg0.N) (i : Fin 1408) (j : Fin 1024) (q : Fin 4) (hq : t.val % 4 = q.val)
    (I : Fin 2816) (hI : I.val = 1408 * (t.val / 4) + i.val) :
    k0_pay1 (F := Ideal) (iblk m c 0 t) (iblk m c 1 t) (ix2 i j) = colPart 2816 1024 (aD m c) (aN m c) I j q := by
  refine (part_at _ _ i j).trans ?_
  unfold colPart
  refine Finset.sum_congr rfl fun k _ => ?_
  have hI' : I = ⟨1408 * (t.val / 4) + i.val, by omega⟩ := Fin.ext hI
  have hk : (⟨q.val * 2048 + k.val, by omega⟩ : Fin 8192) = ⟨t.val % 4 * 2048 + k.val, by omega⟩ := Fin.ext (by dsimp only; rw [hq])
  rw [hI', hk]
  exact congrArg₂ (· * ·) (blk_a (aD m c) t k i _ _) (blk_b (aN m c) t k j _ j.isLt)

/-- What the accumulator holds after point `n`. -/
abbrev accAt (c : Dev nD) (n : ℕ) (h : n < cfg0.N) : S1408x1024.Idx → EReal := (outsAt0 m c n h).2

theorem acc_A (c : Dev nD) (t : Fin cfg0.N) (h0 : t.val % 4 = 0) :
    accAt m c t.val t.isLt = k0_pay1 (F := Ideal) (iblk m c 0 t) (iblk m c 1 t) := by
  unfold accAt
  rw [outsAt0_A m c t h0 (by omega) (by omega)]
  frame_out
  unfold k0_pay2
  simp only [shapeCast_self]

theorem acc_B (c : Dev nD) (t : Fin cfg0.N) (h1 : 1 ≤ t.val % 4 ∧ t.val % 4 ≤ 2) :
    accAt m c t.val t.isLt = fun j => accAt m c (t.val - 1) (Nat.lt_of_le_of_lt (Nat.sub_le _ _) t.isLt) j
      + k0_pay1 (F := Ideal) (iblk m c 0 t) (iblk m c 1 t) j := by
  unfold accAt
  rw [outsAt0_B m c t (by omega) h1 (by omega)]
  frame_out
  unfold k0_pay3
  simp only [shapeCast_self, read_unread_whole]
  rfl

theorem out_C (c : Dev nD) (t : Fin cfg0.N) (h2 : t.val % 4 = 3) :
    (outsAt0 m c t.val t.isLt).1 = fun j => (accAt m c (t.val - 1) (Nat.lt_of_le_of_lt (Nat.sub_le _ _) t.isLt) j
      + k0_pay1 (F := Ideal) (iblk m c 0 t) (iblk m c 1 t) j) * half := by
  rw [outsAt0_C m c t (by omega) (by omega) h2]
  frame_out
  unfold k0_pay4
  simp only [read_unread_whole]
  rfl

/-- The accumulator after the third block of a run. -/
theorem acc_run (c : Dev nD) (t : Fin cfg0.N) (h : t.val % 4 = 3) (i : Fin 1408) (j : Fin 1024)
    (I : Fin 2816) (hI : I.val = 1408 * (t.val / 4) + i.val) :
    accAt m c (t.val - 1) (Nat.lt_of_le_of_lt (Nat.sub_le _ _) t.isLt) (ix2 i j)
      = colPart 2816 1024 (aD m c) (aN m c) I j 0 + colPart 2816 1024 (aD m c) (aN m c) I j 1 + colPart 2816 1024 (aD m c) (aN m c) I j 2 := by
  have hN := t.isLt
  have e1 := congrFun (acc_B m c ⟨t.val - 1, by omega⟩ (by dsimp only; omega)) (ix2 i j)
  have e2 := congrFun (acc_B m c ⟨t.val - 1 - 1, by omega⟩ (by dsimp only; omega)) (ix2 i j)
  have e3 := congrFun (acc_A m c ⟨t.val - 1 - 1 - 1, by omega⟩ (by dsimp only; omega)) (ix2 i j)
  dsimp only at e1 e2 e3
  rw [e1, e2, e3]
  rw [part_blk m c ⟨t.val - 1, by omega⟩ i j 2 (by show (t.val - 1) % 4 = 2; omega) I (by dsimp only; omega),
    part_blk m c ⟨t.val - 1 - 1, by omega⟩ i j 1 (by show (t.val - 1 - 1) % 4 = 1; omega) I (by dsimp only; omega),
    part_blk m c ⟨t.val - 1 - 1 - 1, by omega⟩ i j 0 (by show (t.val - 1 - 1 - 1) % 4 = 0; omega) I (by dsimp only; omega)]

/-- The point that writes a result's element, and the element's place in the point's block. -/
theorem emb_val (t : Fin cfg0.N) (y : S1408x1024.Idx) :
    ((((cfg0.win 2).blk t).view.emb y) 0).val = 1408 * (t.val / 4) + (y 0).val
      ∧ ((((cfg0.win 2).blk t).view.emb y) 1).val = (y 1).val := by
  refine ⟨?_, ?_⟩ <;> blk_simp [idx_o t] <;> try omega

/-- The weight's gradient, element by element. -/
theorem dw_final (c : Dev nD) : (dats m 0 c).arrAt 2 cfg0.N = fun i : S2816x1024.Idx =>
    colDot 2816 1024 (aD m c) (aN m c) (i 0) (i 1) * half := by
  refine (dats m 0 c).arrAt_eq_of_covers 2 _ (by decide +kernel) fun t hf y => ?_
  obtain ⟨e0, e1⟩ := emb_val t y
  have h3 : t.val % 4 = 3 := (flush0_2 t).mp hf
  rw [cast_eq]
  generalize hz : (cfg0.win 2).xinj (cfg0.grid.coords t) y = z
  obtain rfl : z = ix2 (n0 := 1408) (n1 := 1024) (y 0) (y 1) := hz.symm.trans (ix_eta 1408 1024 y)
  rw [after0_2, out_C m c t h3]
  have hJ : (((cfg0.win 2).blk t).view.emb y) 1 = y 1 := Fin.ext e1
  dsimp only
  rw [acc_run m c t h3 (y 0) (y 1) _ e0, part_blk m c t (y 0) (y 1) 3 h3 _ e0]
  refine congrArg (· * half) ((colPart_sum 2816 1024 _ _ _ _).trans ?_)
  exact congrArg (colDot 2816 1024 (aD m c) (aN m c) _) hJ.symm

end Cert.Kernel5Ideal.Dw

end
-- ==== Proof.DwEqual.lean ====
/- THE GRADIENTS OF THE FEED-FORWARD LAYER'S WEIGHTS: the references' results element by element, the kernels' equal to
   them, and the programs' frames. -/
module

public import proofs.«01_k».proof.Proof.DwGate
public import proofs.«01_k».proof.Proof.DwDown
public import proofs.«01_k».proof.Proof.Gen.Reference3Ideal.Run
public import proofs.«01_k».proof.Proof.Gen.Reference5Ideal.Run
public import proofs.«01_k».proof.Proof.Gen.Kernel3.Frame
public import proofs.«01_k».proof.Proof.Gen.Kernel5.Frame
public import proofs.«01_k».proof.Defs

@[expose] public section

set_option maxRecDepth 16384

noncomputable section

namespace Cert.Reference3Ideal.At

open Idealize.ShloMosaic Idealize.ShloMosaic.TcCoe Idealize.SL.Sem
open Cert.Reference3Ideal Cert.Reference3Ideal.Gen Cert.Ffn

theorem dw_at (n : FVec Ideal S8192x1024 .bf16) (d : FVec Ideal S8192x2816 .bf16) (i : Fin 2816) (j : Fin 1024) :
    truncf .bf16 (transpose S2816x1024 [1, 0] (transpose S1024x2816 [1, 0]
        (Host.dotGeneral dot_S8192x2816_S8192x1024_S2816x1024_0_0_1_1_n_n none (extf .f32 d bitsLt_bf16_f32) (extf .f32 n bitsLt_bf16_f32))
        transposes_S2816x1024_S1024x2816_1_0) transposes_S1024x2816_S2816x1024_1_0) bitsLt_bf16_f32 (ix2 i j)
      = colDot 2816 1024 d n i j := by
  unfold colDot
  pointwise

end Cert.Reference3Ideal.At

namespace Cert.Reference5Ideal.At

open Idealize.ShloMosaic Idealize.ShloMosaic.TcCoe Idealize.SL.Sem
open Cert.Reference5Ideal Cert.Reference5Ideal.Gen Cert.Ffn

theorem dw_at (a : FVec Ideal S8192x2816 .bf16) (y : FVec Ideal S8192x1024 .f32) (i : Fin 2816) (j : Fin 1024) :
    truncf .bf16 (transpose S2816x1024 [1, 0]
        (Host.dotGeneral dot_S8192x1024_S8192x2816_S1024x2816_0_0_1_1_n_n none
          (mulf (broadcastInDim S8192x1024 ![] bcast_S_S8192x1024 (constant S_ .f32 0x3F000000#32)) y) (extf .f32 a bitsLt_bf16_f32))
        transposes_S1024x2816_S2816x1024_1_0) bitsLt_bf16_f32 (ix2 i j)
      = colDot 2816 1024 a y i j * half := by
  rw [mul_comm (colDot 2816 1024 a y i j) half]
  unfold colDot
  rw [half_mul_sum]
  refine Eq.trans (b := ∑ k : Fin 8192, (half * (y (ix2 k j) : EReal)) * a (ix2 k i)) ?_ ?_
  · unfold half
    pointwise
  · exact Finset.sum_congr rfl fun k _ => by
      rw [mul_assoc, mul_comm (y (ix2 k j) : EReal)]

end Cert.Reference5Ideal.At

namespace Cert.Proof

open Idealize.ShloMosaic Idealize.ShloMosaic.TcCoe Idealize.SL.Sem Cert.Ffn

theorem frame_kernel3 : Cert.quiescent_Kernel3 (hKernel3 := Cert.Kernel3.Gen.facts) :=
  fun m ρ _ => Cert.Kernel3.Gen.frame m ρ

theorem frame_kernel3Ideal : Cert.quiescent_Kernel3Ideal (hKernel3Ideal := Cert.Kernel3Ideal.Gen.facts) :=
  fun m ρ _ => Cert.Kernel3Ideal.Gen.frame m ρ

theorem frame_reference3Ideal :
    Cert.quiescent_Reference3Ideal (hReference3Ideal := Cert.Reference3Ideal.Gen.facts) := by
  intro m ρ _
  exact (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The gradient of a gate or up weight: from equal arguments, both programs end with equal results. -/
theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨fun c => (Cert.Kernel3Ideal.Gen.dats m 0 c).arrAt 2 Cert.Kernel3Ideal.cfg0.N, Cert.Kernel3Ideal.Value.run_blocks (F := Ideal) m g, ?_⟩
  refine (θ_run Cert.Reference3Ideal.defs _ _).mono (fun r h c => ⟨?_, (h c).2⟩) (Cert.Reference3Ideal.Value.run (F := Ideal) m' g')
  refine ((h c).1).trans (Eq.trans ?_ (Cert.Kernel3Ideal.Dw.dw_final m c).symm)
  rw [(hargs c).1, (hargs c).2]
  funext i
  rw [ix_eta 2816 1024 i]
  exact Cert.Reference3Ideal.At.dw_at _ _ _ _

theorem frame_kernel5 : Cert.quiescent_Kernel5 (hKernel5 := Cert.Kernel5.Gen.facts) :=
  fun m ρ _ => Cert.Kernel5.Gen.frame m ρ

theorem frame_kernel5Ideal : Cert.quiescent_Kernel5Ideal (hKernel5Ideal := Cert.Kernel5Ideal.Gen.facts) :=
  fun m ρ _ => Cert.Kernel5Ideal.Gen.frame m ρ

theorem frame_reference5Ideal :
    Cert.quiescent_Reference5Ideal (hReference5Ideal := Cert.Reference5Ideal.Gen.facts) := by
  intro m ρ _
  exact (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- The gradient of the down weight: from equal arguments, both programs end with equal results. -/
theorem algebraic5 : Cert.algebraic_Kernel5Ideal_Reference5Ideal (hKernel5Ideal := Cert.Kernel5Ideal.Gen.facts)
    (hReference5Ideal := Cert.Reference5Ideal.Gen.facts) := by
  intro m g m' g' _ hargs
  refine ⟨fun c => (Cert.Kernel5Ideal.Gen.dats m 0 c).arrAt 2 Cert.Kernel5Ideal.cfg0.N, Cert.Kernel5Ideal.Value.run_blocks (F := Ideal) m g, ?_⟩
  refine (θ_run Cert.Reference5Ideal.defs _ _).mono (fun r h c => ⟨?_, (h c).2⟩) (Cert.Reference5Ideal.Value.run (F := Ideal) m' g')
  refine ((h c).1).trans (Eq.trans ?_ (Cert.Kernel5Ideal.Dw.dw_final m c).symm)
  rw [(hargs c).1, (hargs c).2]
  funext i
  rw [ix_eta 2816 1024 i]
  exact Cert.Reference5Ideal.At.dw_at _ _ _ _

end Cert.Proof

end
-- ==== Proof.TabB.lean ====
/- THE KERNEL'S TABLE OF BUCKETS: along the band, it has the reference's entries. -/
module
public import proofs.«01_k».proof.Proof.RefBase
public import proofs.«01_k».proof.KernelIdeal
@[expose] public section
namespace Cert.KernelIdeal.Host
open Idealize.ShloMosaic
set_option maxRecDepth 16384
set_option maxHeartbeats 4000000
theorem band_ker : ∀ (j : Fin 128) (d : Fin 129), lit1 ⟨(j.val + 128 - d.val) * 128 + j.val, by omega⟩
    = Cert.ReferenceIdeal.lit0 ⟨d.val, by show _ < 12288; omega⟩ := by
  decide +kernel
end Cert.KernelIdeal.Host
-- ==== Proof.Bias.lean ====
/- THE BIAS OF THE LAUNCH: the reference's entry where a query may see a key, minus infinity elsewhere. -/
module
public import proofs.«01_k».proof.Proof.HostC
public import proofs.«01_k».proof.Proof.RefRow
public import proofs.«01_k».proof.Proof.TabB
@[expose] public section
noncomputable section
namespace Cert.KernelIdeal.Host
open Idealize.ShloMosaic Idealize.ShloMosaic.TcCoe Idealize.SL.Sem Idealize.ShloMosaic.StableHlo
open Cert.KernelIdeal Cert.KernelIdeal.Gen
open Cert.ReferenceIdeal.At (arb bk bucket_lt select_if)
set_option maxRecDepth 16384

/-- A row of a table times the vector that is one at a word. -/
theorem one_hot (w : BitVec 32) (b : Fin 32) (hw : w.toNat = b.val) (f : Fin 32 → EReal) :
    ∑ x : Fin 32, (FloatOps.uitofp (F := Ideal) FTy.f32 (IntOp.cmpi CmpIPredicate.eq w (BitVec.ofNat 32 x.val)) : EReal) * f x = f b := by
  have hx : ∀ x : Fin 32, (FloatOps.uitofp (F := Ideal) FTy.f32 (IntOp.cmpi CmpIPredicate.eq w (BitVec.ofNat 32 x.val)) : EReal)
      = if x = b then 1 else 0 := by
    intro x
    have hb : (decide (w = BitVec.ofNat 32 x.val)) = decide (x = b) := by
      refine decide_eq_decide.2 ⟨fun h => Fin.ext ?_, fun h => BitVec.eq_of_toNat_eq ?_⟩
      · rw [← hw, h, BitVec.toNat_ofNat]
        omega
      · rw [hw, h, BitVec.toNat_ofNat]
        omega
    have hc : IntOp.cmpi CmpIPredicate.eq w (BitVec.ofNat 32 x.val) = BitVec.ofBool (decide (x = b)) := by
      rw [← hb]
      rfl
    rw [hc]
    by_cases h : x = b
    · rw [if_pos h, decide_eq_true h]
      show (((1 : ℕ) : ℝ) : EReal) = 1
      simp
    · rw [if_neg h, decide_eq_false h]
      show (((0 : ℕ) : ℝ) : EReal) = 0
      simp
  rw [Finset.sum_eq_single b]
  · rw [hx, if_pos rfl, one_mul]
  · intro x _ hb
    rw [hx, if_neg hb, zero_mul]
  · intro hb
    exact absurd (Finset.mem_univ _) hb

variable {W : Valuation τ sig (Elt Ideal)} {V0 : Valuation Cert.ReferenceIdeal.τ Cert.ReferenceIdeal.sig (Elt Ideal)} (S : Same W V0)

theorem lit1_at (g : Fin 256) (j : Fin 128) : ((after mid2 (after mid1 (after headB (after headA W))) (Proc.tc.devRef main_c_1)) : S32768x1.Idx → BitVec 32)
    (ix2 ⟨g.val * 128 + j.val, by omega⟩ 0) = lit1 ⟨g.val * 128 + j.val, by show _ < 32768; omega⟩ := by
  refine (c1_at W _).trans (congrArg lit1 (Fin.ext ?_))
  rw [Shape.rowMajor_val_two]
  show (g.val * 128 + j.val) * 1 + 0 = g.val * 128 + j.val
  omega

include S in
theorem bias_at (a : Fin 4) (h : Fin 8) (g : Fin 256) (j : Fin 128) :
    (fin W (Proc.devRef .tc main_v143) : S4x8x256x128.Idx → EReal) (ix4 a h g j)
      = if (j.val ≤ g.val ∧ g.val ≤ j.val + 128) ∧ (a.val = 0 ∨ a.val = 3 → 64 ≤ g.val) ∧ (a.val = 2 ∨ a.val = 3 → g.val < 192)
        then arb V0 (ix2 (bk (j.val + 128 - g.val)) h) else (⊥ : EReal) := by
  refine (tail_v143 _ h a g j).trans ?_
  rw [select_if]
  by_cases hc : (j.val ≤ g.val ∧ g.val ≤ j.val + 128) ∧ (a.val = 0 ∨ a.val = 3 → 64 ≤ g.val) ∧ (a.val = 2 ∨ a.val = 3 → g.val < 192)
  · rw [if_pos hc, if_pos hc, lit1_at, krb_kept, S.rb]
    refine one_hot _ (bk (j.val + 128 - g.val)) ?_ (fun x => arb V0 (ix2 x h))
    have hd : j.val + 128 - g.val < 129 := by have := hc.1; omega
    have e := band_ker j ⟨j.val + 128 - g.val, hd⟩
    have e' : lit1 ⟨g.val * 128 + j.val, by show _ < 32768; omega⟩ = Cert.ReferenceIdeal.lit0 ⟨j.val + 128 - g.val, by show _ < 12288; omega⟩ := by
      refine Eq.trans (congrArg lit1 (Fin.ext ?_)) e
      dsimp only
      have : j.val + 128 - (j.val + 128 - g.val) = g.val := by have := hc.1; omega
      rw [this]
    rw [e']
    have hl := bucket_lt ⟨j.val + 128 - g.val, hd⟩
    unfold bk
    dsimp only at hl ⊢
    simp only [Nat.mod_eq_of_lt hd]
    omega
  · rw [if_neg hc, if_neg hc]
end Cert.KernelIdeal.Host
-- ==== Proof.Window.lean ====
/- SUMS OVER A WINDOW of the positions, against sums over all of them. -/
module
public import proofs.«01_k».proof.Proof.RefBase
@[expose] public section
namespace Cert.Window

/-- The positions of a window of `N` queries that begins 64 before `a`; a summand is nothing off the window. -/
theorem sum_window (N a : ℕ) (F : Fin 2048 → EReal) (hF : ∀ γ, ¬ (a ≤ γ.val + 64 ∧ γ.val + 64 < a + N) → F γ = 0) :
    ∑ g : Fin N, (if h : 64 ≤ a + g.val ∧ a + g.val < 2112 then F ⟨a + g.val - 64, by omega⟩ else 0) = ∑ γ, F γ := by
  classical
  refine Finset.sum_bij_ne_zero (fun g _ _ => (⟨(a + g.val - 64) % 2048, Nat.mod_lt _ (by omega)⟩ : Fin 2048)) ?_ ?_ ?_ ?_
  · intros
    exact Finset.mem_univ _
  · intro g _ hg g' _ hg' e
    have h1 : 64 ≤ a + g.val ∧ a + g.val < 2112 := by
      by_contra hn
      exact hg (dif_neg hn)
    have h2 : 64 ≤ a + g'.val ∧ a + g'.val < 2112 := by
      by_contra hn
      exact hg' (dif_neg hn)
    have e' := congrArg Fin.val e
    dsimp only at e'
    apply Fin.ext
    omega
  · intro γ _ hγ
    have hw : a ≤ γ.val + 64 ∧ γ.val + 64 < a + N := by
      by_contra hn
      exact hγ (hF γ hn)
    have hlt := γ.isLt
    have hcond : 64 ≤ a + (γ.val + 64 - a) ∧ a + (γ.val + 64 - a) < 2112 := by omega
    refine ⟨⟨γ.val + 64 - a, by omega⟩, Finset.mem_univ _, ?_, ?_⟩
    · rw [dif_pos hcond]
      have : (⟨a + (γ.val + 64 - a) - 64, by omega⟩ : Fin 2048) = γ := Fin.ext (by dsimp only; omega)
      rw [this]
      exact hγ
    · apply Fin.ext
      dsimp only
      omega
  · intro g _ hg
    have h1 : 64 ≤ a + g.val ∧ a + g.val < 2112 := by
      by_contra hn
      exact hg (dif_neg hn)
    rw [dif_pos h1]
    congr 1
    apply Fin.ext
    dsimp only
    omega

/-- A window of 192 queries as three blocks of 64. -/
theorem sum_blocks (f : ℕ → EReal) :
    ∑ g : Fin 192, f g.val = ∑ i : Fin 64, f i.val + ∑ i : Fin 64, f (64 + i.val) + ∑ i : Fin 64, f (128 + i.val) := by
  have h1 := Fin.sum_univ_add (M := EReal) (a := 128) (b := 64) (fun g : Fin (128 + 64) => f g.val)
  have h2 := Fin.sum_univ_add (M := EReal) (a := 64) (b := 64) (fun g : Fin (64 + 64) => f g.val)
  refine h1.trans ?_
  refine congrArg₂ (· + ·) ?_ rfl
  exact h2

end Cert.Window
-- ==== Proof.RefSum.lean ====
/- THE REFERENCE'S SUMS: the three blocks of queries that see a key, as one sum over all queries. -/
module
public import proofs.«01_k».proof.Proof.RefRow
public import proofs.«01_k».proof.Proof.Window
@[expose] public section
noncomputable section
namespace Cert.ReferenceIdeal.At
open Idealize.ShloMosaic Idealize.ShloMosaic.TcCoe Idealize.ShloMosaic.StableHlo Idealize.SL.Sem
open Cert.ReferenceIdeal Cert.Row
set_option maxRecDepth 16384

/-- What query `γ` adds at key `κ`: the entry of its block's table where the two are near. -/
def near (T : Fin 32 → Fin 64 → Fin 192 → ℝ) (κ γ : Fin 2048) : EReal :=
  if γ.val ≤ κ.val + 64 ∧ κ.val ≤ γ.val + 64 then
    (T ⟨γ.val / 64, by omega⟩ ⟨γ.val % 64, by omega⟩ ⟨(κ.val + 64 - 64 * (γ.val / 64)) % 192, by omega⟩ : EReal) else 0

variable (T : Fin 32 → Fin 64 → Fin 192 → ℝ) (hT : ∀ n i k, ¬ sees n i k → T n i k = 0)

include hT in
theorem near_block (κ γ : Fin 2048) (n : Fin 32) (i : Fin 64) (k : Fin 192) (hγ : γ.val = 64 * n.val + i.val)
    (hk : κ.val + 64 = 64 * n.val + k.val) : near T κ γ = (T n i k : EReal) := by
  have e1 : (⟨γ.val / 64, by omega⟩ : Fin 32) = n := Fin.ext (by dsimp only; omega)
  have e2 : (⟨γ.val % 64, by omega⟩ : Fin 64) = i := Fin.ext (by dsimp only; omega)
  have e3 : (⟨(κ.val + 64 - 64 * (γ.val / 64)) % 192, by omega⟩ : Fin 192) = k := Fin.ext (by dsimp only; omega)
  unfold near
  rw [e1, e2, e3]
  by_cases hn : γ.val ≤ κ.val + 64 ∧ κ.val ≤ γ.val + 64
  · rw [if_pos hn]
  · rw [if_neg hn, hT n i k (fun hs => hn (by have := hs.1; have := hs.2.1; omega)), EReal.coe_zero]

/-- A sum over a window is the sum over all queries. -/
theorem near_window (κ : Fin 2048) (N a : ℕ) (h0 : a ≤ κ.val) (h1 : κ.val + 128 < a + N) :
    ∑ g : Fin N, (if h : 64 ≤ a + g.val ∧ a + g.val < 2112 then near T κ ⟨a + g.val - 64, by omega⟩ else 0) = ∑ γ, near T κ γ :=
  Cert.Window.sum_window N a (near T κ) fun γ hγ => if_neg fun hn => hγ (by omega)

include hT in
theorem three (D : Fin 32 → Fin 192 → EReal) (hD : ∀ n k, D n k = ∑ i, (T n i k : EReal)) (κ : Fin 2048) :
    (((if h_1 : 2 ≤ κ.val / 64 + 1 ∧ κ.val / 64 + 1 - 2 < 32 then D ⟨κ.val / 64 + 1 - 2, by omega⟩ ⟨128 + κ.val % 64, by omega⟩ else 0) +
        if h_1 : 1 ≤ κ.val / 64 + 1 ∧ κ.val / 64 + 1 - 1 < 32 then D ⟨κ.val / 64 + 1 - 1, by omega⟩ ⟨64 + κ.val % 64, by omega⟩ else 0) +
      if h_1 : κ.val / 64 + 1 < 32 then D ⟨κ.val / 64 + 1, by omega⟩ ⟨κ.val % 64, by omega⟩ else 0) = ∑ γ, near T κ γ := by
  rw [← near_window T κ 192 (64 * (κ.val / 64)) (by omega) (by omega)]
  rw [Cert.Window.sum_blocks (fun g => if h : 64 ≤ 64 * (κ.val / 64) + g ∧ 64 * (κ.val / 64) + g < 2112 then
    near T κ ⟨64 * (κ.val / 64) + g - 64, by omega⟩ else 0)]
  refine congrArg₂ (· + ·) (congrArg₂ (· + ·) ?_ ?_) ?_
  · by_cases hb : 2 ≤ κ.val / 64 + 1 ∧ κ.val / 64 + 1 - 2 < 32
    · rw [dif_pos hb, hD]
      refine Finset.sum_congr rfl fun i _ => ?_
      rw [dif_pos (by omega)]
      exact (near_block T hT _ _ _ _ _ (by dsimp only; omega) (by dsimp only; omega)).symm
    · rw [dif_neg hb]
      exact (Finset.sum_eq_zero fun i _ => dif_neg (by omega)).symm
  · by_cases hb : 1 ≤ κ.val / 64 + 1 ∧ κ.val / 64 + 1 - 1 < 32
    · rw [dif_pos hb, hD]
      refine Finset.sum_congr rfl fun i _ => ?_
      rw [dif_pos (by omega)]
      exact (near_block T hT _ _ _ _ _ (by dsimp only; omega) (by dsimp only; omega)).symm
    · rw [dif_neg hb]
      exact (Finset.sum_eq_zero fun i _ => dif_neg (by omega)).symm
  · by_cases hb : κ.val / 64 + 1 < 32
    · rw [dif_pos hb, hD]
      refine Finset.sum_congr rfl fun i _ => ?_
      rw [dif_pos (by omega)]
      exact (near_block T hT _ _ _ _ _ (by dsimp only; omega) (by dsimp only; omega)).symm
    · rw [dif_neg hb]
      exact (Finset.sum_eq_zero fun i _ => dif_neg (by omega)).symm

variable {V0 : Valuation τ sig (Elt Ideal)} (X : Reals V0)
variable (r : Fin 4) (h : Fin 8) (e : Fin 64)

/-- The weights times the cotangents. -/
def tV (n : Fin 32) (i : Fin 64) (k : Fin 192) : ℝ := ww X r h n i k * oo X r h n i e
/-- The gradients of the logits times the queries. -/
def tK (n : Fin 32) (i : Fin 64) (k : Fin 192) : ℝ := gg X r h n i k * X.q (pos r h (qpos n i) e)

/-- The gradient of the values at a key. -/
theorem cDV_eq (κ : Fin 2048) : cDV V0 r h e ⟨κ.val / 64 + 1, by omega⟩ ⟨κ.val % 64, by omega⟩ = ∑ γ, near (tV X r h e) κ γ := by
  rw [v151_at]
  exact three (tV X r h e) (fun n i k hk => by unfold tV; rw [ww_off X r h n i k hk, zero_mul]) (fun n k => bDV V0 r h n k e)
    (fun n k => bDV_eq X r h n k e) κ
/-- The gradient of the keys at a key. -/
theorem cDK_eq (κ : Fin 2048) : cDK V0 r h e ⟨κ.val / 64 + 1, by omega⟩ ⟨κ.val % 64, by omega⟩ = ∑ γ, near (tK X r h e) κ γ := by
  rw [v166_at]
  exact three (tK X r h e) (fun n i k hk => by unfold tK; rw [gg_off X r h n i k hk, zero_mul]) (fun n k => bDK V0 r h n k e)
    (fun n k => bDK_eq X r h n k e) κ
end Cert.ReferenceIdeal.At
-- ==== Proof.KerSum.lean ====
/- THE KERNEL'S SUMS: a tile's window of queries, as one sum over all queries. -/
module
public import proofs.«01_k».proof.Proof.Bias
public import proofs.«01_k».proof.Proof.RefSum
public import proofs.«01_k».proof.Proof.Final
@[expose] public section
noncomputable section
namespace Cert.KernelIdeal.Host
open Idealize.ShloMosaic Idealize.ShloMosaic.TcCoe Idealize.SL.Sem Idealize.ShloMosaic.StableHlo
open Cert.KernelIdeal Cert.KernelIdeal.Gen Cert.KernelIdeal.Tile Cert.Row
open Cert.ReferenceIdeal.At (Reals pos qpos sees band lg oo cc mx pp dd vv ww gg bk near tV tK near_window)
set_option maxRecDepth 16384

theorem variant_iff (t : Fin 2) (u : Fin 8) (g : Fin 256) (j : Fin 128) :
    ((j.val ≤ g.val ∧ g.val ≤ j.val + 128) ∧ ((variant t u).val = 0 ∨ (variant t u).val = 3 → 64 ≤ g.val)
        ∧ ((variant t u).val = 2 ∨ (variant t u).val = 3 → g.val < 192))
      ↔ (64 ≤ 1024 * t.val + 128 * u.val + g.val ∧ 1024 * t.val + 128 * u.val + g.val < 2112) ∧ j.val ≤ g.val ∧ g.val ≤ j.val + 128 := by
  unfold variant
  split_ifs <;> dsimp only [Fin.val_zero, Fin.val_one, Fin.val_two] <;> omega

theorem row_in (t : Fin 2) (u : Fin 8) (g : Fin 256)
    (hin : 64 ≤ 1024 * t.val + 128 * u.val + g.val ∧ 1024 * t.val + 128 * u.val + g.val < 2112) :
    qrow t u g = ⟨1024 * t.val + 128 * u.val + g.val - 64, by omega⟩ := by
  unfold qrow rowOf
  by_cases h1 : 128 * u.val + g.val < 64
  · refine (dif_pos h1).trans (Fin.ext ?_)
    dsimp only
    omega
  · refine (dif_neg h1).trans ?_
    by_cases h2 : 128 * u.val + g.val < 1088
    · refine (dif_pos h2).trans (Fin.ext ?_)
      dsimp only
      omega
    · refine (dif_neg h2).trans (Fin.ext ?_)
      dsimp only
      omega

variable {W : Valuation τ sig (Elt Ideal)} {V0 : Valuation Cert.ReferenceIdeal.τ Cert.ReferenceIdeal.sig (Elt Ideal)}
variable (S : Same W V0) (X : Reals V0)
abbrev fK (W : Valuation τ sig (Elt Ideal)) : S2048x2048.Idx → EReal := fin W (Proc.devRef .tc main_v144)
abbrev fV (W : Valuation τ sig (Elt Ideal)) : S2048x2048.Idx → EReal := fin W (Proc.devRef .tc main_v145)
abbrev fQ (W : Valuation τ sig (Elt Ideal)) : S2048x2048.Idx → EReal := fin W (Proc.devRef .tc main_v146)
abbrev fD (W : Valuation τ sig (Elt Ideal)) : S2048x2048.Idx → EReal := fin W (Proc.devRef .tc main_v147)
abbrev fL (W : Valuation τ sig (Elt Ideal)) : S2048x2048.Idx → EReal := fin W (Proc.devRef .tc main_v148)
abbrev fC (W : Valuation τ sig (Elt Ideal)) : S2048x2048.Idx → EReal := fin W (Proc.devRef .tc main_v149)
abbrev fB (W : Valuation τ sig (Elt Ideal)) : S4x8x256x128.Idx → EReal := fin W (Proc.devRef .tc main_v143)

variable (r : Fin 4) (t : Fin 2) (u h : Fin 8) (j : Fin 128) (e : Fin 64) (g : Fin 256)

/-- A query as its block and its place there. -/
abbrev qb (γ : Fin 2048) : Fin 32 := ⟨γ.val / 64, by omega⟩
abbrev qi (γ : Fin 2048) : Fin 64 := ⟨γ.val % 64, by omega⟩
/-- A key's place in a query's band. -/
abbrev kb (κ γ : Fin 2048) : Fin 192 := ⟨(κ.val + 64 - 64 * (γ.val / 64)) % 192, by omega⟩
theorem qpos_eq (γ : Fin 2048) : qpos (qb γ) (qi γ) = γ := Fin.ext (by dsimp only; omega)

include S in
theorem fK_at (κ : Fin 2048) : fK W (ix2 κ (col r h e)) = (X.k (pos r h κ e) : EReal) := (k_at r h e S κ).trans (X.hk _)
include S in
theorem fV_at (κ : Fin 2048) : fV W (ix2 κ (col r h e)) = (X.v (pos r h κ e) : EReal) := (v_at r h e S κ).trans (X.hv _)
include S in
theorem fQ_at (γ : Fin 2048) : fQ W (ix2 γ (col r h e)) = (X.q (pos r h γ e) : EReal) := (q_at r h e S γ).trans (X.hq _)
include S in
theorem fD_at (γ : Fin 2048) : fD W (ix2 γ (col r h e)) = (X.o (pos r h γ e) : EReal) := (do_at r h e S γ).trans (X.ho _)
include S X in
theorem fL_at (γ : Fin 2048) : fL W (ix2 γ (col r h e))
    = ((mx (V0 := V0) r h (qb γ) (qi γ) : ℝ) : EReal) + Ideal.log (dd X r h (qb γ) (qi γ) : EReal) := by
  have e0 := lse_at r h (qb γ) (qi γ) e S
  rw [(Cert.ReferenceIdeal.At.max_eq X r h (qb γ) (qi γ)).2, Cert.ReferenceIdeal.At.bDen_eq X] at e0
  refine Eq.trans ?_ e0
  refine congrArg (fun x => fL W (ix2 x (col r h e))) (qpos_eq γ).symm
include S in
theorem fC_at (γ : Fin 2048) : fC W (ix2 γ (col r h e))
    = (cq (sees (qb γ) (qi γ)) (lg X r h (qb γ) (qi γ)) (mx (V0 := V0) r h (qb γ) (qi γ)) (band r h (qb γ) X.v) (oo X r h (qb γ) (qi γ)) (cc X r h (qb γ) (qi γ)) : EReal) := by
  have e0 := cp_at r h (qb γ) (qi γ) e S
  simp only [Cert.ReferenceIdeal.At.bDl_eq X, Cert.ReferenceIdeal.At.bDo_eq X, Cert.ReferenceIdeal.At.bPV_eq X, Cert.ReferenceIdeal.At.bDen_eq X] at e0
  rw [ker_cq _ _ _ _ _ _ (Cert.ReferenceIdeal.At.dd_pos X r h (qb γ) (qi γ)).ne'] at e0
  refine Eq.trans ?_ e0
  refine congrArg (fun x => fC W (ix2 x (col r h e))) (qpos_eq γ).symm

theorem sees_near (κ γ : Fin 2048) (hn : γ.val ≤ κ.val + 64 ∧ κ.val ≤ γ.val + 64) : sees (qb γ) (qi γ) (kb κ γ) := by
  dsimp only [sees]
  omega
theorem band_near (κ γ : Fin 2048) (hn : γ.val ≤ κ.val + 64 ∧ κ.val ≤ γ.val + 64) (f : Cert.ReferenceIdeal.S8192x512.Idx → ℝ) (x : Fin 64) :
    band r h (qb γ) f (kb κ γ) x = f (pos r h κ x) := by
  have hb : 64 ≤ 64 * (qb γ).val + (kb κ γ).val ∧ 64 * (qb γ).val + (kb κ γ).val < 2112 := (sees_near κ γ hn).2.2
  unfold band
  rw [dif_pos hb]
  refine congrArg (fun p => f (pos r h p x)) (Fin.ext ?_)
  dsimp only
  omega

/-- Off the window or off the band a query adds nothing. -/
theorem exp_bot (a b : EReal) : Ideal.exp (a + ⊥ - b) = 0 := by
  rw [EReal.add_bot, sub_eq_add_neg, EReal.bot_add]
  rfl

include S X in
theorem pSum_eq : pSum (fK W) (fQ W) (fL W) (fB W) r t u h g j =
    if hin : 64 ≤ 1024 * t.val + 128 * u.val + g.val ∧ 1024 * t.val + 128 * u.val + g.val < 2112 then
      (if j.val ≤ g.val ∧ g.val ≤ j.val + 128 then
        (ww X r h (qb ⟨1024 * t.val + 128 * u.val + g.val - 64, by omega⟩) (qi ⟨1024 * t.val + 128 * u.val + g.val - 64, by omega⟩)
          (kb (krow t u j) ⟨1024 * t.val + 128 * u.val + g.val - 64, by omega⟩) : EReal) else 0) else 0 := by
  unfold pSum
  rw [show fB W (ix4 (variant t u) h g j) = _ from bias_at S (variant t u) h g j]
  by_cases hin : 64 ≤ 1024 * t.val + 128 * u.val + g.val ∧ 1024 * t.val + 128 * u.val + g.val < 2112
  · rw [dif_pos hin, row_in t u g hin]
    by_cases hj : j.val ≤ g.val ∧ g.val ≤ j.val + 128
    · rw [if_pos ((variant_iff t u g j).2 ⟨hin, hj⟩), if_pos hj, fL_at S X]
      generalize hγ : (⟨1024 * t.val + 128 * u.val + g.val - 64, _⟩ : Fin 2048) = γ
      have hγ' : γ.val = 1024 * t.val + 128 * u.val + g.val - 64 := by rw [← hγ]
      have hn : γ.val ≤ (krow t u j).val + 64 ∧ (krow t u j).val ≤ γ.val + 64 := by
        dsimp only [krow]
        omega
      rw [← ker_nw (sees (qb γ) (qi γ)) (lg X r h (qb γ) (qi γ)) _ (Cert.ReferenceIdeal.At.dd_pos X r h (qb γ) (qi γ)) _ (sees_near _ γ hn)]
      refine congrArg (fun x => Ideal.exp (x - _)) ?_
      unfold lg
      rw [EReal.coe_add, ← coe_sum]
      refine congrArg₂ (· + ·) (Finset.sum_congr rfl fun x _ => ?_) ?_
      · rw [fQ_at S X, fK_at S X, band_near r h _ γ hn, qpos_eq, EReal.coe_mul]
      · rw [X.hrb]
        have : (kb (krow t u j) γ).val - (qi γ).val = j.val + 128 - g.val := by
          dsimp only [krow]
          omega
        rw [this]
    · rw [if_neg (fun hc => hj ((variant_iff t u g j).1 hc).2), if_neg hj]
      exact exp_bot _ _
  · rw [dif_neg hin, if_neg (fun hc => hin ((variant_iff t u g j).1 hc).1)]
    exact exp_bot _ _

include S in
/-- The kernel's gradient of the values at a key. -/
theorem dvSum_eq : dvSum (fK W) (fQ W) (fD W) (fL W) (fB W) r t u j h e = ∑ γ, near (tV X r h e) (krow t u j) γ := by
  rw [← near_window _ _ 256 (1024 * t.val + 128 * u.val) (by dsimp only [krow]; omega) (by dsimp only [krow]; omega)]
  unfold dvSum
  refine Finset.sum_congr rfl fun g _ => ?_
  rw [pSum_eq S X]
  by_cases hin : 64 ≤ 1024 * t.val + 128 * u.val + g.val ∧ 1024 * t.val + 128 * u.val + g.val < 2112
  · rw [dif_pos hin, dif_pos hin, row_in t u g hin]
    unfold near
    by_cases hj : j.val ≤ g.val ∧ g.val ≤ j.val + 128
    · rw [if_pos hj, if_pos (by dsimp only [krow]; omega), fD_at S X, ← EReal.coe_mul]
      unfold tV oo
      rw [qpos_eq]
    · rw [if_neg hj, if_neg (by dsimp only [krow]; omega), zero_mul]
  · rw [dif_neg hin, dif_neg hin, zero_mul]

include S in
/-- The kernel's gradient of the keys at a key. -/
theorem dkSum_eq : dkSum (fK W) (fV W) (fQ W) (fD W) (fL W) (fC W) (fB W) r t u j h e = ∑ γ, near (tK X r h e) (krow t u j) γ := by
  rw [← near_window _ _ 256 (1024 * t.val + 128 * u.val) (by dsimp only [krow]; omega) (by dsimp only [krow]; omega)]
  unfold dkSum
  refine Finset.sum_congr rfl fun g _ => ?_
  rw [pSum_eq S X]
  by_cases hin : 64 ≤ 1024 * t.val + 128 * u.val + g.val ∧ 1024 * t.val + 128 * u.val + g.val < 2112
  · rw [dif_pos hin, dif_pos hin, row_in t u g hin]
    unfold near
    by_cases hj : j.val ≤ g.val ∧ g.val ≤ j.val + 128
    · rw [if_pos hj, if_pos (by dsimp only [krow]; omega), fQ_at S X, fC_at S X]
      generalize hγ : (⟨1024 * t.val + 128 * u.val + g.val - 64, _⟩ : Fin 2048) = γ
      have hγ' : γ.val = 1024 * t.val + 128 * u.val + g.val - 64 := by rw [← hγ]
      have hn : γ.val ≤ (krow t u j).val + 64 ∧ (krow t u j).val ≤ γ.val + 64 := by
        dsimp only [krow]
        omega
      simp only [fD_at S X, fV_at S X, ← EReal.coe_mul]
      rw [coe_sum, ← EReal.coe_add, ← EReal.coe_mul, ← EReal.coe_mul]
      have hs : ∑ x, X.o (pos r h γ x) * X.v (pos r h (krow t u j) x)
          = ∑ x, oo X r h (qb γ) (qi γ) x * band r h (qb γ) X.v (kb (krow t u j) γ) x := by
        refine Finset.sum_congr rfl fun x _ => ?_
        rw [band_near r h _ γ hn]
        unfold oo
        rw [qpos_eq]
      rw [hs]
      unfold tK gg gr
      rw [qpos_eq]
    · rw [if_neg hj, if_neg (by dsimp only [krow]; omega), zero_mul, zero_mul]
  · rw [dif_neg hin, dif_neg hin, zero_mul, zero_mul]
end Cert.KernelIdeal.Host
-- ==== Proof.RefResult.lean ====
/- THE REFERENCE'S RESULTS at an index. -/
module
public import proofs.«01_k».proof.Proof.RefRead
@[expose] public section
noncomputable section
namespace Cert.ReferenceIdeal.At
open Idealize.ShloMosaic Idealize.ShloMosaic.TcCoe Idealize.ShloMosaic.StableHlo Idealize.SL.Sem
open Cert.ReferenceIdeal Cert.ReferenceIdeal.Gen Cert.ReferenceIdeal.Value
set_option maxRecDepth 16384
variable (V0 : Valuation τ sig (Elt Ideal)) (r : Fin 4) (h : Fin 8) (e : Fin 64)
abbrev resK : S2048x2048.Idx → EReal := val4 V0 (Proc.devRef .tc main_v175)
abbrev resV : S2048x2048.Idx → EReal := val4 V0 (Proc.devRef .tc main_v177)
theorem cDK_congr {b b' : Fin 34} (j : Fin 64) (hb : b.val = b'.val) : cDK V0 r h e b j = cDK V0 r h e b' j := by
  rw [Fin.ext hb]
theorem cDV_congr {b b' : Fin 34} (j : Fin 64) (hb : b.val = b'.val) : cDV V0 r h e b j = cDV V0 r h e b' j := by
  rw [Fin.ext hb]
theorem resK_at (L : Fin 2048) : resK V0 (ix2 L ⟨512 * r.val + (64 * h.val + e.val), by omega⟩) = cDK V0 r h e ⟨L.val / 64 + 1, by omega⟩ ⟨L.val % 64, by omega⟩ := by
  refine Eq.trans ?_ (cDK_congr V0 r h e (b := ⟨1 + L.val / 64, by omega⟩) _ (by dsimp only; omega))
  unfold resK
  rw [val4_main_v175]
  pointwise [cDK]
theorem resV_at (L : Fin 2048) : resV V0 (ix2 L ⟨512 * r.val + (64 * h.val + e.val), by omega⟩) = cDV V0 r h e ⟨L.val / 64 + 1, by omega⟩ ⟨L.val % 64, by omega⟩ := by
  refine Eq.trans ?_ (cDV_congr V0 r h e (b := ⟨1 + L.val / 64, by omega⟩) _ (by dsimp only; omega))
  unfold resV
  rw [val4_main_v177]
  pointwise [cDV]
end Cert.ReferenceIdeal.At
-- ==== Proof.Equal.lean ====
/- THE EQUATION: from equal finite arguments, what the kernel's launch leaves is what the reference computes. -/
module
public import proofs.«01_k».proof.Proof.KerSum
public import proofs.«01_k».proof.Proof.RefResult
@[expose] public section
noncomputable section
namespace Cert.KernelIdeal.Host
open Idealize.ShloMosaic Idealize.ShloMosaic.TcCoe Idealize.SL.Sem Idealize.ShloMosaic.StableHlo
open Cert.KernelIdeal Cert.KernelIdeal.Gen Cert.KernelIdeal.Tile
open Cert.ReferenceIdeal.At (Reals resK resV resK_at resV_at cDK_eq cDV_eq near tV tK)
set_option maxRecDepth 16384

variable (m : (ℓ : Loc nD τ sig) → Buf (Elt Ideal) ℓ) (c : Dev nD)
variable {V0 : Valuation Cert.ReferenceIdeal.τ Cert.ReferenceIdeal.sig (Elt Ideal)}
/-- The device's buffers before the kernel. -/
abbrev start : Valuation τ sig (Elt Ideal) := fun b => m (c, b)
variable (S : Same (start m c) V0) (X : Reals V0)

/-- An index of a result by its residue, head and lane. -/
theorem idx_split (i : S2048x2048.Idx) : ix2 (n0 := 2048) (n1 := 2048) (i 0) (col (resI i) (headI i) (laneI i)) = i := by
  have h1 : (i 1).val < 2048 := (i 1).isLt
  funext a
  apply Fin.ext
  fin_cases a
  · rfl
  · show 512 * ((i 1).val / 512) + (64 * ((i 1).val % 512 / 64) + (i 1).val % 64) = (i 1).val
    omega
theorem krow_split (i : S2048x2048.Idx) : krow (blockI i) (tileI i) (keyI i) = (i 0 : Fin 2048) := by
  have h0 : (i 0).val < 2048 := (i 0).isLt
  apply Fin.ext
  show 1024 * ((i 0).val / 1024) + (128 * ((i 0).val % 1024 / 128) + (i 0).val % 128) = (i 0).val
  omega

abbrev outK : S2048x2048.Idx → EReal := (dats m 0 c).arrAt 22 cfg0.N
abbrev outV : S2048x2048.Idx → EReal := (dats m 0 c).arrAt 23 cfg0.N

theorem outK_eq : outK m c = fun i => dkSum (fK (start m c)) (fV (start m c)) (fQ (start m c)) (fD (start m c)) (fL (start m c))
    (fC (start m c)) (fB (start m c)) (resI i) (blockI i) (tileI i) (keyI i) (headI i) (laneI i) := by
  refine (dk_final m c).trans ?_
  rw [V_eq m c main_v144, V_eq m c main_v145, V_eq m c main_v146, V_eq m c main_v147, V_eq m c main_v148, V_eq m c main_v149, V_eq m c main_v143]
theorem outV_eq : outV m c = fun i => dvSum (fK (start m c)) (fQ (start m c)) (fD (start m c)) (fL (start m c))
    (fB (start m c)) (resI i) (blockI i) (tileI i) (keyI i) (headI i) (laneI i) := by
  refine (dv_final m c).trans ?_
  rw [V_eq m c main_v144, V_eq m c main_v146, V_eq m c main_v147, V_eq m c main_v148, V_eq m c main_v143]

include S X in
/-- The gradients of the keys are equal. -/
theorem dk_equal : outK m c = resK V0 := by
  rw [outK_eq]
  funext i
  rw [dkSum_eq S X, krow_split]
  refine Eq.trans ?_ (congrArg (resK V0) (idx_split i))
  exact (cDK_eq X (resI i) (headI i) (laneI i) (i 0)).symm.trans (resK_at V0 (resI i) (headI i) (laneI i) (i 0)).symm
include S X in
/-- The gradients of the values are equal. -/
theorem dv_equal : outV m c = resV V0 := by
  rw [outV_eq]
  funext i
  rw [dvSum_eq S X, krow_split]
  refine Eq.trans ?_ (congrArg (resV V0) (idx_split i))
  exact (cDV_eq X (resI i) (headI i) (laneI i) (i 0)).symm.trans (resV_at V0 (resI i) (headI i) (laneI i) (i 0)).symm
end Cert.KernelIdeal.Host
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Frames
public import proofs.«01_k».proof.Proof.Finite
public import proofs.«01_k».proof.Proof.Gen.Kernel8Ideal.Value
public import proofs.«01_k».proof.Proof.Gen.Reference8Ideal.Run
public import proofs.«01_k».proof.Proof.Gen.Kernel8.Frame
public import proofs.«01_k».proof.Proof.Gen.Kernel9Ideal.Value
public import proofs.«01_k».proof.Proof.Gen.Reference9Ideal.Run
public import proofs.«01_k».proof.Proof.Gen.Kernel9.Frame
public import proofs.«01_k».proof.Proof.Gen.Kernel10Ideal.Value
public import proofs.«01_k».proof.Proof.Gen.Reference10Ideal.Run
public import proofs.«01_k».proof.Proof.Gen.Kernel10.Frame
public import proofs.«01_k».proof.Proof.Gen.Kernel11Ideal.Value
public import proofs.«01_k».proof.Proof.Gen.Reference11Ideal.Run
public import proofs.«01_k».proof.Proof.Gen.Kernel11.Frame
public import proofs.«01_k».proof.Proof.Gen.Kernel6Ideal.Value
public import proofs.«01_k».proof.Proof.Gen.Reference6Ideal.Run
public import proofs.«01_k».proof.Proof.Gen.Kernel6.Frame
public import proofs.«01_k».proof.Proof.Gen.Kernel7Ideal.Value
public import proofs.«01_k».proof.Proof.Gen.Reference7Ideal.Run
public import proofs.«01_k».proof.Proof.Gen.Kernel7.Frame
public import proofs.«01_k».proof.Proof.Gen.Kernel12Ideal.Value
public import proofs.«01_k».proof.Proof.Gen.Reference12Ideal.Run
public import proofs.«01_k».proof.Proof.Gen.Kernel12.Frame
public import proofs.«01_k».proof.Proof.Gen.Kernel13Ideal.Value
public import proofs.«01_k».proof.Proof.Gen.Reference13Ideal.Run
public import proofs.«01_k».proof.Proof.Gen.Kernel13.Frame
public import proofs.«01_k».proof.Proof.Gen.Kernel14Ideal.Value
public import proofs.«01_k».proof.Proof.Gen.Reference14Ideal.Run
public import proofs.«01_k».proof.Proof.Gen.Kernel14.Frame
public import proofs.«01_k».proof.Proof.ProjEqual
public import proofs.«01_k».proof.Proof.FwdEqual
public import proofs.«01_k».proof.Proof.DnEqual
public import proofs.«01_k».proof.Proof.LossEqual
public import proofs.«01_k».proof.Proof.UpEqual
public import proofs.«01_k».proof.Proof.DactEqual
public import proofs.«01_k».proof.Proof.DwEqual
public import proofs.«01_k».proof.Proof.Equal
public import Idealize.ShloMosaic.Adequacy
public import Idealize.ShloMosaic.Init

@[expose] public section

noncomputable section

namespace Cert.Proof

open Idealize.ShloMosaic Idealize.SL.Sem Idealize.ShloMosaic.StableHlo

/-- From finite arguments equal on every device, both programs run and end with equal results. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hargs
  haveI : Cert.Pre_finite.Facts := Cert.Finite.facts
  have S : ∀ c, Cert.KernelIdeal.Host.Same (Cert.KernelIdeal.Host.start m c) (launchContents m' c) := fun c =>
    ⟨(hargs c).1.symm, (hargs c).2.1.symm, (hargs c).2.2.1.symm, (hargs c).2.2.2.1.symm, (hargs c).2.2.2.2.1.symm, (hargs c).2.2.2.2.2.symm⟩
  have X : ∀ c, Cert.ReferenceIdeal.At.Reals (launchContents m' c) := fun c =>
    { q := _, k := _, v := _, o := _, dl := _, rb := _
      hq := fun j => (congrFun (hargs c).1 j).trans (Cert.Finite.real0 _ _ _ _ _ _ (hpre c).1 j)
      hk := fun j => (congrFun (hargs c).2.1 j).trans (Cert.Finite.real1 _ _ _ _ _ _ (hpre c).2.1 j)
      hv := fun j => (congrFun (hargs c).2.2.1 j).trans (Cert.Finite.real2 _ _ _ _ _ _ (hpre c).2.2.1 j)
      ho := fun j => (congrFun (hargs c).2.2.2.1 j).trans (Cert.Finite.real3 _ _ _ _ _ _ (hpre c).2.2.2.1 j)
      hdl := fun j => (congrFun (hargs c).2.2.2.2.1 j).trans (Cert.Finite.real4 _ _ _ _ _ _ (hpre c).2.2.2.2.1 j)
      hrb := fun j => (congrFun (hargs c).2.2.2.2.2 j).trans (Cert.Finite.real5 _ _ _ _ _ _ (hpre c).2.2.2.2.2 j) }
  refine ⟨fun c => Cert.KernelIdeal.Host.outK m c, fun c => Cert.KernelIdeal.Host.outV m c, Cert.KernelIdeal.Value.run_blocks (F := Ideal) m g, ?_⟩
  refine (θ_run Cert.ReferenceIdeal.defs _ _).mono (fun r h c => ⟨?_, ?_, (h c).2.2⟩) (Cert.ReferenceIdeal.Value.run (F := Ideal) m' g')
  · exact ((h c).1.trans (Cert.ReferenceIdeal.Value.val4_main_v175 (launchContents m' c)).symm).trans (Cert.KernelIdeal.Host.dk_equal m c (S c) (X c)).symm
  · exact ((h c).2.1.trans (Cert.ReferenceIdeal.Value.val4_main_v177 (launchContents m' c)).symm).trans (Cert.KernelIdeal.Host.dv_equal m c (S c) (X c)).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts,
  Cert.Kernel3Ideal.Gen.facts, Cert.Reference3Ideal.Gen.facts, Cert.Kernel4.Gen.facts,
  Cert.Kernel4Ideal.Gen.facts, Cert.Reference4Ideal.Gen.facts, Cert.Kernel5.Gen.facts,
  Cert.Kernel5Ideal.Gen.facts, Cert.Reference5Ideal.Gen.facts, Cert.Kernel6.Gen.facts,
  Cert.Kernel6Ideal.Gen.facts, Cert.Reference6Ideal.Gen.facts, Cert.Kernel7.Gen.facts,
  Cert.Kernel7Ideal.Gen.facts, Cert.Reference7Ideal.Gen.facts, Cert.Kernel8.Gen.facts,
  Cert.Kernel8Ideal.Gen.facts, Cert.Reference8Ideal.Gen.facts, Cert.Kernel9.Gen.facts,
  Cert.Kernel9Ideal.Gen.facts, Cert.Reference9Ideal.Gen.facts, Cert.Kernel10.Gen.facts,
  Cert.Kernel10Ideal.Gen.facts, Cert.Reference10Ideal.Gen.facts, Cert.Kernel11.Gen.facts,
  Cert.Kernel11Ideal.Gen.facts, Cert.Reference11Ideal.Gen.facts, Cert.Kernel12.Gen.facts,
  Cert.Kernel12Ideal.Gen.facts, Cert.Reference12Ideal.Gen.facts, Cert.Kernel13.Gen.facts,
  Cert.Kernel13Ideal.Gen.facts, Cert.Reference13Ideal.Gen.facts, Cert.Kernel14.Gen.facts,
  Cert.Kernel14Ideal.Gen.facts, Cert.Reference14Ideal.Gen.facts, Cert.Finite.facts, Cert.Finite2.facts,
  frame_kernel, frame_kernelIdeal, fun m ρ _ => frame_kernelIdeal m ρ trivial, frame_referenceIdeal, fun m ρ _ =>
  frame_referenceIdeal m ρ trivial, frame_kernel2, frame_kernel2Ideal, fun m ρ _ => frame_kernel2Ideal m ρ
  trivial, frame_reference2Ideal, fun m ρ _ => frame_reference2Ideal m ρ trivial, frame_kernel3,
  frame_kernel3Ideal, frame_reference3Ideal, frame_kernel4, frame_kernel4Ideal, frame_reference4Ideal,
  frame_kernel5, frame_kernel5Ideal, frame_reference5Ideal, frame_kernel6, frame_kernel6Ideal,
  frame_reference6Ideal, frame_kernel7, frame_kernel7Ideal, frame_reference7Ideal, frame_kernel8,
  frame_kernel8Ideal, frame_reference8Ideal, frame_kernel9, frame_kernel9Ideal, frame_reference9Ideal,
  frame_kernel10, frame_kernel10Ideal, frame_reference10Ideal, frame_kernel11, frame_kernel11Ideal,
  frame_reference11Ideal, frame_kernel12, frame_kernel12Ideal, frame_reference12Ideal, frame_kernel13,
  frame_kernel13Ideal, frame_reference13Ideal, frame_kernel14, frame_kernel14Ideal, frame_reference14Ideal,
  trivial, algebraic, trivial, algebraic2, trivial, algebraic3, trivial, algebraic4, trivial, algebraic5, trivial,
  algebraic6, trivial, algebraic7, trivial, algebraic8, trivial, algebraic9, trivial, algebraic10, trivial,
  algebraic11, trivial, algebraic12, trivial, algebraic13, trivial, algebraic14⟩

end Cert.Proof

end
